-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_two_experts [hPre_two_experts : Cert.Pre_two_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_two_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_two_experts [hPre_two_experts : Cert.Pre_two_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_two_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_two_experts [hKernel2Ideal : Cert.Kernel2Ideal.Facts] [hPre_two_experts : Cert.Pre_two_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_two_experts m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_two_experts [hReference2Ideal : Cert.Reference2Ideal.Facts] [hPre_two_experts : Cert.Pre_two_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_two_experts m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_two_experts [hKernel2Ideal : Cert.Kernel2Ideal.Facts] [hReference2Ideal : Cert.Reference2Ideal.Facts] [hPre_two_experts : Cert.Pre_two_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_two_experts m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v124)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v124) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v81_0)) (v1 : (c : Dev Cert.Kernel3Ideal.nD) → Buf (Elt Ideal) ((c.tc : Thread Cert.Kernel3Ideal.nD Cert.Kernel3Ideal.τ).loc Cert.Kernel3Ideal.main_v81_1)) (v2 : (c : Dev Cert.Kernel3Ideal.nD) → Buf (Elt Ideal) ((c.tc : Thread Cert.Kernel3Ideal.nD Cert.Kernel3Ideal.τ).loc Cert.Kernel3Ideal.main_v81_2)) (v3 : (c : Dev Cert.Kernel3Ideal.nD) → Buf (Elt Ideal) ((c.tc : Thread Cert.Kernel3Ideal.nD Cert.Kernel3Ideal.τ).loc Cert.Kernel3Ideal.main_v81_3)) (v4 : (c : Dev Cert.Kernel3Ideal.nD) → Buf (Elt Ideal) ((c.tc : Thread Cert.Kernel3Ideal.nD Cert.Kernel3Ideal.τ).loc Cert.Kernel3Ideal.main_v81_4)) (v5 : (c : Dev Cert.Kernel3Ideal.nD) → Buf (Elt Ideal) ((c.tc : Thread Cert.Kernel3Ideal.nD Cert.Kernel3Ideal.τ).loc Cert.Kernel3Ideal.main_v81_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v81_0) = v0 c
          ∧ r.2.mem ((c.tc : Thread Cert.Kernel3Ideal.nD Cert.Kernel3Ideal.τ).loc Cert.Kernel3Ideal.main_v81_1) = v1 c
          ∧ r.2.mem ((c.tc : Thread Cert.Kernel3Ideal.nD Cert.Kernel3Ideal.τ).loc Cert.Kernel3Ideal.main_v81_2) = v2 c
          ∧ r.2.mem ((c.tc : Thread Cert.Kernel3Ideal.nD Cert.Kernel3Ideal.τ).loc Cert.Kernel3Ideal.main_v81_3) = v3 c
          ∧ r.2.mem ((c.tc : Thread Cert.Kernel3Ideal.nD Cert.Kernel3Ideal.τ).loc Cert.Kernel3Ideal.main_v81_4) = v4 c
          ∧ r.2.mem ((c.tc : Thread Cert.Kernel3Ideal.nD Cert.Kernel3Ideal.τ).loc Cert.Kernel3Ideal.main_v81_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v123) = v0 c
          ∧ r.2.mem ((c.tc : Thread Cert.Reference3Ideal.nD Cert.Reference3Ideal.τ).loc Cert.Reference3Ideal.main_v124) = v1 c
          ∧ r.2.mem ((c.tc : Thread Cert.Reference3Ideal.nD Cert.Reference3Ideal.τ).loc Cert.Reference3Ideal.main_v125) = v2 c
          ∧ r.2.mem ((c.tc : Thread Cert.Reference3Ideal.nD Cert.Reference3Ideal.τ).loc Cert.Reference3Ideal.main_v127) = v3 c
          ∧ r.2.mem ((c.tc : Thread Cert.Reference3Ideal.nD Cert.Reference3Ideal.τ).loc Cert.Reference3Ideal.main_v129) = v4 c
          ∧ r.2.mem ((c.tc : Thread Cert.Reference3Ideal.nD Cert.Reference3Ideal.τ).loc Cert.Reference3Ideal.main_v132) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_two_experts : Cert.Pre_two_experts.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_two_experts (hKernel2Ideal := hKernel2Ideal) (hPre_two_experts := hPre_two_experts)
    ∧ quiescent_Reference2Ideal (hReference2Ideal := hReference2Ideal)
    ∧ quiescent_Reference2Ideal_pre_two_experts (hReference2Ideal := hReference2Ideal) (hPre_two_experts := hPre_two_experts)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_two_experts (hKernel2Ideal := hKernel2Ideal) (hReference2Ideal := hReference2Ideal) (hPre_two_experts := hPre_two_experts)
    ∧ preserves_Kernel3_Kernel3Ideal
    ∧ algebraic_Kernel3Ideal_Reference3Ideal (hKernel3Ideal := hKernel3Ideal) (hReference3Ideal := hReference3Ideal)
-- ==== Pre_finite_scores.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S_ : Shape := ⟨0, ![]⟩

class Facts : Prop where
  bcast_S_S8x4096x4x96 : S_.BroadcastsInDim S8x4096x4x96 (![] : Fin 0 → Fin S8x4096x4x96.rank)
  reducesTo_S8x4096x4x96_S_d0_1_2_3 : S8x4096x4x96.ReducesTo [0, 1, 2, 3] S_
  h_S_ : 0 < S_.numel
  bcast_S_S8x256x4x96 : S_.BroadcastsInDim S8x256x4x96 (![] : Fin 0 → Fin S8x256x4x96.rank)
  reducesTo_S8x256x4x96_S_d0_1_2_3 : S8x256x4x96.ReducesTo [0, 1, 2, 3] S_

variable [Facts]

def fn {F : FTy → Type} [FloatOps F] (main_arg0 : FVec F S8x4096x4x96 .f32) (main_arg1 : FVec F S8x4096x4x96 .f32) (main_arg2 : FVec F S8x4096x4x64 .f32) (main_arg3 : FVec F S8x256x4x96 .f32) (main_arg4 : FVec F S8x256x4x64 .f32) : IVec S_ 1 :=
  let main_v0 : FVec F S8x4096x4x96 .f32 := Host.absf main_arg0
  let main_cst : FVec F S_ .f32 := constant S_ .f32 0x7F800000#32
  let main_v1 : FVec F S8x4096x4x96 .f32 := broadcastInDim S8x4096x4x96 ![] bcast_S_S8x4096x4x96 main_cst
  let main_v2 : IVec S8x4096x4x96 1 := cmpf .olt main_v0 main_v1
  let main_c : IVec S_ 1 := constantI S_ 1 1#1
  let main_v3 : IVec S_ 1 := (fun x v => Host.reduce IntOp.andi x v reducesTo_S8x4096x4x96_S_d0_1_2_3 h_S_) main_v2 main_c
  let main_v4 : FVec F S8x4096x4x96 .f32 := Host.absf main_arg1
  let main_cst_0 : FVec F S_ .f32 := constant S_ .f32 0x7F800000#32
  let main_v5 : FVec F S8x4096x4x96 .f32 := broadcastInDim S8x4096x4x96 ![] bcast_S_S8x4096x4x96 main_cst_0
  let main_v6 : IVec S8x4096x4x96 1 := cmpf .olt main_v4 main_v5
  let main_c_1 : IVec S_ 1 := constantI S_ 1 1#1
  let main_v7 : IVec S_ 1 := (fun x v => Host.reduce IntOp.andi x v reducesTo_S8x4096x4x96_S_d0_1_2_3 h_S_) main_v6 main_c_1
  let main_v8 : IVec S_ 1 := andi main_v3 main_v7
  let main_v9 : FVec F S8x256x4x96 .f32 := Host.absf main_arg3
  let main_cst_2 : FVec F S_ .f32 := constant S_ .f32 0x7F800000#32
  let main_v10 : FVec F S8x256x4x96 .f32 := broadcastInDim S8x256x4x96 ![] bcast_S_S8x256x4x96 main_cst_2
  let main_v11 : IVec S8x256x4x96 1 := cmpf .olt main_v9 main_v10
  let main_c_3 : IVec S_ 1 := constantI S_ 1 1#1
  let main_v12 : IVec S_ 1 := (fun x v => Host.reduce IntOp.andi x v reducesTo_S8x256x4x96_S_d0_1_2_3 h_S_) main_v11 main_c_3
  let main_v13 : IVec S_ 1 := andi main_v8 main_v12
  main_v13
-- ==== Pre_two_experts.lean ====
abbrev S34816x1024 : Shape := ⟨2, ![34816, 1024]⟩
abbrev S34816x2 : Shape := ⟨2, ![34816, 2]⟩
abbrev S16x1024x512 : Shape := ⟨3, ![16, 1024, 512]⟩
abbrev S16x512x1024 : Shape := ⟨3, ![16, 512, 1024]⟩
abbrev S_ : Shape := ⟨0, ![]⟩
abbrev S34816x1 : Shape := ⟨2, ![34816, 1]⟩
abbrev S34816 : Shape := ⟨1, ![34816]⟩

class Facts : Prop where
  bcast_S_S34816x2 : S_.BroadcastsInDim S34816x2 (![] : Fin 0 → Fin S34816x2.rank)
  reducesTo_S34816x2_S_d0_1 : S34816x2.ReducesTo [0, 1] S_
  h_S_ : 0 < S_.numel
  slices_S34816x2_S34816x1_0_0 : S34816x2.Slices ![0, 0] S34816x1
  shapeCasts_S34816x1_S34816 : S34816x1.ShapeCasts S34816
  slices_S34816x2_S34816x1_0_1 : S34816x2.Slices ![0, 1] S34816x1
  reducesTo_S34816_S_d0 : S34816.ReducesTo [0] S_

variable [Facts]

def fn {F : FTy → Type} [FloatOps F] (main_arg0 : FVec F S34816x1024 .f32) (main_arg1 : IVec S34816x2 32) (main_arg2 : FVec F S34816x2 .f32) (main_arg3 : FVec F S16x1024x512 .f32) (main_arg4 : FVec F S16x1024x512 .f32) (main_arg5 : FVec F S16x512x1024 .f32) : IVec S_ 1 :=
  let main_c : IVec S_ 32 := constantI S_ 32 0#32
  let main_v0 : IVec S34816x2 32 := broadcastInDim S34816x2 ![] bcast_S_S34816x2 main_c
  let main_v1 : IVec S34816x2 1 := cmpi .sge main_arg1 main_v0
  let main_c_0 : IVec S_ 32 := constantI S_ 32 16#32
  let main_v2 : IVec S34816x2 32 := broadcastInDim S34816x2 ![] bcast_S_S34816x2 main_c_0
  let main_v3 : IVec S34816x2 1 := cmpi .slt main_arg1 main_v2
  let main_v4 : IVec S34816x2 1 := andi main_v1 main_v3
  let main_c_1 : IVec S_ 1 := constantI S_ 1 1#1
  let main_v5 : IVec S_ 1 := (fun x v => Host.reduce IntOp.andi x v reducesTo_S34816x2_S_d0_1 h_S_) main_v4 main_c_1
  let main_v6 : IVec S34816x1 32 := (extractStridedSlice S34816x1 ![0, 0] · slices_S34816x2_S34816x1_0_0) main_arg1
  let main_v7 : IVec S34816 32 := shapeCast S34816 main_v6 shapeCasts_S34816x1_S34816
  let main_v8 : IVec S34816x1 32 := (extractStridedSlice S34816x1 ![0, 1] · slices_S34816x2_S34816x1_0_1) main_arg1
  let main_v9 : IVec S34816 32 := shapeCast S34816 main_v8 shapeCasts_S34816x1_S34816
  let main_v10 : IVec S34816 1 := cmpi .ne main_v7 main_v9
  let main_c_2 : IVec S_ 1 := constantI S_ 1 1#1
  let main_v11 : IVec S_ 1 := (fun x v => Host.reduce IntOp.andi x v reducesTo_S34816_S_d0 h_S_) main_v10 main_c_2
  let main_v12 : IVec S_ 1 := andi main_v5 main_v11
  main_v12
-- ==== Kernel.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S_ : Shape := ⟨0, ![]⟩
abbrev S8x4096x4x128 : Shape := ⟨4, ![8, 4096, 4, 128]⟩
abbrev S32768x512 : Shape := ⟨2, ![32768, 512]⟩
abbrev S32768x256 : Shape := ⟨2, ![32768, 256]⟩
abbrev S8x256x4x128 : Shape := ⟨4, ![8, 256, 4, 128]⟩
abbrev S2048x512 : Shape := ⟨2, ![2048, 512]⟩
abbrev S2048x256 : Shape := ⟨2, ![2048, 256]⟩
abbrev S512x512 : Shape := ⟨2, ![512, 512]⟩
abbrev S4096x512 : Shape := ⟨2, ![4096, 512]⟩
abbrev S256x512 : Shape := ⟨2, ![256, 512]⟩
abbrev S4096x256 : Shape := ⟨2, ![4096, 256]⟩
abbrev S256x256 : Shape := ⟨2, ![256, 256]⟩
abbrev S512x256 : Shape := ⟨2, ![512, 256]⟩
abbrev S2x256x4352 : Shape := ⟨3, ![2, 256, 4352]⟩
abbrev S1x256 : Shape := ⟨2, ![1, 256]⟩
abbrev S256x128 : Shape := ⟨2, ![256, 128]⟩
abbrev S4096x128 : Shape := ⟨2, ![4096, 128]⟩
abbrev S256x4096 : Shape := ⟨2, ![256, 4096]⟩
abbrev S1x256x4096 : Shape := ⟨3, ![1, 256, 4096]⟩
abbrev S1x256x256 : Shape := ⟨3, ![1, 256, 256]⟩
abbrev S1x256x4352 : Shape := ⟨3, ![1, 256, 4352]⟩
abbrev S256x4352 : Shape := ⟨2, ![256, 4352]⟩
abbrev S256 : Shape := ⟨1, ![256]⟩
abbrev S256x1 : Shape := ⟨2, ![256, 1]⟩

abbrev nBuf : Space → Nat
  | .hbm => 34
  | .vmem => 13
  | .smem => 0
  | _ => 0

abbrev bufTy : (tb : Table) → Fin (tcTables nBuf tb) → BufTy
  | .hbm, ⟨0, _⟩ => ⟨S8x4096x4x96, .f32⟩
  | .hbm, ⟨1, _⟩ => ⟨S8x4096x4x96, .f32⟩
  | .hbm, ⟨2, _⟩ => ⟨S8x4096x4x64, .f32⟩
  | .hbm, ⟨3, _⟩ => ⟨S8x256x4x96, .f32⟩
  | .hbm, ⟨4, _⟩ => ⟨S8x256x4x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x4x96, .f32⟩
  | .hbm, ⟨13, _⟩ => ⟨S8x4096x4x96, .f32⟩
  | .hbm, ⟨14, _⟩ => ⟨S_, .i32⟩
  | .hbm, ⟨15, _⟩ => ⟨S_, .f32⟩
  | .hbm, ⟨16, _⟩ => ⟨S8x4096x4x128, .f32⟩
  | .hbm, ⟨17, _⟩ => ⟨S32768x512, .f32⟩
  | .hbm, ⟨18, _⟩ => ⟨S32768x512, .bf16⟩
  | .hbm, ⟨19, _⟩ => ⟨S_, .i32⟩
  | .hbm, ⟨20, _⟩ => ⟨S_, .f32⟩
  | .hbm, ⟨21, _⟩ => ⟨S8x4096x4x128, .f32⟩
  | .hbm, ⟨22, _⟩ => ⟨S32768x512, .f32⟩
  | .hbm, ⟨23, _⟩ => ⟨S32768x512, .bf16⟩
  | .hbm, ⟨24, _⟩ => ⟨S32768x256, .f32⟩
  | .hbm, ⟨25, _⟩ => ⟨S32768x256, .bf16⟩
  | .hbm, ⟨26, _⟩ => ⟨S_, .i32⟩
  | .hbm, ⟨27, _⟩ => ⟨S_, .f32⟩
  | .hbm, ⟨28, _⟩ => ⟨S8x256x4x128, .f32⟩
  | .hbm, ⟨29, _⟩ => ⟨S2048x512, .f32⟩
  | .hbm, ⟨30, _⟩ => ⟨S2048x512, .bf16⟩
  | .hbm, ⟨31, _⟩ => ⟨S2048x256, .f32⟩
  | .hbm, ⟨32, _⟩ => ⟨S2048x256, .bf16⟩
  | .hbm, ⟨33, _⟩ => ⟨S32768x256, .f32⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S256x512, .bf16⟩
  | .local _ .vmem, ⟨5, _⟩ => ⟨S256x512, .bf16⟩
  | .local _ .vmem, ⟨6, _⟩ => ⟨S4096x256, .bf16⟩
  | .local _ .vmem, ⟨7, _⟩ => ⟨S4096x256, .bf16⟩
  | .local _ .vmem, ⟨8, _⟩ => ⟨S256x256, .bf16⟩
  | .local _ .vmem, ⟨9, _⟩ => ⟨S256x256, .bf16⟩
  | .local _ .vmem, ⟨10, _⟩ => ⟨S512x256, .f32⟩
  | .local _ .vmem, ⟨11, _⟩ => ⟨S512x256, .f32⟩
  | .local _ .vmem, ⟨12, _⟩ => ⟨S2x256x4352, .f32⟩
  | _, _ => ⟨S8x4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call2_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x4096x4x96 : Shape := ⟨4, ![8, 4096, 4, 96]⟩
abbrev S8x4096x4x64 : Shape := ⟨4, ![8, 4096, 4, 64]⟩
abbrev S8x256x4x96 : Shape := ⟨4, ![8, 256, 4, 96]⟩
abbrev S8x256x4x64 : Shape := ⟨4, ![8, 256, 4, 64]⟩
abbrev S8x4352x4x96 : Shape := ⟨4, ![8, 4352, 4, 96]⟩
abbrev S8x4352x4x64 : Shape := ⟨4, ![8, 4352, 4, 64]⟩
abbrev S_ : Shape := ⟨0, ![]⟩
abbrev S8x4x4096x4352 : Shape := ⟨4, ![8, 4, 4096, 4352]⟩
abbrev S8x4x4096 : Shape := ⟨3, ![8, 4, 4096]⟩
abbrev S8x4x4096x1 : Shape := ⟨4, ![8, 4, 4096, 1]⟩
abbrev S8x4x64x4096 : Shape := ⟨4, ![8, 4, 64, 4096]⟩
abbrev S32768x256 : Shape := ⟨2, ![32768, 256]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x4x96, .f32⟩
  | .hbm, ⟨1, _⟩ => ⟨S8x4096x4x96, .f32⟩
  | .hbm, ⟨2, _⟩ => ⟨S8x4096x4x64, .f32⟩
  | .hbm, ⟨3, _⟩ => ⟨S8x256x4x96, .f32⟩
  | .hbm, ⟨4, _⟩ => ⟨S8x256x4x64, .f32⟩
  | .hbm, ⟨5, _⟩ => ⟨S8x4352x4x96, .f32⟩
  | .hbm, ⟨6, _⟩ => ⟨S8x4352x4x64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x4x4096x4352, .f32⟩
  | .hbm, ⟨12, _⟩ => ⟨S8x4x4096x4352, .f32⟩
  | .hbm, ⟨13, _⟩ => ⟨S8x4x4096x4352, .f32⟩
  | .hbm, ⟨14, _⟩ => ⟨S_, .f32⟩
  | .hbm, ⟨15, _⟩ => ⟨S8x4x4096, .f32⟩
  | .hbm, ⟨16, _⟩ => ⟨S_, .f32⟩
  | .hbm, ⟨17, _⟩ => ⟨S8x4x4096, .f32⟩
  | .hbm, ⟨18, _⟩ => ⟨S8x4x4096, .f32⟩
  | .hbm, ⟨19, _⟩ => ⟨S8x4x4096x1, .f32⟩
  | .hbm, ⟨20, _⟩ => ⟨S8x4x4096x4352, .f32⟩
  | .hbm, ⟨21, _⟩ => ⟨S8x4x4096x4352, .f32⟩
  | .hbm, ⟨22, _⟩ => ⟨S8x4x4096x4352, .f32⟩
  | .hbm, ⟨23, _⟩ => ⟨S_, .f32⟩
  | .hbm, ⟨24, _⟩ => ⟨S8x4x4096, .f32⟩
  | .hbm, ⟨25, _⟩ => ⟨S8x4x4096x1, .f32⟩
  | .hbm, ⟨26, _⟩ => ⟨S8x4x4096x4352, .f32⟩
  | .hbm, ⟨27, _⟩ => ⟨S8x4x4096x4352, .f32⟩
  | .hbm, ⟨28, _⟩ => ⟨S8x4x64x4096, .f32⟩
  | .hbm, ⟨29, _⟩ => ⟨S8x4096x4x64, .f32⟩
  | .hbm, ⟨30, _⟩ => ⟨S32768x256, .f32⟩
  | _, _ => ⟨S8x4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel2.lean ====
abbrev S34816x1024 : Shape := ⟨2, ![34816, 1024]⟩
abbrev S34816x2 : Shape := ⟨2, ![34816, 2]⟩
abbrev S16x1024x512 : Shape := ⟨3, ![16, 1024, 512]⟩
abbrev S16x512x1024 : Shape := ⟨3, ![16, 512, 1024]⟩
abbrev S69632 : Shape := ⟨1, ![69632]⟩
abbrev S69632x1 : Shape := ⟨2, ![69632, 1]⟩
abbrev S16 : Shape := ⟨1, ![16]⟩
abbrev S1x16 : Shape := ⟨2, ![1, 16]⟩
abbrev S69632x16 : Shape := ⟨2, ![69632, 16]⟩
abbrev S_ : Shape := ⟨0, ![]⟩
abbrev S69632x1x1 : Shape := ⟨3, ![69632, 1, 1]⟩
abbrev S1 : Shape := ⟨1, ![1]⟩
abbrev S1x1x1 : Shape := ⟨3, ![1, 1, 1]⟩
abbrev S152 : Shape := ⟨1, ![152]⟩
abbrev S152x1 : Shape := ⟨2, ![152, 1]⟩
abbrev S152x16 : Shape := ⟨2, ![152, 16]⟩
abbrev S77824 : Shape := ⟨1, ![77824]⟩
abbrev S77824x1 : Shape := ⟨2, ![77824, 1]⟩
abbrev S1x1 : Shape := ⟨2, ![1, 1]⟩
abbrev S77824x1024 : Shape := ⟨2, ![77824, 1024]⟩
abbrev S512x1024 : Shape := ⟨2, ![512, 1024]⟩
abbrev S512x1 : Shape := ⟨2, ![512, 1]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩
abbrev S34816x1 : Shape := ⟨2, ![34816, 1]⟩
abbrev S34816 : Shape := ⟨1, ![34816]⟩

abbrev nBuf : Space → Nat
  | .hbm => 309
  | .vmem => 12
  | .smem => 2
  | _ => 0

abbrev hbmTy0_0 (i : Nat) : BufTy := match i % 128 with
  | 0 => ⟨S34816x1024, .f32⟩
  | 1 => ⟨S34816x2, .i32⟩
  | 2 => ⟨S34816x2, .f32⟩
  | 3 => ⟨S16x1024x512, .f32⟩
  | 4 => ⟨S16x1024x512, .f32⟩
  | 5 => ⟨S16x512x1024, .f32⟩
  | 6 => ⟨S69632, .i32⟩
  | 7 => ⟨S69632, .i32⟩
  | 8 => ⟨S69632, .i32⟩
  | 9 => ⟨S69632, .i32⟩
  | 10 => ⟨S69632x1, .i32⟩
  | 11 => ⟨S16, .i32⟩
  | 12 => ⟨S1x16, .i32⟩
  | 13 => ⟨S69632x16, .i32⟩
  | 14 => ⟨S69632x16, .i32⟩
  | 15 => ⟨S69632x16, .i1⟩
  | 16 => ⟨S69632x16, .i32⟩
  | 17 => ⟨S_, .i32⟩
  | 18 => ⟨S_, .i32⟩
  | 19 => ⟨S69632x16, .i32⟩
  | 20 => ⟨S1x16, .i32⟩
  | 21 => ⟨S16, .i32⟩
  | 22 => ⟨S69632x1, .i32⟩
  | 23 => ⟨S_, .i32⟩
  | 24 => ⟨S69632x1, .i32⟩
  | 25 => ⟨S69632x1, .i1⟩
  | 26 => ⟨S_, .i32⟩
  | 27 => ⟨S69632x1, .i32⟩
  | 28 => ⟨S69632x1, .i32⟩
  | 29 => ⟨S69632x1, .i32⟩
  | 30 => ⟨S69632x1x1, .i32⟩
  | 31 => ⟨S1, .i32⟩
  | 32 => ⟨S_, .i32⟩
  | 33 => ⟨S69632x1x1, .i32⟩
  | 34 => ⟨S69632x1x1, .i1⟩
  | 35 => ⟨S1x1x1, .i32⟩
  | 36 => ⟨S69632x1x1, .i32⟩
  | 37 => ⟨S69632x1x1, .i1⟩
  | 38 => ⟨S69632x1x1, .i1⟩
  | 39 => ⟨S_, .i1⟩
  | 40 => ⟨S69632x1, .i1⟩
  | 41 => ⟨S69632x1, .i32⟩
  | 42 => ⟨S_, .i32⟩
  | 43 => ⟨S69632x1, .i32⟩
  | 44 => ⟨S69632x1, .i32⟩
  | 45 => ⟨S69632, .i32⟩
  | 46 => ⟨S_, .i32⟩
  | 47 => ⟨S69632, .i32⟩
  | 48 => ⟨S69632, .i32⟩
  | 49 => ⟨S_, .i32⟩
  | 50 => ⟨S16, .i32⟩
  | 51 => ⟨S16, .i32⟩
  | 52 => ⟨S_, .i32⟩
  | 53 => ⟨S16, .i32⟩
  | 54 => ⟨S16, .i32⟩
  | 55 => ⟨S_, .i32⟩
  | 56 => ⟨S_, .i32⟩
  | 57 => ⟨S16, .i32⟩
  | 58 => ⟨S16, .i32⟩
  | 59 => ⟨S16, .i32⟩
  | 60 => ⟨S_, .i32⟩
  | 61 => ⟨S16, .i32⟩
  | 62 => ⟨S16, .i1⟩
  | 63 => ⟨S16, .i32⟩
  | 64 => ⟨S16, .i32⟩
  | 65 => ⟨S_, .i32⟩
  | 66 => ⟨S16, .i32⟩
  | 67 => ⟨S16, .i1⟩
  | 68 => ⟨S16, .i1⟩
  | 69 => ⟨S_, .i32⟩
  | 70 => ⟨S16, .i32⟩
  | 71 => ⟨S16, .i32⟩
  | 72 => ⟨S16, .i32⟩
  | 73 => ⟨S_, .i32⟩
  | 74 => ⟨S16, .i32⟩
  | 75 => ⟨S16, .i32⟩
  | 76 => ⟨S_, .i32⟩
  | 77 => ⟨S_, .i32⟩
  | 78 => ⟨S16, .i32⟩
  | 79 => ⟨S16, .i32⟩
  | 80 => ⟨S_, .i32⟩
  | 81 => ⟨S_, .i32⟩
  | 82 => ⟨S16, .i32⟩
  | 83 => ⟨S16, .i32⟩
  | 84 => ⟨S_, .i32⟩
  | 85 => ⟨S69632, .i32⟩
  | 86 => ⟨S69632, .i1⟩
  | 87 => ⟨S_, .i32⟩
  | 88 => ⟨S69632, .i32⟩
  | 89 => ⟨S69632, .i32⟩
  | 90 => ⟨S69632, .i32⟩
  | 91 => ⟨S69632x1, .i32⟩
  | 92 => ⟨S69632, .i32⟩
  | 93 => ⟨S69632, .i32⟩
  | 94 => ⟨S34816x2, .i32⟩
  | 95 => ⟨S152, .i32⟩
  | 96 => ⟨S_, .i32⟩
  | 97 => ⟨S152, .i32⟩
  | 98 => ⟨S152, .i32⟩
  | 99 => ⟨S1x16, .i32⟩
  | 100 => ⟨S152x1, .i32⟩
  | 101 => ⟨S152x16, .i32⟩
  | 102 => ⟨S152x16, .i32⟩
  | 103 => ⟨S152x16, .i1⟩
  | 104 => ⟨S152x16, .i32⟩
  | 105 => ⟨S_, .i32⟩
  | 106 => ⟨S152, .i32⟩
  | 107 => ⟨S_, .i32⟩
  | 108 => ⟨S152, .i32⟩
  | 109 => ⟨S1, .i32⟩
  | 110 => ⟨S_, .i32⟩
  | 111 => ⟨S152, .i32⟩
  | 112 => ⟨S152, .i1⟩
  | 113 => ⟨S77824, .i32⟩
  | 114 => ⟨S_, .i32⟩
  | 115 => ⟨S_, .i32⟩
  | 116 => ⟨S77824, .i32⟩
  | 117 => ⟨S77824, .i32⟩
  | 118 => ⟨S77824, .i32⟩
  | 119 => ⟨S_, .i32⟩
  | 120 => ⟨S77824, .i32⟩
  | 121 => ⟨S77824, .i1⟩
  | 122 => ⟨S77824, .i32⟩
  | 123 => ⟨S77824, .i32⟩
  | 124 => ⟨S_, .i32⟩
  | 125 => ⟨S77824, .i32⟩
  | 126 => ⟨S77824, .i1⟩
  | 127 => ⟨S77824, .i1⟩
  | _ => ⟨S34816x1024, .f32⟩

abbrev hbmTy0_1 (i : Nat) : BufTy := match i % 128 with
  | 0 => ⟨S_, .i32⟩
  | 1 => ⟨S77824, .i32⟩
  | 2 => ⟨S77824, .i32⟩
  | 3 => ⟨S77824, .i32⟩
  | 4 => ⟨S_, .i32⟩
  | 5 => ⟨S77824, .i32⟩
  | 6 => ⟨S77824, .i1⟩
  | 7 => ⟨S_, .i32⟩
  | 8 => ⟨S77824, .i32⟩
  | 9 => ⟨S77824, .i32⟩
  | 10 => ⟨S77824, .i32⟩
  | 11 => ⟨S77824x1, .i32⟩
  | 12 => ⟨S77824, .i32⟩
  | 13 => ⟨S_, .i32⟩
  | 14 => ⟨S77824, .i32⟩
  | 15 => ⟨S77824, .i1⟩
  | 16 => ⟨S_, .i32⟩
  | 17 => ⟨S77824, .i32⟩
  | 18 => ⟨S77824, .i32⟩
  | 19 => ⟨S77824, .i32⟩
  | 20 => ⟨S77824x1, .i32⟩
  | 21 => ⟨S77824, .i32⟩
  | 22 => ⟨S77824, .i32⟩
  | 23 => ⟨S_, .i32⟩
  | 24 => ⟨S77824, .i32⟩
  | 25 => ⟨S77824, .i1⟩
  | 26 => ⟨S_, .i32⟩
  | 27 => ⟨S77824, .i32⟩
  | 28 => ⟨S77824, .i32⟩
  | 29 => ⟨S77824, .i32⟩
  | 30 => ⟨S77824x1, .i32⟩
  | 31 => ⟨S77824, .i32⟩
  | 32 => ⟨S77824, .i1⟩
  | 33 => ⟨S1, .i32⟩
  | 34 => ⟨S_, .i32⟩
  | 35 => ⟨S77824, .i32⟩
  | 36 => ⟨S77824, .i1⟩
  | 37 => ⟨S77824, .i1⟩
  | 38 => ⟨S_, .i32⟩
  | 39 => ⟨S77824, .i32⟩
  | 40 => ⟨S77824, .i1⟩
  | 41 => ⟨S_, .i32⟩
  | 42 => ⟨S77824, .i32⟩
  | 43 => ⟨S77824, .i32⟩
  | 44 => ⟨S77824, .i32⟩
  | 45 => ⟨S77824x1, .i32⟩
  | 46 => ⟨S77824, .i32⟩
  | 47 => ⟨S77824, .i32⟩
  | 48 => ⟨S_, .i32⟩
  | 49 => ⟨S_, .i32⟩
  | 50 => ⟨S_, .i32⟩
  | 51 => ⟨S77824, .i32⟩
  | 52 => ⟨S77824, .i32⟩
  | 53 => ⟨S_, .i32⟩
  | 54 => ⟨S77824, .i32⟩
  | 55 => ⟨S77824, .i32⟩
  | 56 => ⟨S_, .i32⟩
  | 57 => ⟨S77824, .i32⟩
  | 58 => ⟨S77824, .i1⟩
  | 59 => ⟨S_, .i32⟩
  | 60 => ⟨S77824, .i32⟩
  | 61 => ⟨S77824, .i32⟩
  | 62 => ⟨S77824, .i32⟩
  | 63 => ⟨S77824x1, .i32⟩
  | 64 => ⟨S77824, .i32⟩
  | 65 => ⟨S_, .i32⟩
  | 66 => ⟨S_, .i32⟩
  | 67 => ⟨S77824, .i32⟩
  | 68 => ⟨S77824, .i32⟩
  | 69 => ⟨S77824, .i32⟩
  | 70 => ⟨S_, .i32⟩
  | 71 => ⟨S77824, .i32⟩
  | 72 => ⟨S77824, .i1⟩
  | 73 => ⟨S77824, .i32⟩
  | 74 => ⟨S77824, .i32⟩
  | 75 => ⟨S_, .i32⟩
  | 76 => ⟨S77824, .i32⟩
  | 77 => ⟨S77824, .i1⟩
  | 78 => ⟨S77824, .i1⟩
  | 79 => ⟨S_, .i32⟩
  | 80 => ⟨S77824, .i32⟩
  | 81 => ⟨S77824, .i32⟩
  | 82 => ⟨S77824, .i32⟩
  | 83 => ⟨S_, .i32⟩
  | 84 => ⟨S_, .i32⟩
  | 85 => ⟨S77824, .i32⟩
  | 86 => ⟨S77824, .i32⟩
  | 87 => ⟨S69632, .f32⟩
  | 88 => ⟨S_, .i32⟩
  | 89 => ⟨S77824, .i32⟩
  | 90 => ⟨S77824, .i1⟩
  | 91 => ⟨S_, .i32⟩
  | 92 => ⟨S77824, .i32⟩
  | 93 => ⟨S77824, .i32⟩
  | 94 => ⟨S77824, .i32⟩
  | 95 => ⟨S77824x1, .i32⟩
  | 96 => ⟨S77824, .f32⟩
  | 97 => ⟨S_, .f32⟩
  | 98 => ⟨S_, .f32⟩
  | 99 => ⟨S77824, .f32⟩
  | 100 => ⟨S77824, .f32⟩
  | 101 => ⟨S34816x1024, .bf16⟩
  | 102 => ⟨S_, .i32⟩
  | 103 => ⟨S77824, .i32⟩
  | 104 => ⟨S77824, .i1⟩
  | 105 => ⟨S_, .i32⟩
  | 106 => ⟨S77824, .i32⟩
  | 107 => ⟨S77824, .i32⟩
  | 108 => ⟨S77824, .i32⟩
  | 109 => ⟨S77824x1, .i32⟩
  | 110 => ⟨S1, .i32⟩
  | 111 => ⟨S_, .i32⟩
  | 112 => ⟨S77824x1, .i32⟩
  | 113 => ⟨S77824x1, .i1⟩
  | 114 => ⟨S1x1, .i32⟩
  | 115 => ⟨S77824x1, .i32⟩
  | 116 => ⟨S77824x1, .i1⟩
  | 117 => ⟨S77824x1, .i1⟩
  | 118 => ⟨S_, .i1⟩
  | 119 => ⟨S77824, .i1⟩
  | 120 => ⟨S77824x1024, .bf16⟩
  | 121 => ⟨S77824x1024, .i1⟩
  | 122 => ⟨S_, .bf16⟩
  | 123 => ⟨S77824x1024, .bf16⟩
  | 124 => ⟨S77824x1024, .bf16⟩
  | 125 => ⟨S77824x1, .f32⟩
  | 126 => ⟨S16x1024x512, .bf16⟩
  | 127 => ⟨S16x1024x512, .bf16⟩
  | _ => ⟨S34816x1024, .f32⟩

abbrev hbmTy0_2 (i : Nat) : BufTy := match i % 128 with
  | 0 => ⟨S16x512x1024, .bf16⟩
  | 1 => ⟨S77824x1024, .f32⟩
  | 2 => ⟨S34816x1, .i32⟩
  | 3 => ⟨S34816, .i32⟩
  | 4 => ⟨S_, .i32⟩
  | 5 => ⟨S34816, .i32⟩
  | 6 => ⟨S34816, .i1⟩
  | 7 => ⟨S_, .i32⟩
  | 8 => ⟨S34816, .i32⟩
  | 9 => ⟨S34816, .i32⟩
  | 10 => ⟨S34816, .i32⟩
  | 11 => ⟨S34816x1, .i32⟩
  | 12 => ⟨S1, .i32⟩
  | 13 => ⟨S_, .i32⟩
  | 14 => ⟨S34816x1, .i32⟩
  | 15 => ⟨S34816x1, .i1⟩
  | 16 => ⟨S1x1, .i32⟩
  | 17 => ⟨S34816x1, .i32⟩
  | 18 => ⟨S34816x1, .i1⟩
  | 19 => ⟨S34816x1, .i1⟩
  | 20 => ⟨S_, .i1⟩
  | 21 => ⟨S34816, .i1⟩
  | 22 => ⟨S34816x1024, .f32⟩
  | 23 => ⟨S34816x1024, .i1⟩
  | 24 => ⟨S_, .f32⟩
  | 25 => ⟨S34816x1024, .f32⟩
  | 26 => ⟨S34816x1024, .f32⟩
  | 27 => ⟨S34816x1, .i32⟩
  | 28 => ⟨S34816, .i32⟩
  | 29 => ⟨S_, .i32⟩
  | 30 => ⟨S34816, .i32⟩
  | 31 => ⟨S34816, .i1⟩
  | 32 => ⟨S_, .i32⟩
  | 33 => ⟨S34816, .i32⟩
  | 34 => ⟨S34816, .i32⟩
  | 35 => ⟨S34816, .i32⟩
  | 36 => ⟨S34816x1, .i32⟩
  | 37 => ⟨S1, .i32⟩
  | 38 => ⟨S_, .i32⟩
  | 39 => ⟨S34816x1, .i32⟩
  | 40 => ⟨S34816x1, .i1⟩
  | 41 => ⟨S1x1, .i32⟩
  | 42 => ⟨S34816x1, .i32⟩
  | 43 => ⟨S34816x1, .i1⟩
  | 44 => ⟨S34816x1, .i1⟩
  | 45 => ⟨S_, .i1⟩
  | 46 => ⟨S34816, .i1⟩
  | 47 => ⟨S34816x1024, .f32⟩
  | 48 => ⟨S34816x1024, .i1⟩
  | 49 => ⟨S_, .f32⟩
  | 50 => ⟨S34816x1024, .f32⟩
  | 51 => ⟨S34816x1024, .f32⟩
  | 52 => ⟨S34816x1024, .f32⟩
  | _ => ⟨S34816x1024, .f32⟩

abbrev hbmTy (i : Nat) : BufTy := match i / 128 with
  | 0 => hbmTy0_0 i
  | 1 => hbmTy0_1 i
  | 2 => hbmTy0_2 i
  | _ => ⟨S34816x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1, .f32⟩
  | .local _ .vmem, ⟨3, _⟩ => ⟨S512x1, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S512x1024, .f32⟩
  | .local _ .vmem, ⟨11, _⟩ => ⟨S512x1024, .f32⟩
  | .local _ .smem, ⟨0, _⟩ => ⟨S152, .i32⟩
  | .local _ .smem, ⟨1, _⟩ => ⟨S152, .i32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call1_call0_c : Ref sig .tc := ⟨.hbm, 17, rfl⟩
abbrev main_call1_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call2_c : Ref sig .tc := ⟨.hbm, 23, rfl⟩
abbrev main_call2_v0 : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_v5 : Ref sig .tc := ⟨.hbm, 30, rfl⟩
abbrev main_call2_c_1 : Ref sig .tc := ⟨.hbm, 31, rfl⟩
abbrev main_call2_c_2 : Ref sig .tc := ⟨.hbm, 32, rfl⟩
abbrev main_call2_v6 : Ref sig .tc := ⟨.hbm, 33, rfl⟩
abbrev main_call2_v7 : Ref sig .tc := ⟨.hbm, 34, rfl⟩
abbrev main_call2_v8 : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_3 : Ref sig .tc := ⟨.hbm, 39, rfl⟩
abbrev main_call2_v12 : Ref sig .tc := ⟨.hbm, 40, rfl⟩
abbrev main_call2_v13 : Ref sig .tc := ⟨.hbm, 41, rfl⟩
abbrev main_call2_c_4 : Ref sig .tc := ⟨.hbm, 42, rfl⟩
abbrev main_call2_v14 : Ref sig .tc := ⟨.hbm, 43, rfl⟩
abbrev main_v13 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_0 : Ref sig .tc := ⟨.hbm, 49, rfl⟩
abbrev main_v17 : Ref sig .tc := ⟨.hbm, 50, rfl⟩
abbrev main_v18 : Ref sig .tc := ⟨.hbm, 51, rfl⟩
abbrev main_c_1 : Ref sig .tc := ⟨.hbm, 52, rfl⟩
abbrev main_v19 : Ref sig .tc := ⟨.hbm, 53, rfl⟩
abbrev main_v20 : Ref sig .tc := ⟨.hbm, 54, rfl⟩
abbrev main_c_2 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_call3_v5 : Ref sig .tc := ⟨.hbm, 61, rfl⟩
abbrev main_call3_v6 : Ref sig .tc := ⟨.hbm, 62, rfl⟩
abbrev main_call3_v7 : Ref sig .tc := ⟨.hbm, 63, rfl⟩
abbrev main_call3_v8 : Ref sig .tc := ⟨.hbm, 64, rfl⟩
abbrev main_call3_c : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_0 : Ref sig .tc := ⟨.hbm, 69, rfl⟩
abbrev main_call3_v12 : Ref sig .tc := ⟨.hbm, 70, rfl⟩
abbrev main_call3_v13 : Ref sig .tc := ⟨.hbm, 71, rfl⟩
abbrev main_v21 : Ref sig .tc := ⟨.hbm, 72, rfl⟩
abbrev main_c_3 : Ref sig .tc := ⟨.hbm, 73, rfl⟩
abbrev main_v22 : Ref sig .tc := ⟨.hbm, 74, rfl⟩
abbrev main_v23 : Ref sig .tc := ⟨.hbm, 75, rfl⟩
abbrev main_call4_call0_c : Ref sig .tc := ⟨.hbm, 76, rfl⟩
abbrev main_call4_call0_v0 : Ref sig .tc := ⟨.hbm, 77, rfl⟩
abbrev main_v24 : Ref sig .tc := ⟨.hbm, 78, rfl⟩
abbrev main_v25 : Ref sig .tc := ⟨.hbm, 79, rfl⟩
abbrev main_call5_call0_c : Ref sig .tc := ⟨.hbm, 80, rfl⟩
abbrev main_call5_call0_v0 : Ref sig .tc := ⟨.hbm, 81, rfl⟩
abbrev main_v26 : Ref sig .tc := ⟨.hbm, 82, rfl⟩
abbrev main_v27 : Ref sig .tc := ⟨.hbm, 83, rfl⟩
abbrev main_c_4 : Ref sig .tc := ⟨.hbm, 84, rfl⟩
abbrev main_v28 : Ref sig .tc := ⟨.hbm, 85, rfl⟩
abbrev main_v29 : Ref sig .tc := ⟨.hbm, 86, rfl⟩
abbrev main_c_5 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_c_6 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_c_7 : Ref sig .tc := ⟨.hbm, 105, rfl⟩
abbrev main_v46 : Ref sig .tc := ⟨.hbm, 106, rfl⟩
abbrev main_c_8 : Ref sig .tc := ⟨.hbm, 107, rfl⟩
abbrev main_v47 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v54 : Ref sig .tc := ⟨.hbm, 113, rfl⟩
abbrev main_c_9 : Ref sig .tc := ⟨.hbm, 114, rfl⟩
abbrev main_call6_v0 : Ref sig .tc := ⟨.hbm, 115, rfl⟩
abbrev main_call6_v1 : Ref sig .tc := ⟨.hbm, 116, rfl⟩
abbrev main_call6_v2 : Ref sig .tc := ⟨.hbm, 117, rfl⟩
abbrev main_call6_v3 : Ref sig .tc := ⟨.hbm, 118, rfl⟩
abbrev main_call6_v4 : Ref sig .tc := ⟨.hbm, 119, rfl⟩
abbrev main_call6_v5 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_c : Ref sig .tc := ⟨.hbm, 124, rfl⟩
abbrev main_call6_v9 : Ref sig .tc := ⟨.hbm, 125, rfl⟩
abbrev main_call6_v10 : Ref sig .tc := ⟨.hbm, 126, rfl⟩
abbrev main_call6_v11 : Ref sig .tc := ⟨.hbm, 127, rfl⟩
abbrev main_call6_c_0 : Ref sig .tc := ⟨.hbm, 128, rfl⟩
abbrev main_call6_v12 : Ref sig .tc := ⟨.hbm, 129, rfl⟩
abbrev main_call6_v13 : Ref sig .tc := ⟨.hbm, 130, rfl⟩
abbrev main_v55 : Ref sig .tc := ⟨.hbm, 131, rfl⟩
abbrev main_c_10 : Ref sig .tc := ⟨.hbm, 132, rfl⟩
abbrev main_v56 : Ref sig .tc := ⟨.hbm, 133, rfl⟩
abbrev main_v57 : Ref sig .tc := ⟨.hbm, 134, rfl⟩
abbrev main_c_11 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_c_12 : Ref sig .tc := ⟨.hbm, 141, rfl⟩
abbrev main_v63 : Ref sig .tc := ⟨.hbm, 142, rfl⟩
abbrev main_v64 : Ref sig .tc := ⟨.hbm, 143, rfl⟩
abbrev main_c_13 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_c_14 : Ref sig .tc := ⟨.hbm, 151, rfl⟩
abbrev main_v71 : Ref sig .tc := ⟨.hbm, 152, rfl⟩
abbrev main_v72 : Ref sig .tc := ⟨.hbm, 153, rfl⟩
abbrev main_c_15 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_c_16 : Ref sig .tc := ⟨.hbm, 166, rfl⟩
abbrev main_v84 : Ref sig .tc := ⟨.hbm, 167, rfl⟩
abbrev main_v85 : Ref sig .tc := ⟨.hbm, 168, rfl⟩
abbrev main_c_17 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_c_18 : Ref sig .tc := ⟨.hbm, 176, rfl⟩
abbrev main_c_19 : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_call7_v3 : Ref sig .tc := ⟨.hbm, 181, rfl⟩
abbrev main_call7_v4 : Ref sig .tc := ⟨.hbm, 182, rfl⟩
abbrev main_v92 : Ref sig .tc := ⟨.hbm, 183, rfl⟩
abbrev main_c_20 : Ref sig .tc := ⟨.hbm, 184, rfl⟩
abbrev main_v93 : Ref sig .tc := ⟨.hbm, 185, rfl⟩
abbrev main_v94 : Ref sig .tc := ⟨.hbm, 186, rfl⟩
abbrev main_c_21 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_c_22 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_call8_v3 : Ref sig .tc := ⟨.hbm, 197, rfl⟩
abbrev main_call8_v4 : Ref sig .tc := ⟨.hbm, 198, rfl⟩
abbrev main_call8_v5 : Ref sig .tc := ⟨.hbm, 199, rfl⟩
abbrev main_call8_v6 : Ref sig .tc := ⟨.hbm, 200, rfl⟩
abbrev main_call8_v7 : Ref sig .tc := ⟨.hbm, 201, rfl⟩
abbrev main_call8_v8 : Ref sig .tc := ⟨.hbm, 202, rfl⟩
abbrev main_call8_c : Ref sig .tc := ⟨.hbm, 203, rfl⟩
abbrev main_call8_v9 : Ref sig .tc := ⟨.hbm, 204, rfl⟩
abbrev main_call8_v10 : Ref sig .tc := ⟨.hbm, 205, rfl⟩
abbrev main_call8_v11 : Ref sig .tc := ⟨.hbm, 206, rfl⟩
abbrev main_call8_c_0 : Ref sig .tc := ⟨.hbm, 207, rfl⟩
abbrev main_call8_v12 : Ref sig .tc := ⟨.hbm, 208, rfl⟩
abbrev main_call8_v13 : Ref sig .tc := ⟨.hbm, 209, rfl⟩
abbrev main_v100 : Ref sig .tc := ⟨.hbm, 210, rfl⟩
abbrev main_c_23 : Ref sig .tc := ⟨.hbm, 211, rfl⟩
abbrev main_call9_v0 : Ref sig .tc := ⟨.hbm, 212, rfl⟩
abbrev main_call9_v1 : Ref sig .tc := ⟨.hbm, 213, rfl⟩
abbrev main_v101 : Ref sig .tc := ⟨.hbm, 214, rfl⟩
abbrev main_v102 : Ref sig .tc := ⟨.hbm, 215, rfl⟩
abbrev main_c_24 : Ref sig .tc := ⟨.hbm, 216, rfl⟩
abbrev main_v103 : Ref sig .tc := ⟨.hbm, 217, rfl⟩
abbrev main_v104 : Ref sig .tc := ⟨.hbm, 218, rfl⟩
abbrev main_c_25 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_v108 : Ref sig .tc := ⟨.hbm, 223, rfl⟩
abbrev main_v109 : Ref sig .tc := ⟨.hbm, 224, rfl⟩
abbrev main_cst : Ref sig .tc := ⟨.hbm, 225, rfl⟩
abbrev main_call10_v0 : Ref sig .tc := ⟨.hbm, 226, rfl⟩
abbrev main_call10_v1 : Ref sig .tc := ⟨.hbm, 227, rfl⟩
abbrev main_v110 : Ref sig .tc := ⟨.hbm, 228, rfl⟩
abbrev main_v111 : Ref sig .tc := ⟨.hbm, 229, rfl⟩
abbrev main_call11_c : Ref sig .tc := ⟨.hbm, 230, rfl⟩
abbrev main_call11_v0 : Ref sig .tc := ⟨.hbm, 231, rfl⟩
abbrev main_call11_v1 : Ref sig .tc := ⟨.hbm, 232, rfl⟩
abbrev main_call11_c_0 : Ref sig .tc := ⟨.hbm, 233, rfl⟩
abbrev main_call11_v2 : Ref sig .tc := ⟨.hbm, 234, rfl⟩
abbrev main_call11_v3 : Ref sig .tc := ⟨.hbm, 235, rfl⟩
abbrev main_call11_v4 : Ref sig .tc := ⟨.hbm, 236, rfl⟩
abbrev main_call11_v5 : Ref sig .tc := ⟨.hbm, 237, rfl⟩
abbrev main_call11_c_1 : Ref sig .tc := ⟨.hbm, 238, rfl⟩
abbrev main_call11_c_2 : Ref sig .tc := ⟨.hbm, 239, rfl⟩
abbrev main_call11_v6 : Ref sig .tc := ⟨.hbm, 240, rfl⟩
abbrev main_call11_v7 : Ref sig .tc := ⟨.hbm, 241, rfl⟩
abbrev main_call11_v8 : Ref sig .tc := ⟨.hbm, 242, rfl⟩
abbrev main_call11_v9 : Ref sig .tc := ⟨.hbm, 243, rfl⟩
abbrev main_call11_v10 : Ref sig .tc := ⟨.hbm, 244, rfl⟩
abbrev main_call11_v11 : Ref sig .tc := ⟨.hbm, 245, rfl⟩
abbrev main_call11_c_3 : Ref sig .tc := ⟨.hbm, 246, rfl⟩
abbrev main_call11_v12 : Ref sig .tc := ⟨.hbm, 247, rfl⟩
abbrev main_call11_v13 : Ref sig .tc := ⟨.hbm, 248, rfl⟩
abbrev main_call11_v14 : Ref sig .tc := ⟨.hbm, 249, rfl⟩
abbrev main_call11_cst : Ref sig .tc := ⟨.hbm, 250, rfl⟩
abbrev main_call11_v15 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_v119 : Ref sig .tc := ⟨.hbm, 259, rfl⟩
abbrev main_call12_c : Ref sig .tc := ⟨.hbm, 260, rfl⟩
abbrev main_call12_v0 : Ref sig .tc := ⟨.hbm, 261, rfl⟩
abbrev main_call12_v1 : Ref sig .tc := ⟨.hbm, 262, rfl⟩
abbrev main_call12_c_0 : Ref sig .tc := ⟨.hbm, 263, rfl⟩
abbrev main_call12_v2 : Ref sig .tc := ⟨.hbm, 264, rfl⟩
abbrev main_call12_v3 : Ref sig .tc := ⟨.hbm, 265, rfl⟩
abbrev main_call12_v4 : Ref sig .tc := ⟨.hbm, 266, rfl⟩
abbrev main_call12_v5 : Ref sig .tc := ⟨.hbm, 267, rfl⟩
abbrev main_call12_c_1 : Ref sig .tc := ⟨.hbm, 268, rfl⟩
abbrev main_call12_c_2 : Ref sig .tc := ⟨.hbm, 269, rfl⟩
abbrev main_call12_v6 : Ref sig .tc := ⟨.hbm, 270, rfl⟩
abbrev main_call12_v7 : Ref sig .tc := ⟨.hbm, 271, rfl⟩
abbrev main_call12_v8 : Ref sig .tc := ⟨.hbm, 272, rfl⟩
abbrev main_call12_v9 : Ref sig .tc := ⟨.hbm, 273, rfl⟩
abbrev main_call12_v10 : Ref sig .tc := ⟨.hbm, 274, rfl⟩
abbrev main_call12_v11 : Ref sig .tc := ⟨.hbm, 275, rfl⟩
abbrev main_call12_c_3 : Ref sig .tc := ⟨.hbm, 276, rfl⟩
abbrev main_call12_v12 : Ref sig .tc := ⟨.hbm, 277, rfl⟩
abbrev main_call12_v13 : Ref sig .tc := ⟨.hbm, 278, rfl⟩
abbrev main_call12_v14 : Ref sig .tc := ⟨.hbm, 279, rfl⟩
abbrev main_call12_cst : Ref sig .tc := ⟨.hbm, 280, rfl⟩
abbrev main_call12_v15 : Ref sig .tc := ⟨.hbm, 281, rfl⟩
abbrev main_v120 : Ref sig .tc := ⟨.hbm, 282, rfl⟩
abbrev main_v121 : Ref sig .tc := ⟨.hbm, 283, rfl⟩
abbrev main_v122 : Ref sig .tc := ⟨.hbm, 284, rfl⟩
abbrev main_call13_c : Ref sig .tc := ⟨.hbm, 285, rfl⟩
abbrev main_call13_v0 : Ref sig .tc := ⟨.hbm, 286, rfl⟩
abbrev main_call13_v1 : Ref sig .tc := ⟨.hbm, 287, rfl⟩
abbrev main_call13_c_0 : Ref sig .tc := ⟨.hbm, 288, rfl⟩
abbrev main_call13_v2 : Ref sig .tc := ⟨.hbm, 289, rfl⟩
abbrev main_call13_v3 : Ref sig .tc := ⟨.hbm, 290, rfl⟩
abbrev main_call13_v4 : Ref sig .tc := ⟨.hbm, 291, rfl⟩
abbrev main_call13_v5 : Ref sig .tc := ⟨.hbm, 292, rfl⟩
abbrev main_call13_c_1 : Ref sig .tc := ⟨.hbm, 293, rfl⟩
abbrev main_call13_c_2 : Ref sig .tc := ⟨.hbm, 294, rfl⟩
abbrev main_call13_v6 : Ref sig .tc := ⟨.hbm, 295, rfl⟩
abbrev main_call13_v7 : Ref sig .tc := ⟨.hbm, 296, rfl⟩
abbrev main_call13_v8 : Ref sig .tc := ⟨.hbm, 297, rfl⟩
abbrev main_call13_v9 : Ref sig .tc := ⟨.hbm, 298, rfl⟩
abbrev main_call13_v10 : Ref sig .tc := ⟨.hbm, 299, rfl⟩
abbrev main_call13_v11 : Ref sig .tc := ⟨.hbm, 300, rfl⟩
abbrev main_call13_c_3 : Ref sig .tc := ⟨.hbm, 301, rfl⟩
abbrev main_call13_v12 : Ref sig .tc := ⟨.hbm, 302, rfl⟩
abbrev main_call13_v13 : Ref sig .tc := ⟨.hbm, 303, rfl⟩
abbrev main_call13_v14 : Ref sig .tc := ⟨.hbm, 304, rfl⟩
abbrev main_call13_cst : Ref sig .tc := ⟨.hbm, 305, rfl⟩
abbrev main_call13_v15 : Ref sig .tc := ⟨.hbm, 306, rfl⟩
abbrev main_v123 : Ref sig .tc := ⟨.hbm, 307, rfl⟩
abbrev main_v124 : Ref sig .tc := ⟨.hbm, 308, rfl⟩
abbrev main_v48 : Ref sig .tc := ⟨.smem, 0, rfl⟩
abbrev main_v53 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![152], ![false]⟩

abbrev pre0 : Pipeline.Prefetch sig := ⟨2, ![main_v48.idx, main_v53.idx], fun | 0 => main_v48.names | 1 => main_v53.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S34816x1024 : Shape := ⟨2, ![34816, 1024]⟩
abbrev S34816x2 : Shape := ⟨2, ![34816, 2]⟩
abbrev S16x1024x512 : Shape := ⟨3, ![16, 1024, 512]⟩
abbrev S16x512x1024 : Shape := ⟨3, ![16, 512, 1024]⟩
abbrev S34816x2x1 : Shape := ⟨3, ![34816, 2, 1]⟩
abbrev S1x1x16 : Shape := ⟨3, ![1, 1, 16]⟩
abbrev S34816x2x16 : Shape := ⟨3, ![34816, 2, 16]⟩
abbrev S_ : Shape := ⟨0, ![]⟩
abbrev S34816x16 : Shape := ⟨2, ![34816, 16]⟩
abbrev S34816x16x512 : Shape := ⟨3, ![34816, 16, 512]⟩
abbrev S16x1024x34816 : Shape := ⟨3, ![16, 1024, 34816]⟩
abbrev S34816x16x1024 : Shape := ⟨3, ![34816, 16, 1024]⟩
abbrev S34816x16x1 : Shape := ⟨3, ![34816, 16, 1]⟩

abbrev nBuf : Space → Nat
  | .hbm => 36
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S34816x2, .i32⟩
  | .hbm, ⟨2, _⟩ => ⟨S34816x2, .f32⟩
  | .hbm, ⟨3, _⟩ => ⟨S16x1024x512, .f32⟩
  | .hbm, ⟨4, _⟩ => ⟨S16x1024x512, .f32⟩
  | .hbm, ⟨5, _⟩ => ⟨S16x512x1024, .f32⟩
  | .hbm, ⟨6, _⟩ => ⟨S34816x2x1, .i32⟩
  | .hbm, ⟨7, _⟩ => ⟨S1x1x16, .i32⟩
  | .hbm, ⟨8, _⟩ => ⟨S34816x2x16, .i32⟩
  | .hbm, ⟨9, _⟩ => ⟨S34816x2x16, .i32⟩
  | .hbm, ⟨10, _⟩ => ⟨S34816x2x16, .i1⟩
  | .hbm, ⟨11, _⟩ => ⟨S34816x2x16, .f32⟩
  | .hbm, ⟨12, _⟩ => ⟨S34816x2x1, .f32⟩
  | .hbm, ⟨13, _⟩ => ⟨S34816x2x16, .f32⟩
  | .hbm, ⟨14, _⟩ => ⟨S34816x2x16, .f32⟩
  | .hbm, ⟨15, _⟩ => ⟨S_, .f32⟩
  | .hbm, ⟨16, _⟩ => ⟨S34816x16, .f32⟩
  | .hbm, ⟨17, _⟩ => ⟨S34816x16x512, .f32⟩
  | .hbm, ⟨18, _⟩ => ⟨S34816x16x512, .f32⟩
  | .hbm, ⟨19, _⟩ => ⟨S34816x16x512, .f32⟩
  | .hbm, ⟨20, _⟩ => ⟨S_, .f32⟩
  | .hbm, ⟨21, _⟩ => ⟨S34816x16x512, .f32⟩
  | .hbm, ⟨22, _⟩ => ⟨S34816x16x512, .f32⟩
  | .hbm, ⟨23, _⟩ => ⟨S_, .f32⟩
  | .hbm, ⟨24, _⟩ => ⟨S34816x16x512, .f32⟩
  | .hbm, ⟨25, _⟩ => ⟨S34816x16x512, .f32⟩
  | .hbm, ⟨26, _⟩ => ⟨S34816x16x512, .f32⟩
  | .hbm, ⟨27, _⟩ => ⟨S34816x16x512, .f32⟩
  | .hbm, ⟨28, _⟩ => ⟨S34816x16x512, .f32⟩
  | .hbm, ⟨29, _⟩ => ⟨S16x1024x34816, .f32⟩
  | .hbm, ⟨30, _⟩ => ⟨S34816x16x1024, .f32⟩
  | .hbm, ⟨31, _⟩ => ⟨S34816x16x1, .f32⟩
  | .hbm, ⟨32, _⟩ => ⟨S34816x16x1024, .f32⟩
  | .hbm, ⟨33, _⟩ => ⟨S34816x16x1024, .f32⟩
  | .hbm, ⟨34, _⟩ => ⟨S_, .f32⟩
  | .hbm, ⟨35, _⟩ => ⟨S34816x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== Kernel3.lean ====
abbrev S8x4096x1024 : Shape := ⟨3, ![8, 4096, 1024]⟩
abbrev S9x1x1024 : Shape := ⟨3, ![9, 1, 1024]⟩
abbrev S1024 : Shape := ⟨1, ![1024]⟩
abbrev S1024x2144 : Shape := ⟨2, ![1024, 2144]⟩
abbrev S192 : Shape := ⟨1, ![192]⟩
abbrev S192x384 : Shape := ⟨2, ![192, 384]⟩
abbrev S128 : Shape := ⟨1, ![128]⟩
abbrev S128x512 : Shape := ⟨2, ![128, 512]⟩
abbrev S1x1x1024 : Shape := ⟨3, ![1, 1, 1024]⟩
abbrev S_ : Shape := ⟨0, ![]⟩
abbrev S256 : Shape := ⟨1, ![256]⟩
abbrev S1x256 : Shape := ⟨2, ![1, 256]⟩
abbrev S1x128 : Shape := ⟨2, ![1, 128]⟩
abbrev S32768x1024 : Shape := ⟨2, ![32768, 1024]⟩
abbrev S1024x1792 : Shape := ⟨2, ![1024, 1792]⟩
abbrev S1024x192 : Shape := ⟨2, ![1024, 192]⟩
abbrev S1024x64 : Shape := ⟨2, ![1024, 64]⟩
abbrev S1024x128 : Shape := ⟨2, ![1024, 128]⟩
abbrev S1024x32 : Shape := ⟨2, ![1024, 32]⟩
abbrev S1024x96 : Shape := ⟨2, ![1024, 96]⟩
abbrev S1024x2304 : Shape := ⟨2, ![1024, 2304]⟩
abbrev S192x4x96 : Shape := ⟨3, ![192, 4, 96]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S128x256 : Shape := ⟨2, ![128, 256]⟩
abbrev S128x768 : Shape := ⟨2, ![128, 768]⟩
abbrev S128x128 : Shape := ⟨2, ![128, 128]⟩
abbrev S128x32 : Shape := ⟨2, ![128, 32]⟩
abbrev S1x128x1x128 : Shape := ⟨4, ![1, 128, 1, 128]⟩
abbrev S1x128x4x128 : Shape := ⟨4, ![1, 128, 4, 128]⟩
abbrev S256x768 : Shape := ⟨2, ![256, 768]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S4096x80 : Shape := ⟨2, ![4096, 80]⟩
abbrev S4096x48 : Shape := ⟨2, ![4096, 48]⟩
abbrev S32768x768 : Shape := ⟨2, ![32768, 768]⟩
abbrev S32768x512 : Shape := ⟨2, ![32768, 512]⟩
abbrev S32768x256 : Shape := ⟨2, ![32768, 256]⟩
abbrev S512x1024 : Shape := ⟨2, ![512, 1024]⟩
abbrev S512x128 : Shape := ⟨2, ![512, 128]⟩
abbrev S512x768 : Shape := ⟨2, ![512, 768]⟩
abbrev S512x512 : Shape := ⟨2, ![512, 512]⟩
abbrev S512x256 : Shape := ⟨2, ![512, 256]⟩
abbrev S2x256x2304 : Shape := ⟨3, ![2, 256, 2304]⟩
abbrev S256x1024 : Shape := ⟨2, ![256, 1024]⟩
abbrev S256x1 : Shape := ⟨2, ![256, 1]⟩
abbrev S1x1024 : Shape := ⟨2, ![1, 1024]⟩
abbrev S256x2304 : Shape := ⟨2, ![256, 2304]⟩
abbrev S1x256x2304 : Shape := ⟨3, ![1, 256, 2304]⟩
abbrev S1x256x768 : Shape := ⟨3, ![1, 256, 768]⟩
abbrev S1x256x512 : Shape := ⟨3, ![1, 256, 512]⟩
abbrev S256x128 : Shape := ⟨2, ![256, 128]⟩
abbrev S1x256x256 : Shape := ⟨3, ![1, 256, 256]⟩
abbrev S256x256 : Shape := ⟨2, ![256, 256]⟩
abbrev S1x256x128 : Shape := ⟨3, ![1, 256, 128]⟩

abbrev nBuf : Space → Nat
  | .hbm => 117
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S9x1x1024, .f32⟩
  | .hbm, ⟨2, _⟩ => ⟨S9x1x1024, .f32⟩
  | .hbm, ⟨3, _⟩ => ⟨S1024, .f32⟩
  | .hbm, ⟨4, _⟩ => ⟨S1024x2144, .f32⟩
  | .hbm, ⟨5, _⟩ => ⟨S192, .f32⟩
  | .hbm, ⟨6, _⟩ => ⟨S192x384, .f32⟩
  | .hbm, ⟨7, _⟩ => ⟨S128, .f32⟩
  | .hbm, ⟨8, _⟩ => ⟨S128x512, .f32⟩
  | .hbm, ⟨9, _⟩ => ⟨S1x1x1024, .f32⟩
  | .hbm, ⟨10, _⟩ => ⟨S_, .f32⟩
  | .hbm, ⟨11, _⟩ => ⟨S9x1x1024, .f32⟩
  | .hbm, ⟨12, _⟩ => ⟨S9x1x1024, .f32⟩
  | .hbm, ⟨13, _⟩ => ⟨S9x1x1024, .f32⟩
  | .hbm, ⟨14, _⟩ => ⟨S9x1x1024, .f32⟩
  | .hbm, ⟨15, _⟩ => ⟨S_, .i32⟩
  | .hbm, ⟨16, _⟩ => ⟨S_, .f32⟩
  | .hbm, ⟨17, _⟩ => ⟨S256, .f32⟩
  | .hbm, ⟨18, _⟩ => ⟨S1x256, .f32⟩
  | .hbm, ⟨19, _⟩ => ⟨S1x128, .f32⟩
  | .hbm, ⟨20, _⟩ => ⟨S32768x1024, .f32⟩
  | .hbm, ⟨21, _⟩ => ⟨S1024x1792, .f32⟩
  | .hbm, ⟨22, _⟩ => ⟨S1024x192, .f32⟩
  | .hbm, ⟨23, _⟩ => ⟨S_, .f32⟩
  | .hbm, ⟨24, _⟩ => ⟨S1024x64, .f32⟩
  | .hbm, ⟨25, _⟩ => ⟨S1024x128, .f32⟩
  | .hbm, ⟨26, _⟩ => ⟨S1024x32, .f32⟩
  | .hbm, ⟨27, _⟩ => ⟨S_, .f32⟩
  | .hbm, ⟨28, _⟩ => ⟨S1024x96, .f32⟩
  | .hbm, ⟨29, _⟩ => ⟨S1024x2304, .f32⟩
  | .hbm, ⟨30, _⟩ => ⟨S1024x2304, .bf16⟩
  | .hbm, ⟨31, _⟩ => ⟨S192x4x96, .f32⟩
  | .hbm, ⟨32, _⟩ => ⟨S_, .i32⟩
  | .hbm, ⟨33, _⟩ => ⟨S_, .f32⟩
  | .hbm, ⟨34, _⟩ => ⟨S256x4x128, .f32⟩
  | .hbm, ⟨35, _⟩ => ⟨S256x512, .f32⟩
  | .hbm, ⟨36, _⟩ => ⟨S256x512, .bf16⟩
  | .hbm, ⟨37, _⟩ => ⟨S128x4x128, .f32⟩
  | .hbm, ⟨38, _⟩ => ⟨S128x4x64, .f32⟩
  | .hbm, ⟨39, _⟩ => ⟨S_, .i32⟩
  | .hbm, ⟨40, _⟩ => ⟨S_, .f32⟩
  | .hbm, ⟨41, _⟩ => ⟨S128x4x128, .f32⟩
  | .hbm, ⟨42, _⟩ => ⟨S128x512, .f32⟩
  | .hbm, ⟨43, _⟩ => ⟨S128x4x64, .f32⟩
  | .hbm, ⟨44, _⟩ => ⟨S128x256, .f32⟩
  | .hbm, ⟨45, _⟩ => ⟨S128x768, .f32⟩
  | .hbm, ⟨46, _⟩ => ⟨S128x128, .i32⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .f32⟩
  | .hbm, ⟨53, _⟩ => ⟨S128x32, .f32⟩
  | .hbm, ⟨54, _⟩ => ⟨S_, .i32⟩
  | .hbm, ⟨55, _⟩ => ⟨S_, .f32⟩
  | .hbm, ⟨56, _⟩ => ⟨S128x128, .f32⟩
  | .hbm, ⟨57, _⟩ => ⟨S1x128x1x128, .f32⟩
  | .hbm, ⟨58, _⟩ => ⟨S1x128x4x128, .f32⟩
  | .hbm, ⟨59, _⟩ => ⟨S128x512, .f32⟩
  | .hbm, ⟨60, _⟩ => ⟨S_, .f32⟩
  | .hbm, ⟨61, _⟩ => ⟨S128x256, .f32⟩
  | .hbm, ⟨62, _⟩ => ⟨S128x768, .f32⟩
  | .hbm, ⟨63, _⟩ => ⟨S256x768, .f32⟩
  | .hbm, ⟨64, _⟩ => ⟨S256x768, .bf16⟩
  | .hbm, ⟨65, _⟩ => ⟨S64, .i32⟩
  | .hbm, ⟨66, _⟩ => ⟨S64x64, .i32⟩
  | .hbm, ⟨67, _⟩ => ⟨S4096, .i32⟩
  | .hbm, ⟨68, _⟩ => ⟨S4096, .f32⟩
  | .hbm, ⟨69, _⟩ => ⟨S64, .i32⟩
  | .hbm, ⟨70, _⟩ => ⟨S1x64, .i32⟩
  | .hbm, ⟨71, _⟩ => ⟨S64x64, .i32⟩
  | .hbm, ⟨72, _⟩ => ⟨S4096, .i32⟩
  | .hbm, ⟨73, _⟩ => ⟨S4096, .f32⟩
  | .hbm, ⟨74, _⟩ => ⟨S8, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S4096x1, .f32⟩
  | .hbm, ⟨83, _⟩ => ⟨S1x8, .f32⟩
  | .hbm, ⟨84, _⟩ => ⟨S4096x8, .f32⟩
  | .hbm, ⟨85, _⟩ => ⟨S4096x8, .f32⟩
  | .hbm, ⟨86, _⟩ => ⟨S4096x8, .f32⟩
  | .hbm, ⟨87, _⟩ => ⟨S4096x1, .f32⟩
  | .hbm, ⟨88, _⟩ => ⟨S1x8, .f32⟩
  | .hbm, ⟨89, _⟩ => ⟨S4096x8, .f32⟩
  | .hbm, ⟨90, _⟩ => ⟨S4096x8, .f32⟩
  | .hbm, ⟨91, _⟩ => ⟨S4096x8, .f32⟩
  | .hbm, ⟨92, _⟩ => ⟨S4096x16, .f32⟩
  | .hbm, ⟨93, _⟩ => ⟨S4096x16, .f32⟩
  | .hbm, ⟨94, _⟩ => ⟨S4096x16, .f32⟩
  | .hbm, ⟨95, _⟩ => ⟨S_, .f32⟩
  | .hbm, ⟨96, _⟩ => ⟨S4096x64, .f32⟩
  | .hbm, ⟨97, _⟩ => ⟨S_, .f32⟩
  | .hbm, ⟨98, _⟩ => ⟨S4096x32, .f32⟩
  | .hbm, ⟨99, _⟩ => ⟨S4096x128, .f32⟩
  | .hbm, ⟨100, _⟩ => ⟨S_, .f32⟩
  | .hbm, ⟨101, _⟩ => ⟨S4096x80, .f32⟩
  | .hbm, ⟨102, _⟩ => ⟨S_, .f32⟩
  | .hbm, ⟨103, _⟩ => ⟨S4096x32, .f32⟩
  | .hbm, ⟨104, _⟩ => ⟨S4096x128, .f32⟩
  | .hbm, ⟨105, _⟩ => ⟨S_, .f32⟩
  | .hbm, ⟨106, _⟩ => ⟨S4096x64, .f32⟩
  | .hbm, ⟨107, _⟩ => ⟨S4096x16, .f32⟩
  | .hbm, ⟨108, _⟩ => ⟨S_, .f32⟩
  | .hbm, ⟨109, _⟩ => ⟨S4096x48, .f32⟩
  | .hbm, ⟨110, _⟩ => ⟨S4096x128, .f32⟩
  | .hbm, ⟨111, _⟩ => ⟨S32768x768, .f32⟩
  | .hbm, ⟨112, _⟩ => ⟨S32768x512, .f32⟩
  | .hbm, ⟨113, _⟩ => ⟨S32768x512, .f32⟩
  | .hbm, ⟨114, _⟩ => ⟨S32768x512, .bf16⟩
  | .hbm, ⟨115, _⟩ => ⟨S32768x512, .bf16⟩
  | .hbm, ⟨116, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x2304, .bf16⟩
  | .local _ .vmem, ⟨7, _⟩ => ⟨S1x256, .f32⟩
  | .local _ .vmem, ⟨8, _⟩ => ⟨S256x512, .bf16⟩
  | .local _ .vmem, ⟨9, _⟩ => ⟨S1x128, .f32⟩
  | .local _ .vmem, ⟨10, _⟩ => ⟨S256x768, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x768, .f32⟩
  | .local _ .vmem, ⟨18, _⟩ => ⟨S512x768, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x256, .bf16⟩
  | .local _ .vmem, ⟨28, _⟩ => ⟨S512x256, .bf16⟩
  | .local _ .vmem, ⟨29, _⟩ => ⟨S2x256x2304, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_call1_v0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_call2_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_call3_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_7 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_cst_12 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_v81_0 : Ref sig .tc := ⟨.hbm, 111, rfl⟩
abbrev main_v81_1 : Ref sig .tc := ⟨.hbm, 112, rfl⟩
abbrev main_v81_2 : Ref sig .tc := ⟨.hbm, 113, rfl⟩
abbrev main_v81_3 : Ref sig .tc := ⟨.hbm, 114, rfl⟩
abbrev main_v81_4 : Ref sig .tc := ⟨.hbm, 115, rfl⟩
abbrev main_v81_5 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x768 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S8x4096x1024 : Shape := ⟨3, ![8, 4096, 1024]⟩
abbrev S9x1x1024 : Shape := ⟨3, ![9, 1, 1024]⟩
abbrev S1024 : Shape := ⟨1, ![1024]⟩
abbrev S1024x2144 : Shape := ⟨2, ![1024, 2144]⟩
abbrev S192 : Shape := ⟨1, ![192]⟩
abbrev S192x384 : Shape := ⟨2, ![192, 384]⟩
abbrev S128 : Shape := ⟨1, ![128]⟩
abbrev S128x512 : Shape := ⟨2, ![128, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2144 : Shape := ⟨3, ![8, 4096, 2144]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x16 : Shape := ⟨2, ![4096, 16]⟩
abbrev S8x4096x192 : Shape := ⟨3, ![8, 4096, 192]⟩
abbrev S1x1x192 : Shape := ⟨3, ![1, 1, 192]⟩
abbrev S8x4096x384 : Shape := ⟨3, ![8, 4096, 384]⟩
abbrev S8x4096x4x96 : Shape := ⟨4, ![8, 4096, 4, 96]⟩
abbrev S8x4096x128 : Shape := ⟨3, ![8, 4096, 128]⟩
abbrev S1x1x128 : Shape := ⟨3, ![1, 1, 128]⟩
abbrev S8x4096x512 : Shape := ⟨3, ![8, 4096, 512]⟩
abbrev S8x4096x4x128 : Shape := ⟨4, ![8, 4096, 4, 128]⟩
abbrev S8x4096x32 : Shape := ⟨3, ![8, 4096, 32]⟩
abbrev S1x4096x16 : Shape := ⟨3, ![1, 4096, 16]⟩
abbrev S8x4096x16 : Shape := ⟨3, ![8, 4096, 16]⟩
abbrev S8x4096x4x64 : Shape := ⟨4, ![8, 4096, 4, 64]⟩
abbrev S8x4096x4x32 : Shape := ⟨4, ![8, 4096, 4, 32]⟩
abbrev S1x4096x1x16 : Shape := ⟨4, ![1, 4096, 1, 16]⟩
abbrev S8x4096x4x16 : Shape := ⟨4, ![8, 4096, 4, 16]⟩
abbrev S8x4096x1x32 : Shape := ⟨4, ![8, 4096, 1, 32]⟩
abbrev S32768x2144 : Shape := ⟨2, ![32768, 2144]⟩
abbrev S32768x768 : Shape := ⟨2, ![32768, 768]⟩
abbrev S32768x512 : Shape := ⟨2, ![32768, 512]⟩
abbrev S32768x256 : Shape := ⟨2, ![32768, 256]⟩

abbrev nBuf : Space → Nat
  | .hbm => 156
  | .vmem => 0
  | .smem => 0
  | _ => 0

abbrev hbmTy0_0 (i : Nat) : BufTy := match i % 128 with
  | 0 => ⟨S8x4096x1024, .f32⟩
  | 1 => ⟨S9x1x1024, .f32⟩
  | 2 => ⟨S9x1x1024, .f32⟩
  | 3 => ⟨S1024, .f32⟩
  | 4 => ⟨S1024x2144, .f32⟩
  | 5 => ⟨S192, .f32⟩
  | 6 => ⟨S192x384, .f32⟩
  | 7 => ⟨S128, .f32⟩
  | 8 => ⟨S128x512, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S8x1x1024, .f32⟩
  | 26 => ⟨S_, .f32⟩
  | 27 => ⟨S8x1x1024, .f32⟩
  | 28 => ⟨S8x1x1024, .f32⟩
  | 29 => ⟨S8x4096x1024, .f32⟩
  | 30 => ⟨S8x4096x1024, .f32⟩
  | 31 => ⟨S8x1x1024, .f32⟩
  | 32 => ⟨S8x4096x1024, .f32⟩
  | 33 => ⟨S8x4096x1024, .f32⟩
  | 34 => ⟨S8x4096x2144, .f32⟩
  | 35 => ⟨S64, .i32⟩
  | 36 => ⟨S64x64, .i32⟩
  | 37 => ⟨S4096, .i32⟩
  | 38 => ⟨S4096, .f32⟩
  | 39 => ⟨S64, .i32⟩
  | 40 => ⟨S1x64, .i32⟩
  | 41 => ⟨S64x64, .i32⟩
  | 42 => ⟨S4096, .i32⟩
  | 43 => ⟨S4096, .f32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S4096x1, .f32⟩
  | 53 => ⟨S1x8, .f32⟩
  | 54 => ⟨S4096x8, .f32⟩
  | 55 => ⟨S4096x8, .f32⟩
  | 56 => ⟨S4096x8, .f32⟩
  | 57 => ⟨S4096x1, .f32⟩
  | 58 => ⟨S1x8, .f32⟩
  | 59 => ⟨S4096x8, .f32⟩
  | 60 => ⟨S4096x8, .f32⟩
  | 61 => ⟨S4096x8, .f32⟩
  | 62 => ⟨S4096x16, .f32⟩
  | 63 => ⟨S4096x16, .f32⟩
  | 64 => ⟨S4096x16, .f32⟩
  | 65 => ⟨S8x4096x192, .f32⟩
  | 66 => ⟨S8x4096x192, .f32⟩
  | 67 => ⟨S_, .f32⟩
  | 68 => ⟨S8x4096, .f32⟩
  | 69 => ⟨S8x4096x1, .f32⟩
  | 70 => ⟨S_, .f32⟩
  | 71 => ⟨S8x4096x1, .f32⟩
  | 72 => ⟨S8x4096x1, .f32⟩
  | 73 => ⟨S_, .f32⟩
  | 74 => ⟨S8x4096x1, .f32⟩
  | 75 => ⟨S8x4096x1, .f32⟩
  | 76 => ⟨S8x4096x1, .f32⟩
  | 77 => ⟨S8x4096x192, .f32⟩
  | 78 => ⟨S8x4096x192, .f32⟩
  | 79 => ⟨S1x1x192, .f32⟩
  | 80 => ⟨S8x4096x192, .f32⟩
  | 81 => ⟨S8x4096x192, .f32⟩
  | 82 => ⟨S8x4096x384, .f32⟩
  | 83 => ⟨S8x4096x4x96, .f32⟩
  | 84 => ⟨S8x4096x128, .f32⟩
  | 85 => ⟨S8x4096x128, .f32⟩
  | 86 => ⟨S_, .f32⟩
  | 87 => ⟨S8x4096, .f32⟩
  | 88 => ⟨S8x4096x1, .f32⟩
  | 89 => ⟨S_, .f32⟩
  | 90 => ⟨S8x4096x1, .f32⟩
  | 91 => ⟨S8x4096x1, .f32⟩
  | 92 => ⟨S_, .f32⟩
  | 93 => ⟨S8x4096x1, .f32⟩
  | 94 => ⟨S8x4096x1, .f32⟩
  | 95 => ⟨S8x4096x1, .f32⟩
  | 96 => ⟨S8x4096x128, .f32⟩
  | 97 => ⟨S8x4096x128, .f32⟩
  | 98 => ⟨S1x1x128, .f32⟩
  | 99 => ⟨S8x4096x128, .f32⟩
  | 100 => ⟨S8x4096x128, .f32⟩
  | 101 => ⟨S8x4096x512, .f32⟩
  | 102 => ⟨S8x4096x4x128, .f32⟩
  | 103 => ⟨S8x4096x32, .f32⟩
  | 104 => ⟨S1x4096x16, .f32⟩
  | 105 => ⟨S1x4096x16, .f32⟩
  | 106 => ⟨S8x4096x16, .f32⟩
  | 107 => ⟨S8x4096x16, .f32⟩
  | 108 => ⟨S8x4096x16, .f32⟩
  | 109 => ⟨S8x4096x16, .f32⟩
  | 110 => ⟨S8x4096x16, .f32⟩
  | 111 => ⟨S8x4096x16, .f32⟩
  | 112 => ⟨S8x4096x16, .f32⟩
  | 113 => ⟨S8x4096x16, .f32⟩
  | 114 => ⟨S8x4096x16, .f32⟩
  | 115 => ⟨S8x4096x16, .f32⟩
  | 116 => ⟨S8x4096x16, .f32⟩
  | 117 => ⟨S8x4096x16, .f32⟩
  | 118 => ⟨S8x4096x32, .f32⟩
  | 119 => ⟨S8x4096x4x64, .f32⟩
  | 120 => ⟨S8x4096x4x32, .f32⟩
  | 121 => ⟨S1x4096x1x16, .f32⟩
  | 122 => ⟨S1x4096x1x16, .f32⟩
  | 123 => ⟨S8x4096x4x16, .f32⟩
  | 124 => ⟨S8x4096x4x16, .f32⟩
  | 125 => ⟨S8x4096x4x16, .f32⟩
  | 126 => ⟨S8x4096x4x16, .f32⟩
  | 127 => ⟨S8x4096x4x16, .f32⟩
  | _ => ⟨S8x4096x1024, .f32⟩

abbrev hbmTy0_1 (i : Nat) : BufTy := match i % 128 with
  | 0 => ⟨S8x4096x4x16, .f32⟩
  | 1 => ⟨S8x4096x4x16, .f32⟩
  | 2 => ⟨S8x4096x4x16, .f32⟩
  | 3 => ⟨S8x4096x4x16, .f32⟩
  | 4 => ⟨S8x4096x4x16, .f32⟩
  | 5 => ⟨S8x4096x4x16, .f32⟩
  | 6 => ⟨S8x4096x4x16, .f32⟩
  | 7 => ⟨S8x4096x4x32, .f32⟩
  | 8 => ⟨S_, .f32⟩
  | 9 => ⟨S8x4096x4x32, .f32⟩
  | 10 => ⟨S8x4096x4x128, .f32⟩
  | 11 => ⟨S8x4096x4x64, .f32⟩
  | 12 => ⟨S8x4096x1x32, .f32⟩
  | 13 => ⟨S8x4096x4x32, .f32⟩
  | 14 => ⟨S_, .f32⟩
  | 15 => ⟨S8x4096x4x32, .f32⟩
  | 16 => ⟨S8x4096x4x128, .f32⟩
  | 17 => ⟨S32768x2144, .f32⟩
  | 18 => ⟨S32768x768, .f32⟩
  | 19 => ⟨S32768x512, .f32⟩
  | 20 => ⟨S32768x512, .f32⟩
  | 21 => ⟨S32768x512, .f32⟩
  | 22 => ⟨S32768x512, .bf16⟩
  | 23 => ⟨S32768x512, .f32⟩
  | 24 => ⟨S32768x512, .bf16⟩
  | 25 => ⟨S8x4096x4x64, .f32⟩
  | 26 => ⟨S32768x256, .f32⟩
  | 27 => ⟨S32768x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_cst_10 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_11 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_cst_12 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩

abbrev nD : Nat := 1
abbrev τ : Topo := Topo.v7x

variable {F : FTy → Type} [FloatOps F]
-- ==== Proof.Slots.lean ====
module

public import proofs.«01_k».proof.Proof.Gen.KernelIdeal.Frame
public import Idealize.ShloMosaic.Lib.Pipeline.ValueKit
public import Idealize.ShloMosaic.Lib.Pointwise

/-! The score buffer has two slots of 256 rows by 4352 keys. A slot is filled by two stores, its 4096 latent
    keys and its 256 context keys, and read whole; what is read is the two stores side by side, whatever
    was stored before them and whatever stands in the other slot. -/

@[expose] public section

set_option maxRecDepth 16384

noncomputable section

namespace Cert.KernelIdeal.Att

open Cert.KernelIdeal Cert.KernelIdeal.Gen
open Idealize.ShloMosaic Idealize.ShloMosaic.TcCoe Idealize.SL.Sem

/-- Two stores of one slot side by side: the latent keys' scores, then the context keys'. -/
def join (a : FVec Ideal S1x256x4096 .f32) (b : FVec Ideal S1x256x256 .f32) : FVec Ideal S1x256x4352 .f32 := fun x =>
  if h : (x 2 : ℕ) < 4096 then a (ix3 0 (x 1) ⟨x 2, h⟩)
  else b (ix3 0 (x 1) ⟨(x 2 : ℕ) - 4096, by have := (x 2).isLt; simp at this; omega⟩)

variable {sp : Space} (v : View sig .tc sp S2x256x4352 .f32)

/-- The slot at row block `o`, read right after its own two stores. -/
theorem own (o : ℕ) (iC iD iB) (pc : FVec Ideal S1x256x256 .f32) (pd : FVec Ideal S1x256x4096 .f32)
    (L : List (View.Piece (Elt Ideal) S2x256x4352 .f32)) :
    v.readCov ((⟨Rect.unit ![o, 0, 4096] ![1, 256, 256] iC, pc⟩ : View.Piece (Elt Ideal) S2x256x4352 .f32)
      :: ⟨Rect.unit ![o, 0, 0] ![1, 256, 4096] iD, pd⟩ :: L) (Rect.unit ![o, 0, 0] ![1, 256, 4352] iB).toLoadRect
      = join pd pc := by
  rw [View.readCov_eq_canon']
  funext x
  have hx2 : (x 2 : ℕ) < 4352 := (x 2).isLt
  have hx0 : (x 0 : ℕ) < 1 := (x 0).isLt
  beta_reduce
  unfold join
  by_cases h : (x 2 : ℕ) < 4096
  · rw [dif_pos h, View.canon_cons_of_not_mem]
    · have e : (Rect.unit ![o, 0, 0] ![1, 256, 4352] iB).toLoadRect.idx x
          = (Rect.unit (s := S2x256x4352) ![o, 0, 0] ![1, 256, 4096] iD).emb (ix3 0 (x 1) ⟨x 2, h⟩) := by
        funext a; apply Fin.ext; fin_cases a
        · show o + 1 * (x 0 : ℕ) = o + 1 * 0; omega
        · rfl
        · rfl
      rw [e]; exact View.canon_cons_emb _ _ _ _
    · refine Rect.not_mem_set_of_axis _ _ (2 : Fin 3) 4096 256 rfl rfl rfl (Or.inl ?_)
      show 0 + 1 * (x 2 : ℕ) < 4096; omega
  · rw [dif_neg h]
    have e : (Rect.unit ![o, 0, 0] ![1, 256, 4352] iB).toLoadRect.idx x
        = (Rect.unit (s := S2x256x4352) ![o, 0, 4096] ![1, 256, 256] iC).emb (ix3 0 (x 1) ⟨(x 2 : ℕ) - 4096, by omega⟩) := by
      funext a; apply Fin.ext; fin_cases a
      · show o + 1 * (x 0 : ℕ) = o + 1 * 0; omega
      · rfl
      · show 0 + 1 * (x 2 : ℕ) = 4096 + 1 * ((x 2 : ℕ) - 4096); omega
    rw [e]; exact View.canon_cons_emb _ _ _ _

/-- A store into the one slot does not change what is read of the other. -/
theorem other (o o' k n : ℕ) (ho : o ≠ o') (iC iB) (pc : FVec Ideal ⟨3, ![1, 256, n]⟩ .f32)
    (L : List (View.Piece (Elt Ideal) S2x256x4352 .f32)) :
    v.readCov ((⟨Rect.unit ![o', 0, k] ![1, 256, n] iC, pc⟩ : View.Piece (Elt Ideal) S2x256x4352 .f32) :: L)
        (Rect.unit ![o, 0, 0] ![1, 256, 4352] iB).toLoadRect
      = v.readCov L (Rect.unit ![o, 0, 0] ![1, 256, 4352] iB).toLoadRect := by
  rw [View.readCov_eq_canon', View.readCov_eq_canon']
  funext x
  have hx0 : (x 0 : ℕ) < 1 := (x 0).isLt
  beta_reduce
  refine View.canon_cons_of_not_mem _ _ ?_
  refine Rect.not_mem_set_of_axis _ _ (0 : Fin 3) o' 1 rfl rfl rfl ?_
  show o + 1 * (x 0 : ℕ) < o' ∨ o' + 1 ≤ o + 1 * (x 0 : ℕ); omega

end Cert.KernelIdeal.Att

end
-- ==== Proof.Softmax.lean ====
module

public import Idealize.ShloMosaic.Lib.Pointwise
public import Mathlib.Data.EReal.Inv
public import Mathlib.Analysis.SpecialFunctions.Pow.Real

/-! The mathematics the attention proof rests on, over extended reals: a softmax taken in base two of
    scores scaled by `1 / log 2`, and divided out after the product with the values, is the softmax in
    base `e` divided out before it. -/

@[expose] public section

noncomputable section

namespace Cert.Softmax

open Idealize.ShloMosaic

/-- A finite factor that is not negative passes into a finite sum of extended reals from the right. -/
theorem sum_mul_real {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- A finite sum of real numbers, taken as extended reals, is the real sum. -/
theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The running maximum from `⊥` of finitely many real numbers is attained. -/
theorem fold_max_attained {ι : Type} [Fintype ι] [Nonempty ι] (a : ι → ℝ) :
    ∃ k₀, (∀ k, a k ≤ a k₀) ∧ Finset.univ.fold max (⊥ : EReal) (fun k => ((a k : ℝ) : EReal)) = (a k₀ : EReal) := by
  obtain ⟨k₀, -, h⟩ := Finset.exists_max_image Finset.univ a Finset.univ_nonempty
  refine ⟨k₀, fun k => h k (Finset.mem_univ k), ?_⟩
  refine le_antisymm ?_ ?_
  · refine (Finset.sup_le fun k _ => ?_ : Finset.univ.sup (fun k => ((a k : ℝ) : EReal)) ≤ _)
    exact EReal.coe_le_coe_iff.mpr (h k (Finset.mem_univ k))
  · exact (Finset.le_sup (f := fun k => ((a k : ℝ) : EReal)) (Finset.mem_univ k₀) : _ ≤ Finset.univ.sup _)

/-- Two to the power `x / log 2` is `e` to the power `x`. -/
theorem two_rpow (x : ℝ) : Real.rpow 2 ((Real.log 2)⁻¹ * x) = Real.exp x := by
  have h2 : Real.log 2 ≠ 0 := ne_of_gt (Real.log_pos one_lt_two)
  show (2 : ℝ) ^ ((Real.log 2)⁻¹ * x) = _
  rw [Real.rpow_def_of_pos two_pos, ← mul_assoc, mul_inv_cancel₀ h2, one_mul]

/-- Dividing by a positive real is multiplying by its inverse. -/
theorem div_real (x : EReal) (d : ℝ) (hd : 0 < d) : Ideal.div x (d : EReal) = x * ((d⁻¹ : ℝ) : EReal) := by
  unfold Ideal.div
  rw [if_neg (by exact_mod_cast ne_of_gt hd), EReal.coe_inv]

/-- THE SOFTMAX STEP. Finite scores `a`, any values `v`: exponentials in base two of the scores times
    `1 / log 2`, their maximum subtracted, summed against the values and divided by their own sum, are the
    values weighted by the softmax of `a` in base `e`. -/
theorem attend {ι : Type} [Fintype ι] [Nonempty ι] (a : ι → ℝ) (v : ι → EReal) :
    Ideal.div (∑ k, Ideal.exp2 ((((Real.log 2)⁻¹ * a k : ℝ) : EReal)
          - Finset.univ.fold max (⊥ : EReal) fun j => (((Real.log 2)⁻¹ * a j : ℝ) : EReal)) * v k)
        (∑ k, Ideal.exp2 ((((Real.log 2)⁻¹ * a k : ℝ) : EReal)
          - Finset.univ.fold max (⊥ : EReal) fun j => (((Real.log 2)⁻¹ * a j : ℝ) : EReal)))
      = ∑ k, v k * Ideal.div (Ideal.exp ((a k : EReal) - Finset.univ.fold max (⊥ : EReal) fun j => (a j : EReal)))
          (∑ k, Ideal.exp ((a k : EReal) - Finset.univ.fold max (⊥ : EReal) fun j => (a j : EReal))) := by
  have hL : 0 < (Real.log 2)⁻¹ := inv_pos.mpr (Real.log_pos one_lt_two)
  obtain ⟨k₀, hmax, hfold⟩ := fold_max_attained a
  obtain ⟨k₁, hmax', hfold'⟩ := fold_max_attained fun k => (Real.log 2)⁻¹ * a k
  have hk : a k₁ = a k₀ :=
    le_antisymm (hmax k₁) (le_of_mul_le_mul_left (hmax' k₀) hL)
  rw [hfold, hfold', hk]
  have e2 : ∀ k, Ideal.exp2 ((((Real.log 2)⁻¹ * a k : ℝ) : EReal) - (((Real.log 2)⁻¹ * a k₀ : ℝ) : EReal))
      = ((Real.exp (a k - a k₀) : ℝ) : EReal) := fun k => by
    rw [← EReal.coe_sub, ← mul_sub]
    exact congrArg Real.toEReal (two_rpow (a k - a k₀))
  have e1 : ∀ k, Ideal.exp ((a k : EReal) - (a k₀ : EReal)) = ((Real.exp (a k - a k₀) : ℝ) : EReal) := fun k => by
    rw [← EReal.coe_sub]; rfl
  simp only [e1, e2]
  have hD : 0 < ∑ k, Real.exp (a k - a k₀) := Finset.sum_pos (fun k _ => Real.exp_pos _) Finset.univ_nonempty
  rw [coe_sum, div_real _ _ hD, sum_mul_real _ _ _ (le_of_lt (inv_pos.mpr hD))]
  refine Finset.sum_congr rfl fun k _ => ?_
  rw [div_real _ _ hD, mul_assoc, mul_comm (v k), ← mul_assoc, mul_comm, mul_comm (v k)]

end Cert.Softmax

end
-- ==== Proof.Block.lean ====
module

public import proofs.«01_k».proof.Proof.Slots
public import proofs.«01_k».proof.Proof.Softmax

/-! What one store of the kernel holds: of 256 query rows, the four heads' attention outputs side by side. -/

@[expose] public section

set_option maxRecDepth 16384

noncomputable section

namespace Cert.KernelIdeal.Att

open Cert.KernelIdeal Cert.KernelIdeal.Gen
open Idealize.ShloMosaic Idealize.ShloMosaic.TcCoe Idealize.SL.Sem

/-- The column numbers the head masks are made of. -/
abbrev cols : IVec S1x256 32 := iota Kind.tc S1x256 32 [1] iota_S1x256_d1_w32

/-- The first store of a block, over the four heads' scores and the two value blocks. -/
def upper (s0 s1 s2 s3 : FVec Ideal S1x256x4352 .f32) (va : FVec Ideal S4096x256 .bf16) (vb : FVec Ideal S256x256 .bf16) :
    FVec Ideal S256x256 .f32 :=
  k0_pay33 cols
    (k0_pay27 cols (k0_pay17 (k0_pay9 cols s0 va vb) (k0_pay14 s1 va vb) (k0_pay15 cols) k0_pay16)
      (k0_pay22 s2) (k0_pay24 s2 va) (k0_pay25 s2) (k0_pay26 vb) (constant S256x256 FTy.f32 0#32))
    (k0_pay31 s3) (k0_pay32 s3) va vb

/-- The second store of a block, over the same. -/
def lower (s0 s1 s2 s3 : FVec Ideal S1x256x4352 .f32) (va : FVec Ideal S4096x256 .bf16) (vb : FVec Ideal S256x256 .bf16) :
    FVec Ideal S256x256 .f32 :=
  k0_pay1
    (k0_pay54 cols (k0_pay45 (k0_pay38 cols s0 va vb) (k0_pay43 cols) (k0_pay44 s1 va vb) (FloatOps.ofBits FTy.f32 0#32))
      (k0_pay50 s2) (k0_pay52 s2 va) (k0_pay53 s2) vb)
    (k0_pay55 cols) (k0_pay56 s3 va vb) (FloatOps.ofBits FTy.f32 0#32)

/-- One head's attention output: the exponentials in base two of a row of scores, their maximum subtracted, summed
    against a column of the values and divided by their own sum. -/
def head (s : FVec Ideal S1x256x4352 .f32) (va : FVec Ideal S4096x256 .bf16) (vb : FVec Ideal S256x256 .bf16) (i n : Fin 256) : EReal :=
  Ideal.div
    (∑ x : Fin 4096, FloatOps.exp2 (F := Ideal) (φ := .f32) (s (ix3 0 i ⟨↑x, by omega⟩)
        - Finset.univ.fold max (Ideal.ofBits FTy.f32 0xFF800000#32) fun x : Fin 4352 => s (ix3 0 i x)) * va (ix2 x n)
      + ∑ x : Fin 256, FloatOps.exp2 (F := Ideal) (φ := .f32) (s (ix3 0 i ⟨4096 + ↑x, by omega⟩)
        - Finset.univ.fold max (Ideal.ofBits FTy.f32 0xFF800000#32) fun x : Fin 4352 => s (ix3 0 i x)) * vb (ix2 x n))
    (∑ x : Fin 4352, FloatOps.exp2 (F := Ideal) (φ := .f32) (s (ix3 0 i x)
        - Finset.univ.fold max (Ideal.ofBits FTy.f32 0xFF800000#32) fun x : Fin 4352 => s (ix3 0 i x)))

/-- The four heads' outputs, one of them at each column. -/
def heads (s0 s1 s2 s3 : FVec Ideal S1x256x4352 .f32) (va : FVec Ideal S4096x256 .bf16) (vb : FVec Ideal S256x256 .bf16)
    (i n : Fin 256) : EReal :=
  if (n : ℕ) < 64 then head s0 va vb i n
  else if (n : ℕ) < 128 then head s1 va vb i n
  else if (n : ℕ) < 192 then head s2 va vb i n
  else head s3 va vb i n

theorem mask0 : ∀ n : Fin 256, IntOp.andi (IntOp.cmpi .sge (BitVec.ofNat 32 ↑n) 0#32) (IntOp.cmpi .slt (BitVec.ofNat 32 ↑n) 64#32)
    = if (n : ℕ) < 64 then 1#1 else 0#1 := by decide +kernel
theorem mask1 : ∀ n : Fin 256, IntOp.andi (IntOp.cmpi .sge (BitVec.ofNat 32 ↑n) 64#32) (IntOp.cmpi .slt (BitVec.ofNat 32 ↑n) 128#32)
    = if 64 ≤ (n : ℕ) ∧ (n : ℕ) < 128 then 1#1 else 0#1 := by decide +kernel
theorem mask2 : ∀ n : Fin 256, IntOp.andi (IntOp.cmpi .sge (BitVec.ofNat 32 ↑n) 128#32) (IntOp.cmpi .slt (BitVec.ofNat 32 ↑n) 192#32)
    = if 128 ≤ (n : ℕ) ∧ (n : ℕ) < 192 then 1#1 else 0#1 := by decide +kernel
theorem mask3 : ∀ n : Fin 256, IntOp.andi (IntOp.cmpi .sge (BitVec.ofNat 32 ↑n) 192#32) (IntOp.cmpi .slt (BitVec.ofNat 32 ↑n) 256#32)
    = if 192 ≤ (n : ℕ) then 1#1 else 0#1 := by decide +kernel

/-- A choice by a mask bit that says `p`. -/
theorem select_if (p : Prop) [Decidable p] (a b : EReal) :
    Scalar.select (if p then 1#1 else 0#1) a b = if p then a else b := by
  by_cases h : p
  · rw [if_pos h, if_pos h]; rfl
  · rw [if_neg h, if_neg h]; rfl

/-- Of the four masked parts, the one whose columns hold `n` is the sum. -/
theorem parts (n : Fin 256) (a b c d : EReal) :
    (((if (n : ℕ) < 64 then a else 0) + if 64 ≤ (n : ℕ) ∧ (n : ℕ) < 128 then b else 0)
        + if 128 ≤ (n : ℕ) ∧ (n : ℕ) < 192 then c else 0) + (if 192 ≤ (n : ℕ) then d else 0)
      = if (n : ℕ) < 64 then a else if (n : ℕ) < 128 then b else if (n : ℕ) < 192 then c else d := by
  have hn := n.isLt
  by_cases h0 : (n : ℕ) < 64
  · rw [if_pos h0, if_neg (by omega), if_neg (by omega), if_neg (by omega), if_pos h0]; simp only [add_zero]
  by_cases h1 : (n : ℕ) < 128
  · rw [if_neg h0, if_pos (by omega), if_neg (by omega), if_neg (by omega), if_neg h0, if_pos h1]; simp only [add_zero, zero_add]
  by_cases h2 : (n : ℕ) < 192
  · rw [if_neg h0, if_neg (by omega), if_pos (by omega), if_neg (by omega), if_neg h0, if_neg h1, if_pos h2]; simp only [add_zero, zero_add]
  · rw [if_neg h0, if_neg (by omega), if_neg (by omega), if_pos (by omega), if_neg h0, if_neg h1, if_neg h2]; simp only [add_zero, zero_add]

theorem upper_at (s0 s1 s2 s3 : FVec Ideal S1x256x4352 .f32) (va : FVec Ideal S4096x256 .bf16) (vb : FVec Ideal S256x256 .bf16)
    (i n : Fin 256) : upper s0 s1 s2 s3 va vb (ix2 i n) = heads s0 s1 s2 s3 va vb i n := by
  pointwise [upper, k0_pay33, k0_pay27, k0_pay17, k0_pay9, k0_pay14, k0_pay15, k0_pay16, k0_pay21, k0_pay22, k0_pay23, k0_pay24,
    k0_pay25, k0_pay26, k0_pay31, k0_pay32, cols]
  rw [mask0, mask1, mask2, mask3]
  simp only [select_if]
  rw [parts]
  rfl

theorem lower_at (s0 s1 s2 s3 : FVec Ideal S1x256x4352 .f32) (va : FVec Ideal S4096x256 .bf16) (vb : FVec Ideal S256x256 .bf16)
    (i n : Fin 256) : lower s0 s1 s2 s3 va vb (ix2 i n) = heads s0 s1 s2 s3 va vb i n := by
  pointwise [lower, k0_pay1, k0_pay38, k0_pay43, k0_pay44, k0_pay45, k0_pay49, k0_pay50, k0_pay51, k0_pay52, k0_pay53, k0_pay54,
    k0_pay55, k0_pay56, cols]
  rw [mask0, mask1, mask2, mask3]
  simp only [select_if]
  rw [parts]
  rfl

/-- A row of scores: the query row against all keys, latent keys first. -/
def score (q : FVec Ideal S256x128 .bf16) (ka : FVec Ideal S4096x128 .bf16) (kb : FVec Ideal S256x128 .bf16) (i : Fin 256) (k : Fin 4352) : EReal :=
  if h : (k : ℕ) < 4096 then ∑ d : Fin 128, q (ix2 i d) * ka (ix2 ⟨k, h⟩ d)
  else ∑ d : Fin 128, q (ix2 i d) * kb (ix2 ⟨(k : ℕ) - 4096, by omega⟩ d)

end Cert.KernelIdeal.Att

end
-- ==== Proof.Point.lean ====
module

public import proofs.«01_k».proof.Proof.Block
public import Idealize.ShloMosaic.Lib.Pipeline.ValueKit
public import Idealize.ShloMosaic.Lib.Pointwise

/-! What one grid step writes, at one entry of its block. -/

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (Dat)

/-- All rows of scores of a query tile. -/
def scored (q : FVec Ideal S256x128 .bf16) (ka : FVec Ideal S4096x128 .bf16) (kb : FVec Ideal S256x128 .bf16) :
    FVec Ideal S1x256x4352 .f32 := fun x => score q ka kb (x 1) (x 2)

theorem lat_at (q : FVec Ideal S256x128 .bf16) (ka : FVec Ideal S4096x128 .bf16) (i : Fin 256) (k : Fin 4096) :
    k0_pay3 (F := Ideal) q ka (ix3 0 i k) = ∑ d : Fin 128, q (ix2 i d) * ka (ix2 k d) := by
  pointwise [k0_pay3, k0_pay2]

theorem ctx_at (q : FVec Ideal S256x128 .bf16) (kb : FVec Ideal S256x128 .bf16) (i : Fin 256) (k : Fin 256) :
    k0_pay4 (F := Ideal) q kb (ix3 0 i k) = ∑ d : Fin 128, q (ix2 i d) * kb (ix2 k d) := by
  pointwise [k0_pay4, k0_pay2]

theorem join_eq (q : FVec Ideal S256x128 .bf16) (ka : FVec Ideal S4096x128 .bf16) (kb : FVec Ideal S256x128 .bf16) :
    join (k0_pay3 (F := Ideal) q ka) (k0_pay4 (F := Ideal) q kb) = scored q ka kb := by
  funext x
  unfold join scored score
  split
  · exact lat_at q ka (x 1) _
  · exact ctx_at q kb (x 1) _

/-- A score over the tile's own columns: head `h` has 128 of them. -/
def rowScore (Q : FVec Ideal S512x512 .bf16) (Ka : FVec Ideal S4096x512 .bf16) (Kb : FVec Ideal S256x512 .bf16)
    (h : Fin 4) (r : Fin 512) (k : Fin 4352) : EReal :=
  if hk : (k : ℕ) < 4096 then
    ∑ d : Fin 128, Q (ix2 r ⟨128 * h + d, by omega⟩) * Ka (ix2 ⟨k, hk⟩ ⟨128 * h + d, by omega⟩)
  else ∑ d : Fin 128, Q (ix2 r ⟨128 * h + d, by omega⟩) * Kb (ix2 ⟨(k : ℕ) - 4096, by omega⟩ ⟨128 * h + d, by omega⟩)

/-- 256 rows by 128 columns of the query block. -/
abbrev qTile (Q : FVec Ideal S512x512 .bf16) (o c : ℕ) (i : ∀ a, (![o, c] : Fin 2 → ℕ) a + S256x128.size a ≤ S512x512.size a) : FVec Ideal S256x128 .bf16 :=
  fun x => Q ((Rect.unit (s := S512x512) ![o, c] ![256, 128] i).emb x)
/-- 128 columns of the latent keys. -/
abbrev aTile (Ka : FVec Ideal S4096x512 .bf16) (c : ℕ) (i : ∀ a, (![0, c] : Fin 2 → ℕ) a + S4096x128.size a ≤ S4096x512.size a) : FVec Ideal S4096x128 .bf16 :=
  fun x => Ka ((Rect.unit (s := S4096x512) ![0, c] ![4096, 128] i).emb x)
/-- 128 columns of the context keys. -/
abbrev bTile (Kb : FVec Ideal S256x512 .bf16) (c : ℕ) (i : ∀ a, (![0, c] : Fin 2 → ℕ) a + S256x128.size a ≤ S256x512.size a) : FVec Ideal S256x128 .bf16 :=
  fun x => Kb ((Rect.unit (s := S256x512) ![0, c] ![256, 128] i).emb x)

theorem scored_ld (Q : FVec Ideal S512x512 .bf16) (Ka : FVec Ideal S4096x512 .bf16) (Kb : FVec Ideal S256x512 .bf16)
    (o c : ℕ) (h : Fin 4) (hc : c = 128 * h) (ho : o + 256 ≤ 512) (i1 i2 i3) (i : Fin 256) (k : Fin 4352) :
    scored (qTile Q o c i1) (aTile Ka c i2) (bTile Kb c i3) (ix3 0 i k) = rowScore Q Ka Kb h ⟨o + i, by omega⟩ k := by
  subst hc
  have eq : ∀ d : Fin 128, qTile Q o (128 * h) i1 (ix2 i d) = Q (ix2 ⟨o + i, by omega⟩ ⟨128 * h + d, by omega⟩) := by
    intro d
    refine congrArg Q ?_
    funext a; apply Fin.ext; fin_cases a
    · show o + 1 * (i : ℕ) = o + i; omega
    · show 128 * (h : ℕ) + 1 * (d : ℕ) = 128 * h + d; omega
  have ea : ∀ (k : Fin 4096) (d : Fin 128), aTile Ka (128 * h) i2 (ix2 k d) = Ka (ix2 k ⟨128 * h + d, by omega⟩) := by
    intro k d
    refine congrArg Ka ?_
    funext a; apply Fin.ext; fin_cases a
    · show 0 + 1 * (k : ℕ) = k; omega
    · show 128 * (h : ℕ) + 1 * (d : ℕ) = 128 * h + d; omega
  have eb : ∀ (k : Fin 256) (d : Fin 128), bTile Kb (128 * h) i3 (ix2 k d) = Kb (ix2 k ⟨128 * h + d, by omega⟩) := by
    intro k d
    refine congrArg Kb ?_
    funext a; apply Fin.ext; fin_cases a
    · show 0 + 1 * (k : ℕ) = k; omega
    · show 128 * (h : ℕ) + 1 * (d : ℕ) = 128 * h + d; omega
  show score _ _ _ i k = _
  unfold score rowScore
  by_cases hk : (k : ℕ) < 4096
  · rw [dif_pos hk, dif_pos hk]
    exact Finset.sum_congr rfl fun d _ => by rw [eq, ea]
  · rw [dif_neg hk, dif_neg hk]
    exact Finset.sum_congr rfl fun d _ => by rw [eq, eb]

/-- A row of scores made into its output in one column. -/
def rowHead (s : Fin 4352 → EReal) (va : FVec Ideal S4096x256 .bf16) (vb : FVec Ideal S256x256 .bf16) (n : Fin 256) : EReal :=
  Ideal.div
    (∑ x : Fin 4096, Ideal.exp2 (s ⟨↑x, by omega⟩ - Finset.univ.fold max (Ideal.ofBits FTy.f32 0xFF800000#32) s) * va (ix2 x n)
      + ∑ x : Fin 256, Ideal.exp2 (s ⟨4096 + ↑x, by omega⟩ - Finset.univ.fold max (Ideal.ofBits FTy.f32 0xFF800000#32) s) * vb (ix2 x n))
    (∑ x : Fin 4352, Ideal.exp2 (s x - Finset.univ.fold max (Ideal.ofBits FTy.f32 0xFF800000#32) s))

/-- One entry of the block a step writes. -/
def cell (Q : FVec Ideal S512x512 .bf16) (Ka : FVec Ideal S4096x512 .bf16) (Kb : FVec Ideal S256x512 .bf16)
    (va : FVec Ideal S4096x256 .bf16) (vb : FVec Ideal S256x256 .bf16) (r : Fin 512) (n : Fin 256) : EReal :=
  rowHead (rowScore Q Ka Kb ⟨(n : ℕ) / 64, by omega⟩ r) va vb n

theorem head_scored (Q : FVec Ideal S512x512 .bf16) (Ka : FVec Ideal S4096x512 .bf16) (Kb : FVec Ideal S256x512 .bf16)
    (va : FVec Ideal S4096x256 .bf16) (vb : FVec Ideal S256x256 .bf16)
    (o c : ℕ) (i1 i2 i3) (i n : Fin 256) (ho : o + 256 ≤ 512) (hc : c = 128 * ((n : ℕ) / 64)) :
    head (scored (qTile Q o c i1) (aTile Ka c i2) (bTile Kb c i3)) va vb i n = cell Q Ka Kb va vb ⟨o + i, by omega⟩ n := by
  have e : (fun k => scored (qTile Q o c i1) (aTile Ka c i2) (bTile Kb c i3) (ix3 0 i k))
      = rowScore Q Ka Kb ⟨(n : ℕ) / 64, by omega⟩ ⟨o + i, by omega⟩ :=
    funext fun k => scored_ld Q Ka Kb o c ⟨(n : ℕ) / 64, by omega⟩ hc ho i1 i2 i3 i k
  exact congrArg (fun s => rowHead s va vb n) e

theorem heads_scored (Q : FVec Ideal S512x512 .bf16) (Ka : FVec Ideal S4096x512 .bf16) (Kb : FVec Ideal S256x512 .bf16)
    (va : FVec Ideal S4096x256 .bf16) (vb : FVec Ideal S256x256 .bf16) (o : ℕ) (i n : Fin 256) (ho : o + 256 ≤ 512)
    (a1 a2 a3 b1 b2 b3 c1 c2 c3 d1 d2 d3) :
    heads (scored (qTile Q o 0 a1) (aTile Ka 0 a2) (bTile Kb 0 a3)) (scored (qTile Q o 128 b1) (aTile Ka 128 b2) (bTile Kb 128 b3))
        (scored (qTile Q o 256 c1) (aTile Ka 256 c2) (bTile Kb 256 c3)) (scored (qTile Q o 384 d1) (aTile Ka 384 d2) (bTile Kb 384 d3))
        va vb i n = cell Q Ka Kb va vb ⟨o + i, by omega⟩ n := by
  have hn := n.isLt
  unfold heads
  split_ifs
  · exact head_scored Q Ka Kb va vb o _ _ _ _ i n ho (by omega)
  · exact head_scored Q Ka Kb va vb o _ _ _ _ i n ho (by omega)
  · exact head_scored Q Ka Kb va vb o _ _ _ _ i n ho (by omega)
  · exact head_scored Q Ka Kb va vb o _ _ _ _ i n ho (by omega)

section Names
variable (q : FVec Ideal S256x128 .bf16) (ka : FVec Ideal S4096x128 .bf16) (kb : FVec Ideal S256x128 .bf16)
theorem a1 : k0_pay6 (F := Ideal) q ka = k0_pay3 q ka := rfl
theorem a2 : k0_pay12 (F := Ideal) (k0_pay11 q ka) = k0_pay3 q ka := rfl
theorem a3 : k0_pay19 (F := Ideal) q ka = k0_pay3 q ka := rfl
theorem a4 : k0_pay29 (F := Ideal) q ka = k0_pay3 q ka := rfl
theorem a5 : k0_pay35 (F := Ideal) q ka = k0_pay3 q ka := rfl
theorem a6 : k0_pay41 (F := Ideal) (k0_pay40 q ka) = k0_pay3 q ka := rfl
theorem a7 : k0_pay47 (F := Ideal) q ka = k0_pay3 q ka := rfl
theorem b1 : k0_pay8 (F := Ideal) (k0_pay7 q kb) = k0_pay4 q kb := rfl
theorem b2 : k0_pay13 (F := Ideal) (k0_pay10 q) kb = k0_pay4 q kb := rfl
theorem b3 : k0_pay20 (F := Ideal) q kb = k0_pay4 q kb := rfl
theorem b4 : k0_pay30 (F := Ideal) q kb = k0_pay4 q kb := rfl
theorem b5 : k0_pay37 (F := Ideal) (k0_pay36 q kb) = k0_pay4 q kb := rfl
theorem b6 : k0_pay42 (F := Ideal) (k0_pay39 q) kb = k0_pay4 q kb := rfl
theorem b7 : k0_pay48 (F := Ideal) q kb = k0_pay4 q kb := rfl
end Names

variable (m : (ℓ : Loc nD τ sig) → Buf (Elt Ideal) ℓ)

/-- The two stores of a step, over its blocks. -/
def stores (Q : FVec Ideal S512x512 .bf16) (Ka : FVec Ideal S4096x512 .bf16) (Kb : FVec Ideal S256x512 .bf16)
    (va : FVec Ideal S4096x256 .bf16) (vb : FVec Ideal S256x256 .bf16) : List (View.Piece (Elt Ideal) S512x256 .f32) :=
  [⟨Rect.unit ![256, 0] ![256, 256] inb_S512x256_S256x256_256_0, lower
        (scored (qTile Q 256 0 inb_S512x512_S256x128_256_0) (aTile Ka 0 inb_S4096x512_S4096x128_0_0) (bTile Kb 0 inb_S256x512_S256x128_0_0))
        (scored (qTile Q 256 128 inb_S512x512_S256x128_256_128) (aTile Ka 128 inb_S4096x512_S4096x128_0_128) (bTile Kb 128 inb_S256x512_S256x128_0_128))
        (scored (qTile Q 256 256 inb_S512x512_S256x128_256_256) (aTile Ka 256 inb_S4096x512_S4096x128_0_256) (bTile Kb 256 inb_S256x512_S256x128_0_256))
        (scored (qTile Q 256 384 inb_S512x512_S256x128_256_384) (aTile Ka 384 inb_S4096x512_S4096x128_0_384) (bTile Kb 384 inb_S256x512_S256x128_0_384)) va vb⟩,
   ⟨Rect.unit ![0, 0] ![256, 256] inb_S512x256_S256x256_0_0, upper
        (scored (qTile Q 0 0 inb_S512x512_S256x128_0_0) (aTile Ka 0 inb_S4096x512_S4096x128_0_0) (bTile Kb 0 inb_S256x512_S256x128_0_0))
        (scored (qTile Q 0 128 inb_S512x512_S256x128_0_128) (aTile Ka 128 inb_S4096x512_S4096x128_0_128) (bTile Kb 128 inb_S256x512_S256x128_0_128))
        (scored (qTile Q 0 256 inb_S512x512_S256x128_0_256) (aTile Ka 256 inb_S4096x512_S4096x128_0_256) (bTile Kb 256 inb_S256x512_S256x128_0_256))
        (scored (qTile Q 0 384 inb_S512x512_S256x128_0_384) (aTile Ka 384 inb_S4096x512_S4096x128_0_384) (bTile Kb 384 inb_S256x512_S256x128_0_384)) va vb⟩]

theorem stores_at (Q : FVec Ideal S512x512 .bf16) (Ka : FVec Ideal S4096x512 .bf16) (Kb : FVec Ideal S256x512 .bf16)
    (va : FVec Ideal S4096x256 .bf16) (vb : FVec Ideal S256x256 .bf16) (r : Fin 512) (n : Fin 256) :
    View.canon (stores Q Ka Kb va vb) (ix2 r n) = cell Q Ka Kb va vb r n := by
  unfold stores
  by_cases hr : (r : ℕ) < 256
  · rw [View.canon_cons_of_not_mem]
    · have e : (ix2 r n : S512x256.Idx) = (Rect.unit (s := S512x256) ![0, 0] ![256, 256] inb_S512x256_S256x256_0_0).emb (ix2 ⟨r, hr⟩ n) := by
        funext a; apply Fin.ext; fin_cases a
        · show (r : ℕ) = 0 + 1 * (r : ℕ); omega
        · show (n : ℕ) = 0 + 1 * (n : ℕ); omega
      rw [e]
      refine (View.canon_cons_emb _ _ _ _).trans ?_
      rw [upper_at]
      refine (heads_scored _ _ _ _ _ 0 ⟨r, hr⟩ n (by omega) _ _ _ _ _ _ _ _ _ _ _ _).trans ?_
      congr 1; apply Fin.ext; show 0 + (r : ℕ) = r; omega
    · refine Rect.not_mem_set_of_axis _ _ (0 : Fin 2) 256 256 rfl rfl rfl (Or.inl hr)
  · have hr2 := r.isLt
    have e : (ix2 r n : S512x256.Idx) = (Rect.unit (s := S512x256) ![256, 0] ![256, 256] inb_S512x256_S256x256_256_0).emb (ix2 ⟨r - 256, by omega⟩ n) := by
      funext a; apply Fin.ext; fin_cases a
      · show (r : ℕ) = 256 + 1 * ((r : ℕ) - 256); omega
      · show (n : ℕ) = 0 + 1 * (n : ℕ); omega
    rw [e]
    refine (View.canon_cons_emb _ _ _ _).trans ?_
    rw [lower_at]
    refine (heads_scored _ _ _ _ _ 256 ⟨r - 256, by omega⟩ n (by omega) _ _ _ _ _ _ _ _ _ _ _ _).trans ?_
    congr 1; apply Fin.ext; show 256 + ((r : ℕ) - 256) = r; omega

/-- What a step writes is its two stores. -/
theorem outs_eq (c : Dev nD) (t : Fin cfg0.N) (y : S512x256.Idx) :
    outsAt0 m c t y = View.canon (stores (iblk m c 0 t) (iblk m c 1 t) (iblk m c 2 t) (iblk m c 3 t) (iblk m c 4 t)) y := by
  unfold outsAt0
  frame_out
  simp (disch := decide) only [other]
  simp only [own]
  simp only [a1, a2, a3, a4, a5, a6, a7, b1, b2, b3, b4, b5, b6, b7]
  simp only [join_eq]
  rfl

theorem point (c : Dev nD) (t : Fin cfg0.N) (r : Fin 512) (n : Fin 256) :
    outsAt0 m c t (ix2 r n) = cell (iblk m c 0 t) (iblk m c 1 t) (iblk m c 2 t) (iblk m c 3 t) (iblk m c 4 t) r n :=
  (outs_eq m c t _).trans (stores_at _ _ _ _ _ r n)

end Cert.KernelIdeal.Att

end
-- ==== Proof.Host.lean ====
module

public import proofs.«01_k».proof.Proof.Gen.KernelIdeal.Value
public import proofs.«01_k».proof.Proof.Softmax
public import Idealize.ShloMosaic.Lib.Pipeline.ValueKit
public import Idealize.ShloMosaic.Lib.Pointwise
public import Idealize.ShloMosaic.Lib.Claim

/-! What the kernel's five operands hold: each head's columns padded with zeros to 128, heads side by side. -/

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (Dat)

/-- The factor the queries are multiplied by. -/
def factor : FVec Ideal S_ .f32 :=
  Host.divf (constant S_ .f32 0x3F800000#32) (mulf (Host.log (constant S_ .f32 0x40000000#32)) (Host.sqrt (constant S_ .f32 0x42C00000#32)))

/-- The queries, scaled and padded. -/
def qArr (x : FVec Ideal S8x4096x4x96 .f32) : FVec Ideal S32768x512 .bf16 :=
  truncf .bf16 (shapeCast S32768x512 (pad S8x4096x4x128 ![0, 0, 0, 0] ![0, 0, 0, 32] ![0, 0, 0, 0]
    (mulf x (broadcastInDim S8x4096x4x96 ![] bcast_S_S8x4096x4x96 factor)) (sitofp .f32 (constantI S_ 32 0#32) : FVec Ideal S_ .f32)
    pads_S8x4096x4x96_S8x4096x4x128_000_000_000_0320 h_S_) shapeCasts_S8x4096x4x128_S32768x512) bitsLt_bf16_f32

/-- The latent keys, padded. -/
def kArr (x : FVec Ideal S8x4096x4x96 .f32) : FVec Ideal S32768x512 .bf16 :=
  truncf .bf16 (shapeCast S32768x512 (pad S8x4096x4x128 ![0, 0, 0, 0] ![0, 0, 0, 32] ![0, 0, 0, 0]
    x (sitofp .f32 (constantI S_ 32 0#32) : FVec Ideal S_ .f32)
    pads_S8x4096x4x96_S8x4096x4x128_000_000_000_0320 h_S_) shapeCasts_S8x4096x4x128_S32768x512) bitsLt_bf16_f32

/-- The context keys, padded. -/
def cArr (x : FVec Ideal S8x256x4x96 .f32) : FVec Ideal S2048x512 .bf16 :=
  truncf .bf16 (shapeCast S2048x512 (pad S8x256x4x128 ![0, 0, 0, 0] ![0, 0, 0, 32] ![0, 0, 0, 0]
    x (sitofp .f32 (constantI S_ 32 0#32) : FVec Ideal S_ .f32)
    pads_S8x256x4x96_S8x256x4x128_000_000_000_0320 h_S_) shapeCasts_S8x256x4x128_S2048x512) bitsLt_bf16_f32

/-- The latent values. -/
def vArr (x : FVec Ideal S8x4096x4x64 .f32) : FVec Ideal S32768x256 .bf16 :=
  truncf .bf16 (shapeCast S32768x256 x shapeCasts_S8x4096x4x64_S32768x256) bitsLt_bf16_f32

/-- The context values. -/
def wArr (x : FVec Ideal S8x256x4x64 .f32) : FVec Ideal S2048x256 .bf16 :=
  truncf .bf16 (shapeCast S2048x256 x shapeCasts_S8x256x4x64_S2048x256) bitsLt_bf16_f32

variable (m : (ℓ : Loc nD τ sig) → Buf (Elt Ideal) ℓ)

theorem v8 (c : Dev nD) : V m c main_v8 = qArr (m ((c : Thread nD τ).loc main_arg0)) := rfl
theorem v11 (c : Dev nD) : V m c main_v11 = kArr (m ((c : Thread nD τ).loc main_arg1)) := rfl
theorem v13 (c : Dev nD) : V m c main_v13 = vArr (m ((c : Thread nD τ).loc main_arg2)) := rfl
theorem v16 (c : Dev nD) : V m c main_v16 = cArr (m ((c : Thread nD τ).loc main_arg3)) := rfl
theorem v18 (c : Dev nD) : V m c main_v18 = wArr (m ((c : Thread nD τ).loc main_arg4)) := rfl

theorem word_zero : (FloatOps.sitofp (F := Ideal) FTy.f32 (0#32) : EReal) = 0 := by
  show (((0#32).toInt : ℝ) : EReal) = 0
  simp

theorem qArr_at (x : FVec Ideal S8x4096x4x96 .f32) (g : Fin 32768) (n : Fin 512) : qArr x (ix2 g n)
    = if h : (n : ℕ) % 128 < 96 then
        x (ix4 ⟨(g : ℕ) / 4096, by omega⟩ ⟨(g : ℕ) % 4096, by omega⟩ ⟨(n : ℕ) / 128, by omega⟩ ⟨(n : ℕ) % 128, h⟩) * factor ix0
      else 0 := by
  have hg := g.isLt
  have hn := n.isLt
  pointwise [qArr]
  by_cases h : (n : ℕ) % 128 < 96
  · rw [dif_pos (by omega), dif_pos h]
  · rw [dif_neg (by omega), dif_neg h]; exact word_zero

theorem kArr_at (x : FVec Ideal S8x4096x4x96 .f32) (g : Fin 32768) (n : Fin 512) : kArr x (ix2 g n)
    = if h : (n : ℕ) % 128 < 96 then
        x (ix4 ⟨(g : ℕ) / 4096, by omega⟩ ⟨(g : ℕ) % 4096, by omega⟩ ⟨(n : ℕ) / 128, by omega⟩ ⟨(n : ℕ) % 128, h⟩)
      else 0 := by
  have hg := g.isLt
  have hn := n.isLt
  pointwise [kArr]
  by_cases h : (n : ℕ) % 128 < 96
  · rw [dif_pos (by omega), dif_pos h]
  · rw [dif_neg (by omega), dif_neg h]; exact word_zero

theorem cArr_at (x : FVec Ideal S8x256x4x96 .f32) (g : Fin 2048) (n : Fin 512) : cArr x (ix2 g n)
    = if h : (n : ℕ) % 128 < 96 then
        x (ix4 ⟨(g : ℕ) / 256, by omega⟩ ⟨(g : ℕ) % 256, by omega⟩ ⟨(n : ℕ) / 128, by omega⟩ ⟨(n : ℕ) % 128, h⟩)
      else 0 := by
  have hg := g.isLt
  have hn := n.isLt
  pointwise [cArr]
  by_cases h : (n : ℕ) % 128 < 96
  · rw [dif_pos (by omega), dif_pos h]
  · rw [dif_neg (by omega), dif_neg h]; exact word_zero

theorem vArr_at (x : FVec Ideal S8x4096x4x64 .f32) (g : Fin 32768) (n : Fin 256) : vArr x (ix2 g n)
    = x (ix4 ⟨(g : ℕ) / 4096, by omega⟩ ⟨(g : ℕ) % 4096, by omega⟩ ⟨(n : ℕ) / 64, by omega⟩ ⟨(n : ℕ) % 64, by omega⟩) := by
  pointwise [vArr]

theorem wArr_at (x : FVec Ideal S8x256x4x64 .f32) (g : Fin 2048) (n : Fin 256) : wArr x (ix2 g n)
    = x (ix4 ⟨(g : ℕ) / 256, by omega⟩ ⟨(g : ℕ) % 256, by omega⟩ ⟨(n : ℕ) / 64, by omega⟩ ⟨(n : ℕ) % 64, by omega⟩) := by
  pointwise [wArr]

theorem word_two : Ideal.ofBits FTy.f32 0x40000000#32 = ((2 : ℝ) : EReal) := by
  simp [Ideal.ofBits, Ideal.ieee]
  rw [← EReal.coe_mul]; congr 1; norm_num
theorem word_96 : Ideal.ofBits FTy.f32 0x42C00000#32 = ((96 : ℝ) : EReal) := by
  simp [Ideal.ofBits, Ideal.ieee]
  rw [← EReal.coe_mul]; congr 1; norm_num

/-- The factor is one over the product of the logarithm of two and the root of 96. -/
theorem factor_at : factor ix0 = (((Real.log 2)⁻¹ * (Real.sqrt 96)⁻¹ : ℝ) : EReal) := by
  have hl : 0 < Real.log 2 := Real.log_pos (by norm_num)
  have hs : 0 < Real.sqrt 96 := Real.sqrt_pos.mpr (by norm_num)
  have e1 : Ideal.log ((2 : ℝ) : EReal) = ((Real.log 2 : ℝ) : EReal) := by
    show (if (2 : ℝ) ≤ 0 then (⊥ : EReal) else ((Real.log 2 : ℝ) : EReal)) = _
    rw [if_neg (by norm_num)]
  have e2 : Ideal.sqrt ((96 : ℝ) : EReal) = ((Real.sqrt 96 : ℝ) : EReal) := by
    show (if (96 : ℝ) < 0 then (⊥ : EReal) else ((Real.sqrt 96 : ℝ) : EReal)) = _
    rw [if_neg (by norm_num)]
  pointwise [factor]
  rw [word_two, word_96, e1, e2, ← EReal.coe_mul, ← EReal.coe_one,
    Softmax.div_real _ _ (mul_pos hl hs), ← EReal.coe_mul, one_mul, mul_inv]

/-- The reference's factor, one over the root of 96. -/
theorem scale_at : Ideal.div 1 (Ideal.sqrt (Ideal.ofBits .f32 0x42C00000#32)) = (((Real.sqrt 96)⁻¹ : ℝ) : EReal) := by
  have hs : 0 < Real.sqrt 96 := Real.sqrt_pos.mpr (by norm_num)
  have e2 : Ideal.sqrt ((96 : ℝ) : EReal) = ((Real.sqrt 96 : ℝ) : EReal) := by
    show (if (96 : ℝ) < 0 then (⊥ : EReal) else ((Real.sqrt 96 : ℝ) : EReal)) = _
    rw [if_neg (by norm_num)]
  rw [word_96, e2, ← EReal.coe_one, Softmax.div_real _ _ hs, ← EReal.coe_mul, one_mul]

end Cert.KernelIdeal.Att

end
-- ==== Proof.Ref.lean ====
module

public import proofs.«01_k».proof.Proof.Gen.ReferenceIdeal.Run
public import Idealize.ShloMosaic.Lib.Pipeline.ValueKit
public import Idealize.ShloMosaic.Lib.Pointwise

/-! The reference's result, operation by operation, and what it holds at one index. -/

@[expose] public section

set_option maxRecDepth 16384

noncomputable section

namespace Cert.ReferenceIdeal.Att

open Cert.ReferenceIdeal Cert.ReferenceIdeal.Gen
open Idealize.ShloMosaic Idealize.ShloMosaic.TcCoe Idealize.SL.Sem

/-- The scores: queries against latent and context keys, over the root of the head's width. -/
def scores (q kl : FVec Ideal S8x4096x4x96 .f32) (kc : FVec Ideal S8x256x4x96 .f32) : FVec Ideal S8x4x4096x4352 .f32 :=
  mulf (Host.dotGeneral dot_S8x4096x4x96_S8x4352x4x96_S8x4x4096x4352_3_3_1_1_02_02 none q
      (concatenate S8x4352x4x96 1 [⟨S8x4096x4x96, kl⟩, ⟨S8x256x4x96, kc⟩] concatenates_S8x4096x4x96_S8x256x4x96_S8x4352x4x96_d1))
    (broadcastInDim S8x4x4096x4352 ![] bcast_S_S8x4x4096x4352
      (Host.divf (constant S_ .f32 0x3F800000#32) (Host.sqrt (constant S_ .f32 0x42C00000#32))))

/-- A row's maximum. -/
def rowmax (s : FVec Ideal S8x4x4096x4352 .f32) : FVec Ideal S8x4x4096 .f32 :=
  Host.reduce FloatOps.maximumf s (constant S_ .f32 0xFF800000#32) reducesTo_S8x4x4096x4352_S8x4x4096_d3 h_S_

/-- The exponentials of the scores, each row's maximum subtracted. -/
def expo (s : FVec Ideal S8x4x4096x4352 .f32) (m : FVec Ideal S8x4x4096 .f32) : FVec Ideal S8x4x4096x4352 .f32 :=
  Host.exp (subf s (broadcastInDim S8x4x4096x4352 ![0, 1, 2, 3] bcast_S8x4x4096x1_S8x4x4096x4352_0_1_2_3
    (broadcastInDim S8x4x4096x1 ![0, 1, 2] bcast_S8x4x4096_S8x4x4096x1_0_1_2
      (maximumf (broadcastInDim S8x4x4096 ![] bcast_S_S8x4x4096 (constant S_ .f32 0xFF800000#32)) m))))

/-- The softmax: the exponentials over each row's sum. -/
def weights (p : FVec Ideal S8x4x4096x4352 .f32) : FVec Ideal S8x4x4096x4352 .f32 :=
  Host.divf p (broadcastInDim S8x4x4096x4352 ![0, 1, 2, 3] bcast_S8x4x4096x1_S8x4x4096x4352_0_1_2_3
    (broadcastInDim S8x4x4096x1 ![0, 1, 2] bcast_S8x4x4096_S8x4x4096x1_0_1_2
      (Host.reduceAdd p (constant S_ .f32 0x00000000#32) reducesTo_S8x4x4096x4352_S8x4x4096_d3 h_S_)))

/-- The result: the weighted values, the heads side by side. -/
def result (w : FVec Ideal S8x4x4096x4352 .f32) (vl : FVec Ideal S8x4096x4x64 .f32) (vc : FVec Ideal S8x256x4x64 .f32) :
    FVec Ideal S32768x256 .f32 :=
  shapeCast _ (transpose S8x4096x4x64 [0, 3, 1, 2]
    (Host.dotGeneral dot_S8x4352x4x64_S8x4x4096x4352_S8x4x64x4096_1_3_3_2_02_01 none
      (concatenate S8x4352x4x64 1 [⟨S8x4096x4x64, vl⟩, ⟨S8x256x4x64, vc⟩] concatenates_S8x4096x4x64_S8x256x4x64_S8x4352x4x64_d1) w : FVec Ideal S8x4x64x4096 .f32)
    transposes_S8x4x64x4096_S8x4096x4x64_0_3_1_2) shapeCasts_S8x4096x4x64_S32768x256

theorem max_last {A B C D : ℕ} {u : Shape} (hr : (⟨4, ![A, B, C, D]⟩ : Shape).ReducesTo [3] ⟨3, ![A, B, C]⟩) (hu : 0 < u.numel)
    (v : FVec Ideal ⟨4, ![A, B, C, D]⟩ .f32) (z : FVec Ideal u .f32) (b : Fin A) (h : Fin B) (r : Fin C) :
    Host.reduce FloatOps.maximumf v z hr hu (ix3 b h r)
      = Finset.univ.fold max (z (Shape.Idx.first hu)) fun x : Fin D => v (ix4 b h r x) := by
  pointwise

theorem rowmax_at (s : FVec Ideal S8x4x4096x4352 .f32) (b : Fin 8) (h : Fin 4) (r : Fin 4096) :
    rowmax s (ix3 b h r) = Finset.univ.fold max (Ideal.ofBits .f32 0xFF800000#32) fun x : Fin 4352 => s (ix4 b h r x) :=
  max_last _ _ s _ b h r

theorem expo_at (s : FVec Ideal S8x4x4096x4352 .f32) (m : FVec Ideal S8x4x4096 .f32) (b : Fin 8) (h : Fin 4) (r : Fin 4096) (k : Fin 4352) :
    expo s m (ix4 b h r k) = Ideal.exp (s (ix4 b h r k) - max (Ideal.ofBits .f32 0xFF800000#32) (m (ix3 b h r))) := by
  pointwise [expo]

theorem weights_at (p : FVec Ideal S8x4x4096x4352 .f32) (b : Fin 8) (h : Fin 4) (r : Fin 4096) (k : Fin 4352) :
    weights p (ix4 b h r k) = Ideal.div (p (ix4 b h r k)) (∑ x : Fin 4352, p (ix4 b h r x)) := by
  pointwise [weights]

theorem scores_at (q kl : FVec Ideal S8x4096x4x96 .f32) (kc : FVec Ideal S8x256x4x96 .f32) (b : Fin 8) (h : Fin 4) (r : Fin 4096) (k : Fin 4352) :
    scores q kl kc (ix4 b h r k) = (∑ x : Fin 96, q (ix4 b r h x)
      * if hk : (k : ℕ) < 4096 then kl (ix4 b ⟨k, hk⟩ h x) else kc (ix4 b ⟨(k : ℕ) - 4096, by omega⟩ h x))
      * Ideal.div 1 (Ideal.sqrt (Ideal.ofBits .f32 0x42C00000#32)) := by
  pointwise [scores]

theorem result_at (w : FVec Ideal S8x4x4096x4352 .f32) (vl : FVec Ideal S8x4096x4x64 .f32) (vc : FVec Ideal S8x256x4x64 .f32) (g : Fin 32768) (n : Fin 256) :
    result w vl vc (ix2 g n) = ∑ x : Fin 4352,
      (if hk : (x : ℕ) < 4096 then vl (ix4 ⟨(g : ℕ) / 4096, by omega⟩ ⟨x, hk⟩ ⟨(n : ℕ) / 64, by omega⟩ ⟨(n : ℕ) % 64, by omega⟩)
        else vc (ix4 ⟨(g : ℕ) / 4096, by omega⟩ ⟨(x : ℕ) - 4096, by omega⟩ ⟨(n : ℕ) / 64, by omega⟩ ⟨(n : ℕ) % 64, by omega⟩))
      * w (ix4 ⟨(g : ℕ) / 4096, by omega⟩ ⟨(n : ℕ) / 64, by omega⟩ ⟨(g : ℕ) % 4096, by omega⟩ x) := by
  pointwise [result]

end Cert.ReferenceIdeal.Att

end
-- ==== Proof.Value.lean ====
module

public import proofs.«01_k».proof.Proof.Point
public import proofs.«01_k».proof.Proof.Host
public import proofs.«01_k».proof.Proof.Ref

/-! The kernel's entries are the reference's, when the queries and the keys are finite. -/

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (Dat)

/-- Columns past the head's own hold zeros and add nothing. -/
theorem sum_pad (f g : Fin 96 → EReal) :
    ∑ d : Fin 128, (if h : (d : ℕ) < 96 then f ⟨d, h⟩ else 0) * (if h : (d : ℕ) < 96 then g ⟨d, h⟩ else 0) = ∑ d : Fin 96, f d * g d := by
  rw [show (∑ d : Fin 128, (if h : (d : ℕ) < 96 then f ⟨d, h⟩ else 0) * (if h : (d : ℕ) < 96 then g ⟨d, h⟩ else 0))
      = ∑ d : Fin (96 + 32), (if h : (d : ℕ) < 96 then f ⟨d, h⟩ else 0) * (if h : (d : ℕ) < 96 then g ⟨d, h⟩ else 0) from rfl,
    Fin.sum_univ_add]
  have hz : ∑ i : Fin 32, (if h : ((Fin.natAdd 96 i : Fin (96 + 32)) : ℕ) < 96 then f ⟨_, h⟩ else 0)
      * (if h : ((Fin.natAdd 96 i : Fin (96 + 32)) : ℕ) < 96 then g ⟨_, h⟩ else 0) = 0 :=
    Finset.sum_eq_zero fun i _ => by
      rw [dif_neg (by simp), dif_neg (by simp), zero_mul]
  rw [hz, add_zero]
  refine Finset.sum_congr rfl fun d _ => ?_
  rw [dif_pos (by simp), dif_pos (by simp)]
  rfl

/-- The finite score of a query row and a key row. -/
def dots (x y : Fin 96 → ℝ) : ℝ := (∑ d, x d * y d) * (Real.sqrt 96)⁻¹

theorem ref_score (x y : Fin 96 → ℝ) :
    (∑ d : Fin 96, (x d : EReal) * (y d : EReal)) * Ideal.div 1 (Ideal.sqrt (Ideal.ofBits .f32 0x42C00000#32)) = (dots x y : EReal) := by
  rw [scale_at, dots, EReal.coe_mul, ← Softmax.coe_sum]
  simp only [EReal.coe_mul]

theorem ker_score (x y : Fin 96 → ℝ) :
    ∑ d : Fin 96, ((x d : EReal) * factor ix0) * (y d : EReal) = (((Real.log 2)⁻¹ * dots x y : ℝ) : EReal) := by
  rw [factor_at]
  have e : (Real.log 2)⁻¹ * dots x y = ∑ d, (x d * ((Real.log 2)⁻¹ * (Real.sqrt 96)⁻¹)) * y d := by
    rw [dots, Finset.sum_mul, Finset.mul_sum]
    exact Finset.sum_congr rfl fun d _ => by ring
  rw [e, ← Softmax.coe_sum]
  simp only [EReal.coe_mul]

theorem word_bot : Ideal.ofBits FTy.f32 0xFF800000#32 = (⊥ : EReal) := by
  simp [Ideal.ofBits, Ideal.ieee]

/-- A row of the kernel is the softmax of the scores over the values. -/
theorem row_eq (a : Fin 4352 → ℝ) (s : Fin 4352 → EReal) (hs : ∀ k, s k = (((Real.log 2)⁻¹ * a k : ℝ) : EReal))
    (va : FVec Ideal S4096x256 .bf16) (vb : FVec Ideal S256x256 .bf16) (n : Fin 256) (v : Fin 4352 → EReal)
    (h1 : ∀ x : Fin 4096, va (ix2 x n) = v ⟨x, by omega⟩) (h2 : ∀ x : Fin 256, vb (ix2 x n) = v ⟨4096 + x, by omega⟩) :
    rowHead s va vb n = ∑ k : Fin 4352, v k * Ideal.div (Ideal.exp ((a k : EReal) - Finset.univ.fold max ⊥ fun j => (a j : EReal)))
      (∑ k : Fin 4352, Ideal.exp ((a k : EReal) - Finset.univ.fold max ⊥ fun j => (a j : EReal))) := by
  obtain rfl : s = fun k => (((Real.log 2)⁻¹ * a k : ℝ) : EReal) := funext hs
  rw [← Softmax.attend a v]
  unfold rowHead
  rw [word_bot]
  simp only [h1, h2]
  rw [Fin.sum_univ_two_halves 4096 256 rfl (fun k : Fin 4352 => Ideal.exp2 ((((Real.log 2)⁻¹ * a k : ℝ) : EReal)
    - Finset.univ.fold max ⊥ fun j => (((Real.log 2)⁻¹ * a j : ℝ) : EReal)) * v k)]

/-- The reference's result as one function of the five arguments. -/
def target (q kl : FVec Ideal S8x4096x4x96 .f32) (vl : FVec Ideal S8x4096x4x64 .f32) (kc : FVec Ideal S8x256x4x96 .f32)
    (vc : FVec Ideal S8x256x4x64 .f32) : FVec Ideal S32768x256 .f32 :=
  ReferenceIdeal.Att.result (ReferenceIdeal.Att.weights (ReferenceIdeal.Att.expo (ReferenceIdeal.Att.scores q kl kc)
    (ReferenceIdeal.Att.rowmax (ReferenceIdeal.Att.scores q kl kc)))) vl vc

/-- The reals behind finite arrays: one score. -/
def sc (q kl : S8x4096x4x96.Idx → ℝ) (kc : S8x256x4x96.Idx → ℝ) (b : Fin 8) (h : Fin 4) (r : Fin 4096) (k : Fin 4352) : ℝ :=
  dots (fun d => q (ix4 b r h d)) (fun d => if hk : (k : ℕ) < 4096 then kl (ix4 b ⟨k, hk⟩ h d) else kc (ix4 b ⟨(k : ℕ) - 4096, by omega⟩ h d))

theorem scores_real (q kl : S8x4096x4x96.Idx → ℝ) (kc : S8x256x4x96.Idx → ℝ) (b : Fin 8) (h : Fin 4) (r : Fin 4096) (k : Fin 4352) :
    ReferenceIdeal.Att.scores (fun i => (q i : EReal)) (fun i => (kl i : EReal)) (fun i => (kc i : EReal)) (ix4 b h r k)
      = (sc q kl kc b h r k : EReal) := by
  rw [ReferenceIdeal.Att.scores_at, sc, ← ref_score]
  congr 1
  refine Finset.sum_congr rfl fun d _ => ?_
  congr 1
  split <;> rfl

theorem target_at (q kl : S8x4096x4x96.Idx → ℝ) (kc : S8x256x4x96.Idx → ℝ) (vl : FVec Ideal S8x4096x4x64 .f32)
    (vc : FVec Ideal S8x256x4x64 .f32) (g : Fin 32768) (n : Fin 256) :
    target (fun i => (q i : EReal)) (fun i => (kl i : EReal)) vl (fun i => (kc i : EReal)) vc (ix2 g n)
      = ∑ k : Fin 4352,
        (if hk : (k : ℕ) < 4096 then vl (ix4 ⟨(g : ℕ) / 4096, by omega⟩ ⟨k, hk⟩ ⟨(n : ℕ) / 64, by omega⟩ ⟨(n : ℕ) % 64, by omega⟩)
          else vc (ix4 ⟨(g : ℕ) / 4096, by omega⟩ ⟨(k : ℕ) - 4096, by omega⟩ ⟨(n : ℕ) / 64, by omega⟩ ⟨(n : ℕ) % 64, by omega⟩))
        * Ideal.div (Ideal.exp ((sc q kl kc ⟨(g : ℕ) / 4096, by omega⟩ ⟨(n : ℕ) / 64, by omega⟩ ⟨(g : ℕ) % 4096, by omega⟩ k : EReal)
              - Finset.univ.fold max ⊥ fun j => (sc q kl kc ⟨(g : ℕ) / 4096, by omega⟩ ⟨(n : ℕ) / 64, by omega⟩ ⟨(g : ℕ) % 4096, by omega⟩ j : EReal)))
            (∑ k : Fin 4352, Ideal.exp ((sc q kl kc ⟨(g : ℕ) / 4096, by omega⟩ ⟨(n : ℕ) / 64, by omega⟩ ⟨(g : ℕ) % 4096, by omega⟩ k : EReal)
              - Finset.univ.fold max ⊥ fun j => (sc q kl kc ⟨(g : ℕ) / 4096, by omega⟩ ⟨(n : ℕ) / 64, by omega⟩ ⟨(g : ℕ) % 4096, by omega⟩ j : EReal))) := by
  unfold target
  rw [ReferenceIdeal.Att.result_at]
  simp only [ReferenceIdeal.Att.weights_at, ReferenceIdeal.Att.expo_at, ReferenceIdeal.Att.rowmax_at, scores_real, word_bot, bot_le, sup_of_le_right]

variable (m : (ℓ : Loc nD τ sig) → Buf (Elt Ideal) ℓ)

/-- Step `t` holds block `t` of the queries and the output, and batch `t / 8` of the keys and values. -/
theorem idx : ∀ t : Fin cfg0.N, win0_0.index t = ![t.val, 0] ∧ win0_1.index t = ![t.val / 8, 0] ∧ win0_2.index t = ![t.val / 8, 0]
    ∧ win0_3.index t = ![t.val / 8, 0] ∧ win0_4.index t = ![t.val / 8, 0] ∧ win0_5.index t = ![t.val, 0] :=
  (by decide +kernel : ∀ t : Fin grid0.N, _)

theorem lt64 (t : Fin cfg0.N) : (t : ℕ) < 64 := t.isLt

theorem q_blk (c : Dev nD) (t : Fin cfg0.N) (r n : Fin 512) : iblk m c 0 t (ix2 r n)
    = qArr (m ((c : Thread nD τ).loc main_arg0)) (ix2 ⟨512 * t + r, by have := lt64 t; omega⟩ n) := by
  have := lt64 t
  blk_simp [iblk]
  rw [v8]
  blk_ext [idx t]

theorem k_blk (c : Dev nD) (t : Fin cfg0.N) (r : Fin 4096) (n : Fin 512) : iblk m c 1 t (ix2 r n)
    = kArr (m ((c : Thread nD τ).loc main_arg1)) (ix2 ⟨4096 * ((t : ℕ) / 8) + r, by have := lt64 t; omega⟩ n) := by
  have := lt64 t
  blk_simp [iblk]
  rw [v11]
  blk_ext [idx t]

theorem c_blk (c : Dev nD) (t : Fin cfg0.N) (r : Fin 256) (n : Fin 512) : iblk m c 2 t (ix2 r n)
    = cArr (m ((c : Thread nD τ).loc main_arg3)) (ix2 ⟨256 * ((t : ℕ) / 8) + r, by have := lt64 t; omega⟩ n) := by
  have := lt64 t
  blk_simp [iblk]
  rw [v16]
  blk_ext [idx t]

theorem v_blk (c : Dev nD) (t : Fin cfg0.N) (r : Fin 4096) (n : Fin 256) : iblk m c 3 t (ix2 r n)
    = vArr (m ((c : Thread nD τ).loc main_arg2)) (ix2 ⟨4096 * ((t : ℕ) / 8) + r, by have := lt64 t; omega⟩ n) := by
  have := lt64 t
  blk_simp [iblk]
  rw [v13]
  blk_ext [idx t]

theorem w_blk (c : Dev nD) (t : Fin cfg0.N) (r n : Fin 256) : iblk m c 4 t (ix2 r n)
    = wArr (m ((c : Thread nD τ).loc main_arg4)) (ix2 ⟨256 * ((t : ℕ) / 8) + r, by have := lt64 t; omega⟩ n) := by
  have := lt64 t
  blk_simp [iblk]
  rw [v18]
  blk_ext [idx t]

end Cert.KernelIdeal.Att

end
-- ==== Proof.Final.lean ====
module

public import proofs.«01_k».proof.Proof.Value
public import proofs.«01_k».proof.Defs
public import proofs.«01_k».proof.Proof.Gen.Pre_finite_scores
public import Idealize.ShloMosaic.Lib.ReduceAll
public import Idealize.ShloMosaic.Lib.KernelVsHost

/-! The kernel's result array is the reference's, when the queries and the keys are finite. -/

@[expose] public section

set_option maxRecDepth 16384

noncomputable section

namespace Cert.KernelIdeal.Att

open Cert.KernelIdeal Cert.KernelIdeal.Gen
open Idealize.ShloMosaic Idealize.ShloMosaic.TcCoe Idealize.SL.Sem
open Idealize.ShloMosaic.Pipeline (Dat)

/-- Equal coordinates, equal entries. -/
theorem at4 {A B C D : ℕ} {α : Type} (x : (⟨4, ![A, B, C, D]⟩ : Shape).Idx → α) {a a' : Fin A} {b b' : Fin B} {c c' : Fin C} {d d' : Fin D}
    (ha : (a : ℕ) = a') (hb : (b : ℕ) = b') (hc : (c : ℕ) = c') (hd : (d : ℕ) = d') : x (ix4 a b c d) = x (ix4 a' b' c' d') := by
  rw [Fin.ext ha, Fin.ext hb, Fin.ext hc, Fin.ext hd]

variable (m : (ℓ : Loc nD τ sig) → Buf (Elt Ideal) ℓ)

theorem q_entry (c : Dev nD) (x : FVec Ideal S8x4096x4x96 .f32) (hx : m ((c : Thread nD τ).loc main_arg0) = x) (t : Fin cfg0.N) (h : Fin 4) (r : Fin 512) (d : Fin 128) :
    iblk m c 0 t (ix2 r ⟨128 * h + d, by omega⟩)
      = if hd : (d : ℕ) < 96 then (x (ix4 ⟨(t : ℕ) / 8, by have := lt64 t; omega⟩ ⟨(512 * (t : ℕ) + r) % 4096, by omega⟩ h ⟨d, hd⟩) : EReal)
            * (factor ix0 : EReal) else (0 : EReal) := by
  have ht := lt64 t
  rw [q_blk, hx, qArr_at]
  by_cases hd : (d : ℕ) < 96
  · rw [dif_pos hd, dif_pos (show (128 * (h : ℕ) + d) % 128 < 96 by omega)]
    refine congrArg (· * factor ix0) (at4 (α := EReal) _ ?_ ?_ ?_ ?_)
    · show (512 * (t : ℕ) + r) / 4096 = (t : ℕ) / 8; omega
    · rfl
    · show (128 * (h : ℕ) + d) / 128 = h; omega
    · show (128 * (h : ℕ) + d) % 128 = d; omega
  · rw [dif_neg hd, dif_neg (show ¬ (128 * (h : ℕ) + d) % 128 < 96 by omega)]

theorem k_entry (c : Dev nD) (t : Fin cfg0.N) (h : Fin 4) (r : Fin 4096) (d : Fin 128) :
    iblk m c 1 t (ix2 r ⟨128 * h + d, by omega⟩)
      = if hd : (d : ℕ) < 96 then (m ((c : Thread nD τ).loc main_arg1) : FVec Ideal S8x4096x4x96 .f32)
            (ix4 ⟨(t : ℕ) / 8, by have := lt64 t; omega⟩ r h ⟨d, hd⟩) else (0 : EReal) := by
  have ht := lt64 t
  rw [k_blk, kArr_at]
  by_cases hd : (d : ℕ) < 96
  · rw [dif_pos hd, dif_pos (show (128 * (h : ℕ) + d) % 128 < 96 by omega)]
    refine at4 (α := EReal) _ ?_ ?_ ?_ ?_
    · show (4096 * ((t : ℕ) / 8) + r) / 4096 = (t : ℕ) / 8; omega
    · show (4096 * ((t : ℕ) / 8) + r) % 4096 = r; omega
    · show (128 * (h : ℕ) + d) / 128 = h; omega
    · show (128 * (h : ℕ) + d) % 128 = d; omega
  · rw [dif_neg hd, dif_neg (show ¬ (128 * (h : ℕ) + d) % 128 < 96 by omega)]

theorem c_entry (c : Dev nD) (t : Fin cfg0.N) (h : Fin 4) (r : Fin 256) (d : Fin 128) :
    iblk m c 2 t (ix2 r ⟨128 * h + d, by omega⟩)
      = if hd : (d : ℕ) < 96 then (m ((c : Thread nD τ).loc main_arg3) : FVec Ideal S8x256x4x96 .f32)
            (ix4 ⟨(t : ℕ) / 8, by have := lt64 t; omega⟩ r h ⟨d, hd⟩) else (0 : EReal) := by
  have ht := lt64 t
  rw [c_blk, cArr_at]
  by_cases hd : (d : ℕ) < 96
  · rw [dif_pos hd, dif_pos (show (128 * (h : ℕ) + d) % 128 < 96 by omega)]
    refine at4 (α := EReal) _ ?_ ?_ ?_ ?_
    · show (256 * ((t : ℕ) / 8) + r) / 256 = (t : ℕ) / 8; omega
    · show (256 * ((t : ℕ) / 8) + r) % 256 = r; omega
    · show (128 * (h : ℕ) + d) / 128 = h; omega
    · show (128 * (h : ℕ) + d) % 128 = d; omega
  · rw [dif_neg hd, dif_neg (show ¬ (128 * (h : ℕ) + d) % 128 < 96 by omega)]

section Finite
variable (q kl : S8x4096x4x96.Idx → ℝ) (kc : S8x256x4x96.Idx → ℝ)

theorem row_score (c : Dev nD) (t : Fin cfg0.N)
    (hq : m ((c : Thread nD τ).loc main_arg0) = fun i => (q i : EReal))
    (hk : m ((c : Thread nD τ).loc main_arg1) = fun i => (kl i : EReal))
    (hc : m ((c : Thread nD τ).loc main_arg3) = fun i => (kc i : EReal))
    (h : Fin 4) (r : Fin 512) (k : Fin 4352) :
    rowScore (iblk m c 0 t) (iblk m c 1 t) (iblk m c 2 t) h r k
      = (((Real.log 2)⁻¹ * sc q kl kc ⟨(t : ℕ) / 8, by have := lt64 t; omega⟩ h ⟨(512 * (t : ℕ) + r) % 4096, by omega⟩ k : ℝ) : EReal) := by
  have ht := lt64 t
  unfold rowScore sc
  rw [← ker_score]
  by_cases hl : (k : ℕ) < 4096
  · rw [dif_pos hl]
    simp only [q_entry m c _ hq, k_entry]
    refine (sum_pad (fun d => (q (ix4 ⟨(t : ℕ) / 8, by omega⟩ ⟨(512 * (t : ℕ) + r) % 4096, by omega⟩ h d) : EReal) * (factor ix0 : EReal))
      (fun d => (m ((c : Thread nD τ).loc main_arg1) : FVec Ideal S8x4096x4x96 .f32) (ix4 ⟨(t : ℕ) / 8, by omega⟩ ⟨k, hl⟩ h d))).trans (Finset.sum_congr rfl fun d _ => ?_)
    rw [hk, dif_pos hl]
  · rw [dif_neg hl]
    simp only [q_entry m c _ hq, c_entry]
    refine (sum_pad (fun d => (q (ix4 ⟨(t : ℕ) / 8, by omega⟩ ⟨(512 * (t : ℕ) + r) % 4096, by omega⟩ h d) : EReal) * (factor ix0 : EReal))
      (fun d => (m ((c : Thread nD τ).loc main_arg3) : FVec Ideal S8x256x4x96 .f32) (ix4 ⟨(t : ℕ) / 8, by omega⟩ ⟨(k : ℕ) - 4096, by omega⟩ h d))).trans (Finset.sum_congr rfl fun d _ => ?_)
    rw [hc, dif_neg hl]

/-- One entry of the kernel's result is the reference's. -/
theorem cell_eq (c : Dev nD) (t : Fin cfg0.N)
    (hq : m ((c : Thread nD τ).loc main_arg0) = fun i => (q i : EReal))
    (hk : m ((c : Thread nD τ).loc main_arg1) = fun i => (kl i : EReal))
    (hc : m ((c : Thread nD τ).loc main_arg3) = fun i => (kc i : EReal)) (r : Fin 512) (n : Fin 256) :
    outsAt0 m c t (ix2 r n) = target (m ((c : Thread nD τ).loc main_arg0)) (m ((c : Thread nD τ).loc main_arg1))
      (m ((c : Thread nD τ).loc main_arg2)) (m ((c : Thread nD τ).loc main_arg3)) (m ((c : Thread nD τ).loc main_arg4))
      (ix2 ⟨512 * t + r, by have := lt64 t; omega⟩ n) := by
  have ht := lt64 t
  rw [point, cell]
  refine (row_eq _ _ (row_score m q kl kc c t hq hk hc _ r) _ _ n (fun k => if hk : (k : ℕ) < 4096
    then (m ((c : Thread nD τ).loc main_arg2) : FVec Ideal S8x4096x4x64 .f32) (ix4 ⟨(t : ℕ) / 8, by omega⟩ ⟨k, hk⟩ ⟨(n : ℕ) / 64, by omega⟩ ⟨(n : ℕ) % 64, by omega⟩)
    else (m ((c : Thread nD τ).loc main_arg4) : FVec Ideal S8x256x4x64 .f32) (ix4 ⟨(t : ℕ) / 8, by omega⟩ ⟨(k : ℕ) - 4096, by omega⟩ ⟨(n : ℕ) / 64, by omega⟩ ⟨(n : ℕ) % 64, by omega⟩)) ?_ ?_).trans ?_
  · intro x
    rw [v_blk, vArr_at, dif_pos x.isLt]
    refine at4 (α := EReal) _ ?_ ?_ rfl rfl
    · show (4096 * ((t : ℕ) / 8) + x) / 4096 = (t : ℕ) / 8; omega
    · show (4096 * ((t : ℕ) / 8) + x) % 4096 = x; omega
  · intro x
    rw [w_blk, wArr_at, dif_neg (show ¬ 4096 + (x : ℕ) < 4096 by omega)]
    refine at4 (α := EReal) _ ?_ ?_ rfl rfl
    · show (256 * ((t : ℕ) / 8) + x) / 256 = (t : ℕ) / 8; omega
    · show (256 * ((t : ℕ) / 8) + x) % 256 = 4096 + x - 4096; omega
  · rw [hq, hk, hc, target_at]
    have eb : (⟨(512 * (t : ℕ) + r) / 4096, by omega⟩ : Fin 8) = ⟨(t : ℕ) / 8, by omega⟩ := Fin.ext (by show (512 * (t : ℕ) + r) / 4096 = (t : ℕ) / 8; omega)
    refine Finset.sum_congr rfl fun k _ => ?_
    rw [eb]

/-- The kernel's result array is the reference's. -/
theorem final (c : Dev nD)
    (hq : m ((c : Thread nD τ).loc main_arg0) = fun i => (q i : EReal))
    (hk : m ((c : Thread nD τ).loc main_arg1) = fun i => (kl i : EReal))
    (hc : m ((c : Thread nD τ).loc main_arg3) = fun i => (kc i : EReal)) :
    (dats m 0 c).arrAt 5 cfg0.N = target (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have ht := lt64 t
  rw [after0_5]
  have e : ∀ r n, outsAt0 m c t (ix2 r n) = target (m ((c : Thread nD τ).loc main_arg0)) (m ((c : Thread nD τ).loc main_arg1))
      (m ((c : Thread nD τ).loc main_arg2)) (m ((c : Thread nD τ).loc main_arg3)) (m ((c : Thread nD τ).loc main_arg4))
      (((cfg0.win 5).blk t).view.emb (ix2 r n)) := fun r n => by
    refine (cell_eq m q kl kc c t hq hk hc r n).trans ?_
    generalize target _ _ _ _ _ = G
    blk_ext [idx t]
  blk_simp
  rw [show y = ix2 (y 0) (y 1) from funext fun a => by fin_cases a <;> rfl]
  exact e _ _

end Finite

/-- A number below plus infinity in absolute value is a real. -/
theorem real_of_lt (x : EReal) (h : FloatOps.cmpf (F := Ideal) (φ := .f32) CmpFPredicate.olt (max x (-x) : EReal) (Ideal.ofBits .f32 0x7F800000#32) = 1#1) :
    x = (x.toReal : EReal) := by
  have htop : Ideal.ofBits .f32 0x7F800000#32 = (⊤ : EReal) := by simp [Ideal.ofBits, Ideal.ieee]
  rw [htop] at h
  have hlt : max x (-x) < ⊤ := by
    by_contra hn
    change Ideal.cmp .olt (max x (-x)) ⊤ = 1#1 at h
    simp [Ideal.cmp, hn] at h
  rw [max_lt_iff] at hlt
  refine (EReal.coe_toReal hlt.1.ne ?_).symm
  rintro rfl
  simp at hlt

/-- The precondition: the queries and both keys are arrays of reals. -/
theorem finite (q kl : FVec Ideal S8x4096x4x96 .f32) (vl : FVec Ideal S8x4096x4x64 .f32) (kc : FVec Ideal S8x256x4x96 .f32)
    (vc : FVec Ideal S8x256x4x64 .f32) (h : Cert.Pre_finite_scores.fn (F := Ideal) q kl vl kc vc = fun _ => 1#1) :
    (∃ x : S8x4096x4x96.Idx → ℝ, q = fun i => (x i : EReal)) ∧ (∃ x : S8x4096x4x96.Idx → ℝ, kl = fun i => (x i : EReal))
      ∧ ∃ x : S8x256x4x96.Idx → ℝ, kc = fun i => (x i : EReal) := by
  have h0 := congrFun h ix0
  obtain ⟨h12, h3⟩ := IntOp.andi_eq_one.1 h0
  obtain ⟨h1, h2⟩ := IntOp.andi_eq_one.1 h12
  exact ⟨⟨fun i => (q i : EReal).toReal, funext fun i => real_of_lt (q i) (Host.reduce_andi_all _ _ _ _ _ h1 i)⟩,
    ⟨fun i => (kl i : EReal).toReal, funext fun i => real_of_lt (kl i) (Host.reduce_andi_all _ _ _ _ _ h2 i)⟩,
    ⟨fun i => (kc i : EReal).toReal, funext fun i => real_of_lt (kc i) (Host.reduce_andi_all _ _ _ _ _ h3 i)⟩⟩

end Cert.KernelIdeal.Att

end
-- ==== Proof.MoeRun.lean ====
/- The grouped feed-forward body on whole staging buffers, along each of its two control paths: a valid tile
   (the expert's gated feed-forward is stored) and an invalid one (zeros are stored). -/
module

public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables as the body is handed them. -/
abbrev tbE : Memref sig .tc .smem S152 .i32 := Memref.whole main_v48
abbrev tbV : Memref sig .tc .smem S152 .i32 := Memref.whole main_v53

/-- One staging buffer of the output, through which its contents are stated. -/
abbrev VO : View sig .tc .vmem S512x1024 .f32 := (Memref.whole cc0_stg5_0 : Memref sig .tc .vmem S512x1024 .f32).view

/-- The tile's validity word, as each of the body's two loads reads it. -/
abbrev word1 (i : grid0.Coords) (T1 : S152.Idx → Elt F .i32) : BitVec 32 :=
  View.readAt (Elt F) tbV.view (Rect.unit (s := S152) (k0_off1 i) S1.size (k0_off1_inb i)).toLoadRect T1 (Shape.Idx.first (numel1_S1.symm ▸ Nat.one_pos))
abbrev word2 (i : grid0.Coords) (T1 : S152.Idx → Elt F .i32) : BitVec 32 :=
  View.readAt (Elt F) tbV.view (Rect.unit (s := S152) (k0_off2 i) S1.size (k0_off2_inb i)).toLoadRect T1 (Shape.Idx.first (numel1_S1.symm ▸ Nat.one_pos))

theorem word_eq (i : grid0.Coords) (T1 : S152.Idx → Elt F .i32) : word1 i T1 = word2 i T1 := rfl

theorem cond1_iff (w : BitVec 32) : k0_cond1 w = 1#1 ↔ w ≠ 0#32 := by
  have hb : ∀ b : Bool, Scalar.cmpi .ne (Scalar.extui (BitVec.ofBool b) : BitVec 32) 0#32 = 1#1 ↔ b = true := by decide
  unfold k0_cond1
  refine (hb (w != 0#32)).trans ?_
  simp
theorem cond2_iff (w : BitVec 32) : k0_cond2 w = 1#1 ↔ w = 0#32 := by
  have hb : ∀ b : Bool, Scalar.cmpi .ne (Scalar.extui (BitVec.ofBool b) : BitVec 32) 0#32 = 1#1 ↔ b = true := by decide
  unfold k0_cond2
  refine (hb (w == 0#32)).trans ?_
  simp

set_option backward.proofsInPublic true in
set_option maxHeartbeats 8000000 in
/-- The body at a tile marked valid: the pieces it stores into the output's buffer, with the triple. -/
noncomputable def runA (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (T0 T1 : S152.Idx → Elt F .i32)
    (x0 : S512x1024.Idx → Elt F .bf16) (x1 : S512x1.Idx → Elt F .f32) (x2 x3 : S1x1024x512.Idx → Elt F .bf16) (x4 : S1x512x1024.Idx → Elt F .bf16) (h1 : k0_cond1 (word1 i T1) = 1#1) (h2 : ¬k0_cond2 (word2 i T1) = 1#1) :
    { out0 : List (View.Piece (Elt F) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbE.view.loc (c : Thread nD τ) ↦{fullShare.right} T0)
          ∗ (tbV.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbE.view.loc (c : Thread nD τ) ↦{fullShare.right} T0)
          ∗ (tbV.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_grouped i tbE (Memref.isWhole_whole _) tbV (Memref.isWhole_whole _) arg3 harg3 arg4 harg4 arg5 harg5 arg6 harg6 arg7 harg7 arg8 harg8) K } :=
  ⟨_, fun K => by
    unfold owns
    rw [cc0_moe_grouped_eq_skeleton]; unfold cc0_moe_grouped_skel
    iintro ⟨H0, H1, H2, H3, H4, HT0, HT1, ⟨%d5, %f5, -, HO5⟩, Hk⟩
    have hT0 : tbE.IsWhole := Memref.isWhole_whole _
    have hT1 : tbV.IsWhole := Memref.isWhole_whole _
    sl_exec! (disch := first | (guard_target = k0_cond1 _ = _; exact h1) | (guard_target = ¬(k0_cond2 _ = _); exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

theorem coverA (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (T0 T1 : S152.Idx → Elt F .i32)
    (x0 : S512x1024.Idx → Elt F .bf16) (x1 : S512x1.Idx → Elt F .f32) (x2 x3 : S1x1024x512.Idx → Elt F .bf16) (x4 : S1x512x1024.Idx → Elt F .bf16) (h1 : k0_cond1 (word1 i T1) = 1#1) (h2 : ¬k0_cond2 (word2 i T1) = 1#1) (y : S512x1024.Idx) :
    ∃ pc ∈ (runA c i arg3 harg3 arg4 harg4 arg5 harg5 arg6 harg6 arg7 harg7 arg8 harg8 T0 T1 x0 x1 x2 x3 x4 h1 h2).1, y ∈ pc.1.set :=
  View.cover_of_tiledL (runA c i arg3 harg3 arg4 harg4 arg5 harg5 arg6 harg6 arg7 harg7 arg8 harg8 T0 T1 x0 x1 x2 x3 x4 h1 h2).1 S512x1024.size (by sl_kernel_rfl) y

/-- What the output's buffer holds after the body at a tile marked valid. -/
def outA (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (T0 T1 : S152.Idx → Elt F .i32)
    (x0 : S512x1024.Idx → Elt F .bf16) (x1 : S512x1.Idx → Elt F .f32) (x2 x3 : S1x1024x512.Idx → Elt F .bf16) (x4 : S1x512x1024.Idx → Elt F .bf16) (h1 : k0_cond1 (word1 i T1) = 1#1) (h2 : ¬k0_cond2 (word2 i T1) = 1#1) : S512x1024.Idx → Elt F .f32 :=
  VO.read (Elt F) (VO.writes (Elt F) VO.junk (runA c i arg3 harg3 arg4 harg4 arg5 harg5 arg6 harg6 arg7 harg7 arg8 harg8 T0 T1 x0 x1 x2 x3 x4 h1 h2).1)

set_option backward.proofsInPublic true in
set_option maxHeartbeats 8000000 in
/-- The body at a tile marked invalid: the pieces it stores into the output's buffer, with the triple. -/
noncomputable def runB (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (T0 T1 : S152.Idx → Elt F .i32)
    (x0 : S512x1024.Idx → Elt F .bf16) (x1 : S512x1.Idx → Elt F .f32) (x2 x3 : S1x1024x512.Idx → Elt F .bf16) (x4 : S1x512x1024.Idx → Elt F .bf16) (h1 : ¬k0_cond1 (word1 i T1) = 1#1) (h2 : k0_cond2 (word2 i T1) = 1#1) :
    { out0 : List (View.Piece (Elt F) S512x1024 .f32) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbE.view.loc (c : Thread nD τ) ↦{fullShare.right} T0)
          ∗ (tbV.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbE.view.loc (c : Thread nD τ) ↦{fullShare.right} T0)
          ∗ (tbV.view.loc (c : Thread nD τ) ↦{fullShare.right} T1)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_grouped i tbE (Memref.isWhole_whole _) tbV (Memref.isWhole_whole _) arg3 harg3 arg4 harg4 arg5 harg5 arg6 harg6 arg7 harg7 arg8 harg8) K } :=
  ⟨_, fun K => by
    unfold owns
    rw [cc0_moe_grouped_eq_skeleton]; unfold cc0_moe_grouped_skel
    iintro ⟨H0, H1, H2, H3, H4, HT0, HT1, ⟨%d5, %f5, -, HO5⟩, Hk⟩
    have hT0 : tbE.IsWhole := Memref.isWhole_whole _
    have hT1 : tbV.IsWhole := Memref.isWhole_whole _
    sl_exec! (disch := first | (guard_target = ¬(k0_cond1 _ = _); exact h1) | (guard_target = k0_cond2 _ = _; exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; iexact HO5⟩

theorem coverB (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (T0 T1 : S152.Idx → Elt F .i32)
    (x0 : S512x1024.Idx → Elt F .bf16) (x1 : S512x1.Idx → Elt F .f32) (x2 x3 : S1x1024x512.Idx → Elt F .bf16) (x4 : S1x512x1024.Idx → Elt F .bf16) (h1 : ¬k0_cond1 (word1 i T1) = 1#1) (h2 : k0_cond2 (word2 i T1) = 1#1) (y : S512x1024.Idx) :
    ∃ pc ∈ (runB c i arg3 harg3 arg4 harg4 arg5 harg5 arg6 harg6 arg7 harg7 arg8 harg8 T0 T1 x0 x1 x2 x3 x4 h1 h2).1, y ∈ pc.1.set :=
  View.cover_of_tiledL (runB c i arg3 harg3 arg4 harg4 arg5 harg5 arg6 harg6 arg7 harg7 arg8 harg8 T0 T1 x0 x1 x2 x3 x4 h1 h2).1 S512x1024.size (by sl_kernel_rfl) y

/-- What the output's buffer holds after the body at a tile marked invalid. -/
def outB (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (T0 T1 : S152.Idx → Elt F .i32)
    (x0 : S512x1024.Idx → Elt F .bf16) (x1 : S512x1.Idx → Elt F .f32) (x2 x3 : S1x1024x512.Idx → Elt F .bf16) (x4 : S1x512x1024.Idx → Elt F .bf16) (h1 : ¬k0_cond1 (word1 i T1) = 1#1) (h2 : k0_cond2 (word2 i T1) = 1#1) : S512x1024.Idx → Elt F .f32 :=
  VO.read (Elt F) (VO.writes (Elt F) VO.junk (runB c i arg3 harg3 arg4 harg4 arg5 harg5 arg6 harg6 arg7 harg7 arg8 harg8 T0 T1 x0 x1 x2 x3 x4 h1 h2).1)

end Cert.Kernel2Ideal.Moe

end
-- ==== Proof.MoeHost.lean ====
/- The grouped feed-forward call's host operations: the plan before the region, the combination after it, the contents
   between their stretches, and the buffers each leaves alone. -/
module

public import proofs.«01_k».proof.Proof.Gen.Kernel2Ideal.Launch
public import Idealize.ShloMosaic.Lib.Pipeline.FrameSuffix
public import Idealize.ShloMosaic.Lib.StableHlo.RunRead
public import Idealize.ShloMosaic.Lib.Pipeline.Frame
public import Idealize.ShloMosaic.Lib.Pipeline.TableIdle
public import Idealize.ShloMosaic.Lib.Pipeline.Quiescent
public import Idealize.ShloMosaic.Lib.Claim
public import Idealize.ShloMosaic.Adequacy

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The stretches before the region, in order. -/
abbrev opsBefore : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]
/-- The stretches after it. -/
abbrev opsAfter : List (List (HloOp τ sig (Elt F))) := [hostOps1, hostOps1_1, hostOps1_2, hostOps1_3, hostOps1_4]

/-- The buffers when the region is entered. -/
abbrev V (c : Dev nD) (b : Ref sig .tc) : Buf (Elt F) ((c : Thread nD τ).loc b) :=
  StableHlo.after opsBefore.flatten (fun b => m (c, b)) b

/-! ## The contents after each stretch -/

abbrev U0 (c : Dev nD) : Valuation τ sig (Elt F) := fun b => m (c, b)
def U1 (c : Dev nD) : Valuation τ sig (Elt F) := StableHlo.after hostOps0 (U0 m c)
def U2 (c : Dev nD) : Valuation τ sig (Elt F) := StableHlo.after hostOps0_1 (U1 m c)
def U3 (c : Dev nD) : Valuation τ sig (Elt F) := StableHlo.after hostOps0_2 (U2 m c)
def U4 (c : Dev nD) : Valuation τ sig (Elt F) := StableHlo.after hostOps0_3 (U3 m c)
def U5 (c : Dev nD) : Valuation τ sig (Elt F) := StableHlo.after hostOps0_4 (U4 m c)
def U6 (c : Dev nD) : Valuation τ sig (Elt F) := StableHlo.after hostOps0_5 (U5 m c)
def U7 (c : Dev nD) : Valuation τ sig (Elt F) := StableHlo.after hostOps0_6 (U6 m c)
def U8 (c : Dev nD) : Valuation τ sig (Elt F) := StableHlo.after hostOps0_7 (U7 m c)
def U9 (c : Dev nD) : Valuation τ sig (Elt F) := StableHlo.after hostOps0_8 (U8 m c)
def U10 (c : Dev nD) : Valuation τ sig (Elt F) := StableHlo.after hostOps0_9 (U9 m c)
def U11 (c : Dev nD) : Valuation τ sig (Elt F) := StableHlo.after hostOps0_10 (U10 m c)
def U12 (c : Dev nD) : Valuation τ sig (Elt F) := StableHlo.after hostOps0_11 (U11 m c)
def U13 (c : Dev nD) : Valuation τ sig (Elt F) := StableHlo.after hostOps0_12 (U12 m c)
def U14 (c : Dev nD) : Valuation τ sig (Elt F) := StableHlo.after hostOps0_13 (U13 m c)
def U15 (c : Dev nD) : Valuation τ sig (Elt F) := StableHlo.after hostOps0_14 (U14 m c)
def U16 (c : Dev nD) : Valuation τ sig (Elt F) := StableHlo.after hostOps0_15 (U15 m c)
def U17 (c : Dev nD) : Valuation τ sig (Elt F) := StableHlo.after hostOps0_16 (U16 m c)
def U18 (c : Dev nD) : Valuation τ sig (Elt F) := StableHlo.after hostOps0_17 (U17 m c)
def U19 (c : Dev nD) : Valuation τ sig (Elt F) := StableHlo.after hostOps0_18 (U18 m c)
def U20 (c : Dev nD) : Valuation τ sig (Elt F) := StableHlo.after hostOps0_19 (U19 m c)
def U21 (c : Dev nD) : Valuation τ sig (Elt F) := StableHlo.after hostOps0_20 (U20 m c)
def U22 (c : Dev nD) : Valuation τ sig (Elt F) := StableHlo.after hostOps0_21 (U21 m c)
def U23 (c : Dev nD) : Valuation τ sig (Elt F) := StableHlo.after hostOps0_22 (U22 m c)
def U24 (c : Dev nD) : Valuation τ sig (Elt F) := StableHlo.after hostOps0_23 (U23 m c)
def U25 (c : Dev nD) : Valuation τ sig (Elt F) := StableHlo.after hostOps0_24 (U24 m c)

theorem V_eq (c : Dev nD) (b : Ref sig .tc) : V m c b = U25 m c (Proc.devRef .tc b) := by
  unfold V opsBefore
  simp only [List.flatten_cons, List.flatten_nil, List.append_nil, StableHlo.after_append]
  rfl

/-! ## What each stretch leaves alone -/

theorem keep0 (c : Dev nD) (b : Ref sig .tc) (hb : b ∉ [main_v0]) :
    U1 m c (Proc.devRef .tc b) = U0 m c (Proc.devRef .tc b) :=
  StableHlo.after_unwritten _ rfl hb _
theorem keep1 (c : Dev nD) (b : Ref sig .tc) (hb : b ∉ [main_call0_v0, main_call0_v1_0, main_v1]) :
    U2 m c (Proc.devRef .tc b) = U1 m c (Proc.devRef .tc b) :=
  StableHlo.after_unwritten _ rfl hb _
theorem keep2 (c : Dev nD) (b : Ref sig .tc) (hb : b ∉ [main_v2, main_v3, main_v4, main_v5, main_v6, main_v7, main_v8]) :
    U3 m c (Proc.devRef .tc b) = U2 m c (Proc.devRef .tc b) :=
  StableHlo.after_unwritten _ rfl hb _
theorem keep3 (c : Dev nD) (b : Ref sig .tc) (hb : b ∉ [main_call1_call0_c, main_call1_call0_v0, main_v9]) :
    U4 m c (Proc.devRef .tc b) = U3 m c (Proc.devRef .tc b) :=
  StableHlo.after_unwritten _ rfl hb _
theorem keep4 (c : Dev nD) (b : Ref sig .tc) (hb : b ∉ [main_v10, main_v11, main_v12]) :
    U5 m c (Proc.devRef .tc b) = U4 m c (Proc.devRef .tc b) :=
  StableHlo.after_unwritten _ rfl hb _
theorem keep5 (c : Dev nD) (b : Ref sig .tc) (hb : b ∉ [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v13]) :
    U6 m c (Proc.devRef .tc b) = U5 m c (Proc.devRef .tc b) :=
  StableHlo.after_unwritten _ rfl hb _
theorem keep6 (c : Dev nD) (b : Ref sig .tc) (hb : b ∉ [main_v14, main_c, main_v15, main_v16, main_c_0, main_v17, main_v18, main_c_1, main_v19, main_v20, main_c_2]) :
    U7 m c (Proc.devRef .tc b) = U6 m c (Proc.devRef .tc b) :=
  StableHlo.after_unwritten _ rfl hb _
theorem keep7 (c : Dev nD) (b : Ref sig .tc) (hb : b ∉ [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v21]) :
    U8 m c (Proc.devRef .tc b) = U7 m c (Proc.devRef .tc b) :=
  StableHlo.after_unwritten _ rfl hb _
theorem keep8 (c : Dev nD) (b : Ref sig .tc) (hb : b ∉ [main_c_3, main_v22, main_v23]) :
    U9 m c (Proc.devRef .tc b) = U8 m c (Proc.devRef .tc b) :=
  StableHlo.after_unwritten _ rfl hb _
theorem keep9 (c : Dev nD) (b : Ref sig .tc) (hb : b ∉ [main_call4_call0_c, main_call4_call0_v0, main_v24]) :
    U10 m c (Proc.devRef .tc b) = U9 m c (Proc.devRef .tc b) :=
  StableHlo.after_unwritten _ rfl hb _
theorem keep10 (c : Dev nD) (b : Ref sig .tc) (hb : b ∉ [main_v25]) :
    U11 m c (Proc.devRef .tc b) = U10 m c (Proc.devRef .tc b) :=
  StableHlo.after_unwritten _ rfl hb _
theorem keep11 (c : Dev nD) (b : Ref sig .tc) (hb : b ∉ [main_call5_call0_c, main_call5_call0_v0, main_v26]) :
    U12 m c (Proc.devRef .tc b) = U11 m c (Proc.devRef .tc b) :=
  StableHlo.after_unwritten _ rfl hb _
theorem keep12 (c : Dev nD) (b : Ref sig .tc) (hb : b ∉ [main_v27, main_c_4, main_v28, main_v29, main_c_5, main_v30, main_v31, main_v32, main_v33, main_v34, main_v35, main_v36, main_v37, main_c_6, main_v38, main_v39, main_v40, main_v41, main_v42, main_v43, main_v44, main_v45, main_c_7, main_v46, main_c_8, main_v47, main_v48, main_v49, main_v50, main_v51, main_v52, main_v53, main_v54, main_c_9]) :
    U13 m c (Proc.devRef .tc b) = U12 m c (Proc.devRef .tc b) :=
  StableHlo.after_unwritten _ rfl hb _
theorem keep13 (c : Dev nD) (b : Ref sig .tc) (hb : b ∉ [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v55]) :
    U14 m c (Proc.devRef .tc b) = U13 m c (Proc.devRef .tc b) :=
  StableHlo.after_unwritten _ rfl hb _
theorem keep14 (c : Dev nD) (b : Ref sig .tc) (hb : b ∉ [main_c_10, main_v56, main_v57, main_c_11, main_v58, main_v59, main_v60, main_v61, main_v62, main_c_12, main_v63, main_v64, main_c_13, main_v65, main_v66, main_v67, main_v68, main_v69, main_v70, main_c_14, main_v71, main_v72, main_c_15, main_v73, main_v74, main_v75, main_v76, main_v77, main_v78, main_v79, main_v80, main_v81, main_v82, main_v83, main_c_16, main_v84, main_v85, main_c_17, main_v86, main_v87, main_v88, main_v89, main_v90, main_v91, main_c_18, main_c_19]) :
    U15 m c (Proc.devRef .tc b) = U14 m c (Proc.devRef .tc b) :=
  StableHlo.after_unwritten _ rfl hb _
theorem keep15 (c : Dev nD) (b : Ref sig .tc) (hb : b ∉ [main_call7_v0, main_call7_v1, main_call7_v2, main_call7_v3, main_call7_v4, main_v92]) :
    U16 m c (Proc.devRef .tc b) = U15 m c (Proc.devRef .tc b) :=
  StableHlo.after_unwritten _ rfl hb _
theorem keep16 (c : Dev nD) (b : Ref sig .tc) (hb : b ∉ [main_c_20, main_v93, main_v94, main_c_21, main_v95, main_v96, main_v97, main_v98, main_v99, main_c_22]) :
    U17 m c (Proc.devRef .tc b) = U16 m c (Proc.devRef .tc b) :=
  StableHlo.after_unwritten _ rfl hb _
theorem keep17 (c : Dev nD) (b : Ref sig .tc) (hb : b ∉ [main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v100]) :
    U18 m c (Proc.devRef .tc b) = U17 m c (Proc.devRef .tc b) :=
  StableHlo.after_unwritten _ rfl hb _
theorem keep18 (c : Dev nD) (b : Ref sig .tc) (hb : b ∉ [main_c_23]) :
    U19 m c (Proc.devRef .tc b) = U18 m c (Proc.devRef .tc b) :=
  StableHlo.after_unwritten _ rfl hb _
theorem keep19 (c : Dev nD) (b : Ref sig .tc) (hb : b ∉ [main_call9_v0, main_call9_v1, main_v101]) :
    U20 m c (Proc.devRef .tc b) = U19 m c (Proc.devRef .tc b) :=
  StableHlo.after_unwritten _ rfl hb _
theorem keep20 (c : Dev nD) (b : Ref sig .tc) (hb : b ∉ [main_v102, main_c_24, main_v103, main_v104, main_c_25, main_v105, main_v106, main_v107, main_v108, main_v109, main_cst]) :
    U21 m c (Proc.devRef .tc b) = U20 m c (Proc.devRef .tc b) :=
  StableHlo.after_unwritten _ rfl hb _
theorem keep21 (c : Dev nD) (b : Ref sig .tc) (hb : b ∉ [main_call10_v0, main_call10_v1, main_v110]) :
    U22 m c (Proc.devRef .tc b) = U21 m c (Proc.devRef .tc b) :=
  StableHlo.after_unwritten _ rfl hb _
theorem keep22 (c : Dev nD) (b : Ref sig .tc) (hb : b ∉ [main_v111]) :
    U23 m c (Proc.devRef .tc b) = U22 m c (Proc.devRef .tc b) :=
  StableHlo.after_unwritten _ rfl hb _
theorem keep23 (c : Dev nD) (b : Ref sig .tc) (hb : b ∉ [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v112]) :
    U24 m c (Proc.devRef .tc b) = U23 m c (Proc.devRef .tc b) :=
  StableHlo.after_unwritten _ rfl hb _
theorem keep24 (c : Dev nD) (b : Ref sig .tc) (hb : b ∉ [main_v113, main_v114, main_v115, main_v116]) :
    U25 m c (Proc.devRef .tc b) = U24 m c (Proc.devRef .tc b) :=
  StableHlo.after_unwritten _ rfl hb _
theorem keepAfter0 (W : Valuation τ sig (Elt F)) (b : Ref sig .tc) (hb : b ∉ [main_v118, main_v119]) :
    StableHlo.after hostOps1 W (Proc.devRef .tc b) = W (Proc.devRef .tc b) :=
  StableHlo.after_unwritten _ rfl hb _
theorem keepAfter1 (W : Valuation τ sig (Elt F)) (b : Ref sig .tc) (hb : b ∉ [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v120]) :
    StableHlo.after hostOps1_1 W (Proc.devRef .tc b) = W (Proc.devRef .tc b) :=
  StableHlo.after_unwritten _ rfl hb _
theorem keepAfter2 (W : Valuation τ sig (Elt F)) (b : Ref sig .tc) (hb : b ∉ [main_v121, main_v122]) :
    StableHlo.after hostOps1_2 W (Proc.devRef .tc b) = W (Proc.devRef .tc b) :=
  StableHlo.after_unwritten _ rfl hb _
theorem keepAfter3 (W : Valuation τ sig (Elt F)) (b : Ref sig .tc) (hb : b ∉ [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v123]) :
    StableHlo.after hostOps1_3 W (Proc.devRef .tc b) = W (Proc.devRef .tc b) :=
  StableHlo.after_unwritten _ rfl hb _
theorem keepAfter4 (W : Valuation τ sig (Elt F)) (b : Ref sig .tc) (hb : b ∉ [main_v124]) :
    StableHlo.after hostOps1_4 W (Proc.devRef .tc b) = W (Proc.devRef .tc b) :=
  StableHlo.after_unwritten _ rfl hb _

/-- No operation before the region writes an argument. -/
theorem V_args (c : Dev nD) :
    V m c main_arg0 = m ((c : Thread nD τ).loc main_arg0)
      ∧ V m c main_arg1 = m ((c : Thread nD τ).loc main_arg1)
      ∧ V m c main_arg2 = m ((c : Thread nD τ).loc main_arg2)
      ∧ V m c main_arg3 = m ((c : Thread nD τ).loc main_arg3)
      ∧ V m c main_arg4 = m ((c : Thread nD τ).loc main_arg4)
      ∧ V m c main_arg5 = m ((c : Thread nD τ).loc main_arg5) := by
  refine ⟨?_, ?_, ?_, ?_, ?_, ?_⟩
  all_goals rw [V_eq, keep24 _ _ _ (by decide), keep23 _ _ _ (by decide), keep22 _ _ _ (by decide), keep21 _ _ _ (by decide), keep20 _ _ _ (by decide), keep19 _ _ _ (by decide), keep18 _ _ _ (by decide), keep17 _ _ _ (by decide), keep16 _ _ _ (by decide), keep15 _ _ _ (by decide), keep14 _ _ _ (by decide), keep13 _ _ _ (by decide), keep12 _ _ _ (by decide), keep11 _ _ _ (by decide), keep10 _ _ _ (by decide), keep9 _ _ _ (by decide), keep8 _ _ _ (by decide), keep7 _ _ _ (by decide), keep6 _ _ _ (by decide), keep5 _ _ _ (by decide), keep4 _ _ _ (by decide), keep3 _ _ _ (by decide), keep2 _ _ _ (by decide), keep1 _ _ _ (by decide), keep0 _ _ _ (by decide)]

/-- What the operations after the region find at `b`, when they leave it alone. -/
theorem after_keep (W : Valuation τ sig (Elt F)) (b : Ref sig .tc)
    (hb : b ∉ [main_v118, main_v119, main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v120, main_v121, main_v122, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v123, main_v124]) :
    StableHlo.after opsAfter.flatten W (Proc.devRef .tc b) = W (Proc.devRef .tc b) :=
  StableHlo.after_unwritten _ rfl hb _

theorem fresh_before : (opsBefore : List (List (HloOp τ sig (Elt F)))).Forall fun ops => ops.Forall fun op => op.fresh = ∅ := by
  simp only [List.Forall]; repeat' constructor
theorem fresh_after : ∀ ops ∈ (opsAfter : List (List (HloOp τ sig (Elt F)))), ∀ op ∈ ops, op.fresh = ∅ := by
  have h : (opsAfter : List (List (HloOp τ sig (Elt F)))).Forall fun ops => ops.Forall fun op => op.fresh = ∅ := by
    simp only [List.Forall]; repeat' constructor
  exact fun ops ho op h' => (List.forall_iff_forall_mem.mp ((List.forall_iff_forall_mem.mp h) ops ho)) op h'

set_option maxHeartbeats 1600000 in
theorem hmain (𝒱₀ : Variants) : Pipeline.HMainPK (Ix := Unit) (Name := ℕ) (U := UR sig nD τ) (Lvl := ℕ) pcfgs 0 defs₀ 𝒱₀ m (main (F := F)) (V m)
    (fun _ => Pipeline.chain (opsAfter.map StableHlo.seq)) :=
  Pipeline.hmainP_around pcfgs 0 defs₀ 𝒱₀ m main opsBefore opsAfter (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    fresh_before main_chain

theorem after_sub : ∀ ops ∈ (opsAfter : List (List (HloOp τ sig (Elt F)))), ∀ op ∈ ops, op.bufs ⊆ Pipeline.tailRefs sig pre0 spec0 := by
  have h : (opsAfter : List (List (HloOp τ sig (Elt F)))).Forall fun ops => ops.Forall fun op => op.bufs ⊆ StableHlo.tcRefs τ sig := by
    simp only [List.Forall]; exact ⟨hostOps1_sub, hostOps1_1_sub, hostOps1_2_sub, hostOps1_3_sub, hostOps1_4_sub⟩
  have h2 : (opsAfter : List (List (HloOp τ sig (Elt F)))).Forall fun ops => ops.Forall fun op => ∀ k : Fin 2, Proc.devRef .tc (pre0.ref k) ∉ op.bufs := by
    simp only [List.Forall]
    repeat' apply And.intro
    all_goals
      intro k
      fin_cases k <;>
      · simp only [StableHlo.nullary_bufs, StableHlo.unary_bufs, StableHlo.binary_bufs, StableHlo.ternary_bufs, StableHlo.reshape_bufs, Finset.mem_insert, Finset.mem_singleton, not_or]
        repeat' apply And.intro
        all_goals exact StableHlo.devRef_ne_of_ne (by decide)
  exact fun ops ho op h' => Pipeline.sub_tailRefs pre0 spec0 op ((List.forall_iff_forall_mem.mp ((List.forall_iff_forall_mem.mp h) ops ho)) op h')
    ((List.forall_iff_forall_mem.mp ((List.forall_iff_forall_mem.mp h2) ops ho)) op h')

theorem after_arr : ∀ ops ∈ (opsAfter : List (List (HloOp τ sig (Elt F)))), ∀ op ∈ ops, ∀ w : Fin 6, Proc.devRef .tc (Pipeline.arrRef spec0 w) ∉ op.writes := by
  have h2 : (opsAfter : List (List (HloOp τ sig (Elt F)))).Forall fun ops => ops.Forall fun op => ∀ w : Fin 6, Proc.devRef .tc (Pipeline.arrRef spec0 w) ∉ op.writes := by
    simp only [List.Forall]
    repeat' apply And.intro
    all_goals
      intro k
      simp only [StableHlo.nullary_writes, StableHlo.unary_writes, StableHlo.binary_writes, StableHlo.ternary_writes, StableHlo.reshape_writes, Finset.mem_singleton]
      refine StableHlo.devRef_ne_of_ne ?_
      revert k
      decide
  exact fun ops ho op h' => (List.forall_iff_forall_mem.mp ((List.forall_iff_forall_mem.mp h2) ops ho)) op h'

end Cert.Kernel2Ideal.Moe

end
-- ==== Proof.MoeFrame.lean ====
/- The grouped feed-forward call's frame: the pipeline at any contents of its two tables whose experts are in range, the
   body at each point, the launch, and what every array holds at the end. -/
module

public import proofs.«01_k».proof.Proof.MoeRun
public import proofs.«01_k».proof.Proof.MoeHost
public import Idealize.ShloMosaic.Lib.Pipeline.Frame
public import Idealize.ShloMosaic.Lib.Pipeline.TableIdle
public import Idealize.ShloMosaic.Lib.Pipeline.Quiescent
public import Idealize.ShloMosaic.Lib.Claim
public import Idealize.ShloMosaic.Adequacy

@[expose] public section

set_option maxRecDepth 16384

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (a : (pcfg0 (F := F)).Adm)

/-! ## A point's coordinates, blocks and staging buffers -/

abbrev cfgA : Pipeline.Cfg sig Λ₀ := cfg0 (F := F) a
abbrev pcs : Fin 1 → Pipeline.Cfg sig Λ₀ := Pipeline.pin (pcfgs (F := F)) fun _ => a
abbrev crd (t : Fin (cfgA a).N) : grid0.Coords := (cfgA a).grid.coords t

/-- The tables' contents at their literal types. -/
abbrev tE : S152.Idx → Elt F .i32 := a.1 0
abbrev tV : S152.Idx → Elt F .i32 := a.1 1

abbrev ms0 (t : Fin (cfgA a).N) : Memref sig .tc .vmem S512x1024 .bf16 := spec0_0.stage ((cfgA a).slots t (0 : Fin 6))
abbrev hs0 (t : Fin (cfgA a).N) : (ms0 a t).IsWhole := hstage0_0 (((cfgA a).slots t (0 : Fin 6)).cast nbuf0_0)
abbrev ms1 (t : Fin (cfgA a).N) : Memref sig .tc .vmem S512x1 .f32 := spec0_1.stage ((cfgA a).slots t (1 : Fin 6))
abbrev hs1 (t : Fin (cfgA a).N) : (ms1 a t).IsWhole := hstage0_1 (((cfgA a).slots t (1 : Fin 6)).cast nbuf0_1)
abbrev ms2 (t : Fin (cfgA a).N) : Memref sig .tc .vmem S1x1024x512 .bf16 := spec0_2.stage ((cfgA a).slots t (2 : Fin 6))
abbrev hs2 (t : Fin (cfgA a).N) : (ms2 a t).IsWhole := hstage0_2 (((cfgA a).slots t (2 : Fin 6)).cast nbuf0_2)
abbrev ms3 (t : Fin (cfgA a).N) : Memref sig .tc .vmem S1x1024x512 .bf16 := spec0_3.stage ((cfgA a).slots t (3 : Fin 6))
abbrev hs3 (t : Fin (cfgA a).N) : (ms3 a t).IsWhole := hstage0_3 (((cfgA a).slots t (3 : Fin 6)).cast nbuf0_3)
abbrev ms4 (t : Fin (cfgA a).N) : Memref sig .tc .vmem S1x512x1024 .bf16 := spec0_4.stage ((cfgA a).slots t (4 : Fin 6))
abbrev hs4 (t : Fin (cfgA a).N) : (ms4 a t).IsWhole := hstage0_4 (((cfgA a).slots t (4 : Fin 6)).cast nbuf0_4)
abbrev ms5 (t : Fin (cfgA a).N) : Memref sig .tc .vmem S512x1024 .f32 := spec0_5.stage ((cfgA a).slots t (5 : Fin 6))
abbrev hs5 (t : Fin (cfgA a).N) : (ms5 a t).IsWhole := hstage0_5 (((cfgA a).slots t (5 : Fin 6)).cast nbuf0_5)

/-- Window `w`'s block at point `t`, read off its array as the region finds it. -/
def iblk (c : Dev nD) (w : Fin (cfgA a).W) (t : Fin (cfgA a).N) : (((cfgA a).win w).xblock ((cfgA a).grid.coords t)).Idx → Elt F ((cfgA a).win w).elt :=
  (((cfgA a).win w).blk t).view.read (Elt F) (V m c (Pipeline.arrRef spec0 w))

theorem h2_of (t : Fin (cfgA a).N) (h : k0_cond1 (word1 (crd a t) (tV a)) = 1#1) : ¬k0_cond2 (word2 (crd a t) (tV a)) = 1#1 :=
  fun h' => (cond1_iff _).1 h ((cond2_iff _).1 h')
theorem h2_of_not (t : Fin (cfgA a).N) (h : ¬k0_cond1 (word1 (crd a t) (tV a)) = 1#1) : k0_cond2 (word2 (crd a t) (tV a)) = 1#1 :=
  (cond2_iff _).2 (not_not.1 fun h' => h ((cond1_iff _).2 h'))

/-- The output's buffer after the body at point `t`. -/
def outAt (c : Dev nD) (t : Fin (cfgA a).N) : S512x1024.Idx → Elt F .f32 :=
  if h : k0_cond1 (word1 (crd a t) (tV a)) = 1#1 then
    outA c (crd a t) (ms0 a t) (hs0 a t) (ms1 a t) (hs1 a t) (ms2 a t) (hs2 a t) (ms3 a t) (hs3 a t) (ms4 a t) (hs4 a t) (ms5 a t) (hs5 a t) (tE a) (tV a) (iblk m a c (0 : Fin 6) t) (iblk m a c (1 : Fin 6) t) (iblk m a c (2 : Fin 6) t) (iblk m a c (3 : Fin 6) t) (iblk m a c (4 : Fin 6) t) h (h2_of a t h)
  else
    outB c (crd a t) (ms0 a t) (hs0 a t) (ms1 a t) (hs1 a t) (ms2 a t) (hs2 a t) (ms3 a t) (hs3 a t) (ms4 a t) (hs4 a t) (ms5 a t) (hs5 a t) (tE a) (tV a) (iblk m a c (0 : Fin 6) t) (iblk m a c (1 : Fin 6) t) (iblk m a c (2 : Fin 6) t) (iblk m a c (3 : Fin 6) t) (iblk m a c (4 : Fin 6) t) h (h2_of_not a t h)

/-- The output is stored at every point: one of the two conditions holds. -/
theorem idle5 (i : grid0.Coords) : idle0 a.1 5 i = false := by
  show (!(k0_cond1 (a.1.atD 1 (k0_off1 i)) == 1#1) && !(k0_cond2 (a.1.atD 1 (k0_off1 i)) == 1#1)) = false
  generalize a.1.atD 1 (k0_off1 i) = w
  by_cases h : k0_cond1 w = 1#1
  · rw [h]; rfl
  · rw [(cond2_iff w).2 (not_not.1 fun h' => h ((cond1_iff w).2 h'))]; simp

/-! ## The pipeline's proof data -/

def dats (_ : Fin 1) (c : Dev nD) : Dat τ (Elt F) Unit ℕ (UR sig nD τ) ℕ (cfgA a) c where
  A w := V m c (Pipeline.arrRef spec0 w)
  after w t := match w with
    | ⟨0, _⟩ => iblk m a c (0 : Fin 6) t
    | ⟨1, _⟩ => iblk m a c (1 : Fin 6) t
    | ⟨2, _⟩ => iblk m a c (2 : Fin 6) t
    | ⟨3, _⟩ => iblk m a c (3 : Fin 6) t
    | ⟨4, _⟩ => iblk m a c (4 : Fin 6) t
    | ⟨5, _⟩ => outAt m a c t
  Φ _ := iprop(Pipeline.ΦA spec0 c ∗ Pipeline.ΦT pre0 a.1 c)
  q _ := fullShare
  owed _ := 0

theorem A_eq (c : Dev nD) (w : Fin (cfgA a).W) : (dats m a 0 c).A w = V m c (Pipeline.arrRef spec0 w) := by
  dsimp only [dats]

theorem after0 (c : Dev nD) (t : Fin (cfgA a).N) : (dats m a 0 c).after (0 : Fin 6) t = iblk m a c (0 : Fin 6) t := by dsimp only [dats]
theorem after1 (c : Dev nD) (t : Fin (cfgA a).N) : (dats m a 0 c).after (1 : Fin 6) t = iblk m a c (1 : Fin 6) t := by dsimp only [dats]
theorem after2 (c : Dev nD) (t : Fin (cfgA a).N) : (dats m a 0 c).after (2 : Fin 6) t = iblk m a c (2 : Fin 6) t := by dsimp only [dats]
theorem after3 (c : Dev nD) (t : Fin (cfgA a).N) : (dats m a 0 c).after (3 : Fin 6) t = iblk m a c (3 : Fin 6) t := by dsimp only [dats]
theorem after4 (c : Dev nD) (t : Fin (cfgA a).N) : (dats m a 0 c).after (4 : Fin 6) t = iblk m a c (4 : Fin 6) t := by dsimp only [dats]
theorem after5 (c : Dev nD) (t : Fin (cfgA a).N) : (dats m a 0 c).after (5 : Fin 6) t = outAt m a c t := by dsimp only [dats]

theorem before0 (c : Dev nD) (t : Fin (cfgA a).N) (d) : (dats m a 0 c).before (0 : Fin 6) t d = iblk m a c (0 : Fin 6) t :=
  ((dats m a 0 c).before_in_eq_fetched (0 : Fin 6) rfl (fun _ => rfl) (fun _ _ _ => rfl) (fun t => by rw [after0]; unfold Dat.blockOf iblk; rw [A_eq]) t d).trans
    (by unfold Dat.fetched Dat.blockOf iblk; rw [A_eq]; try rfl)

theorem before1 (c : Dev nD) (t : Fin (cfgA a).N) (d) : (dats m a 0 c).before (1 : Fin 6) t d = iblk m a c (1 : Fin 6) t :=
  ((dats m a 0 c).before_in_eq_fetched (1 : Fin 6) rfl (fun _ => rfl) (fun _ _ _ => rfl) (fun t => by rw [after1]; unfold Dat.blockOf iblk; rw [A_eq]) t d).trans
    (by unfold Dat.fetched Dat.blockOf iblk; rw [A_eq]; try rfl)

theorem before2 (c : Dev nD) (t : Fin (cfgA a).N) (d) : (dats m a 0 c).before (2 : Fin 6) t d = iblk m a c (2 : Fin 6) t :=
  ((dats m a 0 c).before_in_eq_fetched (2 : Fin 6) rfl (fun _ => rfl) (fun _ _ _ => rfl) (fun t => by rw [after2]; unfold Dat.blockOf iblk; rw [A_eq]) t d).trans
    (by unfold Dat.fetched Dat.blockOf iblk; rw [A_eq]; try rfl)

theorem before3 (c : Dev nD) (t : Fin (cfgA a).N) (d) : (dats m a 0 c).before (3 : Fin 6) t d = iblk m a c (3 : Fin 6) t :=
  ((dats m a 0 c).before_in_eq_fetched (3 : Fin 6) rfl (fun _ => rfl) (fun _ _ _ => rfl) (fun t => by rw [after3]; unfold Dat.blockOf iblk; rw [A_eq]) t d).trans
    (by unfold Dat.fetched Dat.blockOf iblk; rw [A_eq]; try rfl)

theorem before4 (c : Dev nD) (t : Fin (cfgA a).N) (d) : (dats m a 0 c).before (4 : Fin 6) t d = iblk m a c (4 : Fin 6) t :=
  ((dats m a 0 c).before_in_eq_fetched (4 : Fin 6) rfl (fun _ => rfl) (fun _ _ _ => rfl) (fun t => by rw [after4]; unfold Dat.blockOf iblk; rw [A_eq]) t d).trans
    (by unfold Dat.fetched Dat.blockOf iblk; rw [A_eq]; try rfl)

/-! ## The body obligation -/

/-- The tables as the invariant holds them, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v48) ↦{q 0} v 0) ∗ (((c : Thread nD τ).loc main_v53) ↦{q 1} v 1)) := by
  unfold Pipeline.prefHeld
  rw [show (Finset.univ : Finset (Fin 2)) = insert (0 : Fin 2) {(1 : Fin 2)} from by decide,
    bigSep_insert (by decide), bigSep_singleton]
  rfl

theorem phi_eq (c : Dev nD) (t : Fin ((cfgA a).N + 1)) : (dats m a 0 c).Φ t
    = iprop(Pipeline.ΦA spec0 c ∗ ((tbE.view.loc (c : Thread nD τ) ↦{fullShare.right} tE a) ∗ (tbV.view.loc (c : Thread nD τ) ↦{fullShare.right} tV a))) := by
  show iprop(Pipeline.ΦA spec0 c ∗ Pipeline.prefHeld (Ix := Unit) (Name := ℕ) (U := UR sig nD τ) (Lvl := ℕ) pre0 c (fun _ => fullShare.right) a.1) = _
  rw [prefHeld_eq]

/-- The body at point `t` on its staging memrefs, as the pipeline calls it. -/
abbrev bodyAt (t : Fin (cfgA a).N) : Prog (TpuEff nD τ sig (Elt F) Λ₀ .tc) PUnit :=
  cc0_moe_grouped (crd a t) (Memref.whole main_v48) (Memref.isWhole_whole _) (Memref.whole main_v53) (Memref.isWhole_whole _) (ms0 a t) (hs0 a t) (ms1 a t) (hs1 a t) (ms2 a t) (hs2 a t) (ms3 a t) (hs3 a t) (ms4 a t) (hs4 a t) (ms5 a t) (hs5 a t)

set_option maxHeartbeats 4000000 in
theorem sound_body (c : Dev nD) (t : Fin (cfgA a).N) :
    iprop((dats m a 0 c).Φ t.castSucc ∗ (dats m a 0 c).owesAt () t.castSucc
        ∗ (∃ d, owns (c : Thread nD τ) (ms0 a t) fullShare ((dats m a 0 c).before (0 : Fin 6) t d))
        ∗ (∃ d, owns (c : Thread nD τ) (ms1 a t) fullShare ((dats m a 0 c).before (1 : Fin 6) t d))
        ∗ (∃ d, owns (c : Thread nD τ) (ms2 a t) fullShare ((dats m a 0 c).before (2 : Fin 6) t d))
        ∗ (∃ d, owns (c : Thread nD τ) (ms3 a t) fullShare ((dats m a 0 c).before (3 : Fin 6) t d))
        ∗ (∃ d, owns (c : Thread nD τ) (ms4 a t) fullShare ((dats m a 0 c).before (4 : Fin 6) t d))
        ∗ (∃ d, owns (c : Thread nD τ) (ms5 a t) fullShare ((dats m a 0 c).before (5 : Fin 6) t d)))
      ⊢ wp frame (wpE (defs₀ (F := F)) Variants.none c none) Set.univ (bodyAt a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  have i5 : (cfgA a).idle (5 : Fin 6) ((cfgA a).grid.coords t) = false := idle5 a _
  rewrite [i5]
  simp only [before0, before1, before2, before3, before4, after0, after1, after2, after3, after4, after5]
  rewrite [phi_eq, phi_eq, show (dats m a 0 c).owesAt () t.succ = (dats m a 0 c).owesAt () t.castSucc from rfl]
  iintro ⟨⟨HA, HT0, HT1⟩, Ho, ⟨%d0, H0⟩, ⟨%d1, H1⟩, ⟨%d2, H2⟩, ⟨%d3, H3⟩, ⟨%d4, H4⟩, ⟨%d5, H5⟩⟩
  by_cases h : k0_cond1 (word1 (crd a t) (tV a)) = 1#1
  · rewrite [show outAt m a c t = outA c (crd a t) (ms0 a t) (hs0 a t) (ms1 a t) (hs1 a t) (ms2 a t) (hs2 a t) (ms3 a t) (hs3 a t) (ms4 a t) (hs4 a t) (ms5 a t) (hs5 a t) (tE a) (tV a) (iblk m a c (0 : Fin 6) t) (iblk m a c (1 : Fin 6) t) (iblk m a c (2 : Fin 6) t) (iblk m a c (3 : Fin 6) t) (iblk m a c (4 : Fin 6) t) h (h2_of a t h) from dif_pos h]
    iapply ((runA c (crd a t) (ms0 a t) (hs0 a t) (ms1 a t) (hs1 a t) (ms2 a t) (hs2 a t) (ms3 a t) (hs3 a t) (ms4 a t) (hs4 a t) (ms5 a t) (hs5 a t) (tE a) (tV a) (iblk m a c (0 : Fin 6) t) (iblk m a c (1 : Fin 6) t) (iblk m a c (2 : Fin 6) t) (iblk m a c (3 : Fin 6) t) (iblk m a c (4 : Fin 6) t) h (h2_of a t h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (coverA c _ _ _ _ _ _ _ _ _ _ _ _ _ _ _ _ _ _ _ _ _ _)
  · rewrite [show outAt m a c t = outB c (crd a t) (ms0 a t) (hs0 a t) (ms1 a t) (hs1 a t) (ms2 a t) (hs2 a t) (ms3 a t) (hs3 a t) (ms4 a t) (hs4 a t) (ms5 a t) (hs5 a t) (tE a) (tV a) (iblk m a c (0 : Fin 6) t) (iblk m a c (1 : Fin 6) t) (iblk m a c (2 : Fin 6) t) (iblk m a c (3 : Fin 6) t) (iblk m a c (4 : Fin 6) t) h (h2_of_not a t h) from dif_neg h]
    iapply ((runB c (crd a t) (ms0 a t) (hs0 a t) (ms1 a t) (hs1 a t) (ms2 a t) (hs2 a t) (ms3 a t) (hs3 a t) (ms4 a t) (hs4 a t) (ms5 a t) (hs5 a t) (tE a) (tV a) (iblk m a c (0 : Fin 6) t) (iblk m a c (1 : Fin 6) t) (iblk m a c (2 : Fin 6) t) (iblk m a c (3 : Fin 6) t) (iblk m a c (4 : Fin 6) t) h (h2_of_not a t h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨H0, H1, H2, H3, H4, HT0, HT1, ⟨%e5, H5⟩⟩
    isplitl [HA HT0 HT1]
    · isplitl [HA]; · iexact HA
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (coverB c _ _ _ _ _ _ _ _ _ _ _ _ _ _ _ _ _ _ _ _ _ _)

theorem body_obligation (c : Dev nD) : BodyObligation (dats m a 0 c) (defs₀ (F := F)) Variants.none () Set.univ := fun t => by
  rw [bigSep_W0]
  exact sound_body m a c t

/-! ## The launch -/

/-- The contents at the region's exit: the arrays at what the pipeline computes, every other buffer as the region found it. -/
abbrev exitV (c : Dev nD) : Valuation τ sig (Elt F) :=
  Pipeline.withArrays spec0 c (fun b => U25 m c b) fun w => (dats m a 0 c).arrAt w (cfgA a).N

set_option backward.isDefEq.respectTransparency.types false in
/-- Every weakly fair execution from a memory whose tables, when the region is entered, are `a` terminates with every unscoped
    buffer at what the operations after the region leave, and the counters at zero. -/
theorem run_main (hpf : ∀ (c : Dev nD) (k : Fin 2), V m c (pre0.ref k) = a.1 k) :
    θ_run (defs (F := F)) (onTc (τ := τ) (main (F := F))) (s₀ m ρ)
      (fun r => (Pipeline.FramePost (pcs a) (dats m a) 0 (Pipeline.afterTail pcfgs (fun _ => a) (dats m a) 0 (fun c b => StableHlo.after opsBefore.flatten (fun b => m (c, b)) b) opsAfter)) r ∧ r.2.sem = fun _ => 0) :=
  Pipeline.θ_run_frameP_around (Q' := _) pcfgs (fun _ => a) (dats m a) (0 : Fin 1) launch0 defs₀ Variants.none m ρ main
    (hbody := fun c => (body_obligation m a c).loose) (hshare := fun c => (dats m a 0 c).share_full fun _ => rfl)
    (howed := fun _ _ => rfl) (V₀ := fun c b => StableHlo.after opsBefore.flatten (fun b => m (c, b)) b) (opss := opsAfter)
    (hsub := after_sub) (hfresh := fresh_after) (hkeep := after_arr)
    (hmain := hmain m Variants.none) (hA := A_eq m a) (hpf := hpf) (hΦ := fun _ _ => rfl)

theorem exit_eq (c : Dev nD) (b : Ref sig .tc) :
    Pipeline.afterTail pcfgs (fun _ => a) (dats m a) 0 (fun c b => StableHlo.after opsBefore.flatten (fun b => m (c, b)) b) opsAfter c b
      = StableHlo.after opsAfter.flatten (exitV m a c) (Proc.devRef .tc b) := by
  unfold Pipeline.afterTail exitV
  rw [show (fun b => U25 m c b) = StableHlo.after opsBefore.flatten (fun b => m (c, b)) from by
    unfold opsBefore; simp only [List.flatten_cons, List.flatten_nil, List.append_nil, StableHlo.after_append]; rfl]

/-- A buffer no array is, and no operation after the region writes. -/
theorem exit_keep (c : Dev nD) (b : Ref sig .tc) (h : ∀ w : Fin 6, (spec0 w).arr.view.ref ≠ b)
    (hb : b ∉ [main_v118, main_v119, main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v120, main_v121, main_v122, main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v123, main_v124]) :
    StableHlo.after opsAfter.flatten (exitV m a c) (Proc.devRef .tc b) = V m c b :=
  (after_keep _ b hb).trans ((Pipeline.withArrays_of_ne spec0 c _ _ b h).trans (V_eq m c b).symm)

/-- The result and the arguments at the end. -/
theorem run_args (hpf : ∀ (c : Dev nD) (k : Fin 2), V m c (pre0.ref k) = a.1 k) :
    θ_run (defs (F := F)) (onTc (τ := τ) (main (F := F))) ⟨m, fun _ => 0, ρ⟩ (fun r => (∀ c : Dev nD,
      r.2.mem ((c.tc : Thread nD τ).loc main_v124) = StableHlo.after opsAfter.flatten (exitV m a c) (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_v124 (Pipeline.mem_restRefs_of main_v124 (by decide) (show ∀ w : Fin 6, (spec0 w).arr.view.ref ≠ main_v124 by decide))).trans (exit_eq m a c main_v124),
      ((h.1 c).2 main_arg0 (Pipeline.mem_restRefs_of main_arg0 (by decide) (show ∀ w : Fin 6, (spec0 w).arr.view.ref ≠ main_arg0 by decide))).trans ((exit_eq m a c main_arg0).trans ((exit_keep m a c main_arg0 (by decide) (by decide)).trans (V_args m c).1)),
      ((h.1 c).2 main_arg1 (Pipeline.mem_restRefs_of main_arg1 (by decide) (show ∀ w : Fin 6, (spec0 w).arr.view.ref ≠ main_arg1 by decide))).trans ((exit_eq m a c main_arg1).trans ((exit_keep m a c main_arg1 (by decide) (by decide)).trans (V_args m c).2.1)),
      ((h.1 c).2 main_arg2 (Pipeline.mem_restRefs_of main_arg2 (by decide) (show ∀ w : Fin 6, (spec0 w).arr.view.ref ≠ main_arg2 by decide))).trans ((exit_eq m a c main_arg2).trans ((exit_keep m a c main_arg2 (by decide) (by decide)).trans (V_args m c).2.2.1)),
      ((h.1 c).2 main_arg3 (Pipeline.mem_restRefs_of main_arg3 (by decide) (show ∀ w : Fin 6, (spec0 w).arr.view.ref ≠ main_arg3 by decide))).trans ((exit_eq m a c main_arg3).trans ((exit_keep m a c main_arg3 (by decide) (by decide)).trans (V_args m c).2.2.2.1)),
      ((h.1 c).2 main_arg4 (Pipeline.mem_restRefs_of main_arg4 (by decide) (show ∀ w : Fin 6, (spec0 w).arr.view.ref ≠ main_arg4 by decide))).trans ((exit_eq m a c main_arg4).trans ((exit_keep m a c main_arg4 (by decide) (by decide)).trans (V_args m c).2.2.2.2.1)),
      ((h.1 c).2 main_arg5 (Pipeline.mem_restRefs_of main_arg5 (by decide) (show ∀ w : Fin 6, (spec0 w).arr.view.ref ≠ main_arg5 by decide))).trans ((exit_eq m a c main_arg5).trans ((exit_keep m a c main_arg5 (by decide) (by decide)).trans (V_args m c).2.2.2.2.2))⟩, h.2⟩) (run_main m ρ a hpf)

/-! ## The tables' side condition from the experts' range -/

theorem tr2_apply (pf : pre0.Contents (Elt F)) (i : grid0.Coords) :
    ∃ j : S152.Idx, cc0_transform_2 k0_off1_inb numel1_S1 pf i = ![BitVec.toNat (pf 0 j), 0, 0]
      ∧ cc0_transform_3 k0_off1_inb numel1_S1 pf i = ![BitVec.toNat (pf 0 j), 0, 0]
      ∧ cc0_transform_4 k0_off1_inb numel1_S1 pf i = ![BitVec.toNat (pf 0 j), 0, 0] := ⟨_, rfl, rfl, rfl⟩

theorem ok_of_range (pf : pre0.Contents (Elt F)) (h : ∀ j : S152.Idx, BitVec.toNat (pf 0 j) < 16) : ok0 pf := by
  refine ⟨fun i => ?_, fun i => ?_, fun i => ?_⟩
  all_goals obtain ⟨j, e2, e3, e4⟩ := tr2_apply pf i
  · refine ⟨fun x => ?_, .inr (Affine.block_words_dvd (s := S16x1024x512) (p := EltTy.packing .bf16) (by decide) (by decide))⟩
    rw [e2]; have := h j; fin_cases x <;> simp [S1x1024x512, S16x1024x512] <;> omega
  · refine ⟨fun x => ?_, .inr (Affine.block_words_dvd (s := S16x1024x512) (p := EltTy.packing .bf16) (by decide) (by decide))⟩
    rw [e3]; have := h j; fin_cases x <;> simp [S1x1024x512, S16x1024x512] <;> omega
  · refine ⟨fun x => ?_, .inr (Affine.block_words_dvd (s := S16x512x1024) (p := EltTy.packing .bf16) (by decide) (by decide))⟩
    rw [e4]; have := h j; fin_cases x <;> simp [S1x512x1024, S16x512x1024] <;> omega

/-- The tables when the region is entered. -/
abbrev tables : pre0.Contents (Elt F) := fun k => V m (0 : Dev nD) (pre0.ref k)

theorem tables_at (c : Dev nD) (k : Fin 2) : V m c (pre0.ref k) = tables m k := by
  obtain rfl : c = 0 := Subsingleton.elim _ _
  rfl

end Cert.Kernel2Ideal.Moe

end
-- ==== Proof.MoeCell.lean ====
module

public import proofs.«01_k».proof.Proof.MoeFrame
public import Idealize.ShloMosaic.Lib.Pipeline.ValueKit
public import Idealize.ShloMosaic.Lib.Pointwise

/-! What one block of the grouped feed-forward call holds. -/

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem
open Idealize.ShloMosaic.Pipeline (Dat)

/-- One row of a block projected by one column of an expert's matrix. -/
def pj (x : FVec Ideal S512x1024 .bf16) (w : FVec Ideal S1x1024x512 .bf16) (r f : Fin 512) : EReal :=
  ∑ k : Fin 1024, x (ix2 r k) * w (ix3 0 k f)

theorem pay1_at (x : FVec Ideal S512x1024 .bf16) (wg wu : FVec Ideal S1x1024x512 .bf16) (wd : FVec Ideal S1x512x1024 .bf16) (g : FVec Ideal S512x1 .f32)
    (r : Fin 512) (d : Fin 1024) :
    k0_pay1 (F := Ideal) x wg wu wd g (ix2 r d)
      = (∑ f : Fin 512, (pj x wg r f * Ideal.logistic (pj x wg r f) * pj x wu r f) * wd (ix3 0 f d)) * g (ix2 r 0) := by
  unfold pj
  pointwise [k0_pay1]

theorem pay2_at (r : Fin 512) (d : Fin 1024) : k0_pay2 (F := Ideal) (ix2 r d) = (0 : EReal) := by
  pointwise [k0_pay2]

section Out
variable (c : Dev nD) (i : grid0.Coords) (arg3 : Memref sig .tc .vmem S512x1024 .bf16) (harg3 : arg3.IsWhole) (arg4 : Memref sig .tc .vmem S512x1 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (T0 T1 : S152.Idx → Elt Ideal .i32)
    (x0 : S512x1024.Idx → Elt Ideal .bf16) (x1 : S512x1.Idx → Elt Ideal .f32) (x2 x3 : S1x1024x512.Idx → Elt Ideal .bf16) (x4 : S1x512x1024.Idx → Elt Ideal .bf16)

theorem outA_eq (h1 h2) : outA c i arg3 harg3 arg4 harg4 arg5 harg5 arg6 harg6 arg7 harg7 arg8 harg8 T0 T1 x0 x1 x2 x3 x4 h1 h2
    = k0_pay1 (F := Ideal) x0 x2 x3 x4 x1 := by
  unfold outA runA
  frame_out
  simp only [View.read_rep]

theorem outB_eq (h1 h2) : outB c i arg3 harg3 arg4 harg4 arg5 harg5 arg6 harg6 arg7 harg7 arg8 harg8 T0 T1 x0 x1 x2 x3 x4 h1 h2
    = k0_pay2 (F := Ideal) := by
  unfold outB runB
  frame_out
end Out

end Cert.Kernel2Ideal.Moe

end
-- ==== Proof.MoeRef.lean ====
module

public import proofs.«01_k».proof.Proof.Gen.Reference2Ideal.Run
public import Idealize.ShloMosaic.Lib.Pipeline.ValueKit
public import Idealize.ShloMosaic.Lib.Pointwise
public import Idealize.ShloMosaic.Lib.WordCmp

/-! The expert feed-forward reference's result, operation by operation, and what it holds at one index. -/

@[expose] public section

set_option maxRecDepth 16384

noncomputable section

namespace Cert.Reference2Ideal.Moe

open Cert.Reference2Ideal Cert.Reference2Ideal.Gen
open Idealize.ShloMosaic Idealize.ShloMosaic.TcCoe Idealize.SL.Sem

/-- The gate of each token at each expert: the sum of the token's weights whose choice it is. -/
def gates (idx : IVec S34816x2 32) (w : FVec Ideal S34816x2 .f32) : FVec Ideal S34816x16 .f32 :=
  Host.reduceAdd (mulf (uitofp .f32 (cmpi .eq (broadcastInDim S34816x2x16 ![0, 1, 2] bcast_S34816x2x1_S34816x2x16_0_1_2 (broadcastInDim S34816x2x1 ![0, 1] bcast_S34816x2_S34816x2x1_0_1 idx))
      (broadcastInDim S34816x2x16 ![0, 1, 2] bcast_S1x1x16_S34816x2x16_0_1_2 (iotaInDim S1x1x16 32 2))))
      (broadcastInDim S34816x2x16 ![0, 1, 2] bcast_S34816x2x1_S34816x2x16_0_1_2 (broadcastInDim S34816x2x1 ![0, 1] bcast_S34816x2_S34816x2x1_0_1 w)))
    (constant S_ .f32 0x00000000#32) reducesTo_S34816x2x16_S34816x16_d1 h_S_

/-- A projection of every token by every expert. -/
def proj (x : FVec Ideal S34816x1024 .f32) (w : FVec Ideal S16x1024x512 .f32) : FVec Ideal S34816x16x512 .f32 :=
  Host.dotGeneral dot_S34816x1024_S16x1024x512_S34816x16x512_1_1_0_02_n_n none x w

/-- The activation: `g · σ(g) · u`. -/
def act (g u : FVec Ideal S34816x16x512 .f32) : FVec Ideal S34816x16x512 .f32 :=
  mulf (mulf g (Host.divf (broadcastInDim S34816x16x512 ![] bcast_S_S34816x16x512 (constant S_ .f32 0x3F800000#32))
    (addf (broadcastInDim S34816x16x512 ![] bcast_S_S34816x16x512 (constant S_ .f32 0x3F800000#32)) (Host.exp (Host.negf g))))) u

/-- The experts' outputs, weighted by the gates and summed. -/
def result (gt : FVec Ideal S34816x16 .f32) (a : FVec Ideal S34816x16x512 .f32) (wd : FVec Ideal S16x512x1024 .f32) : FVec Ideal S34816x1024 .f32 :=
  Host.reduceAdd (mulf (broadcastInDim S34816x16x1024 ![0, 1, 2] bcast_S34816x16x1_S34816x16x1024_0_1_2 (broadcastInDim S34816x16x1 ![0, 1] bcast_S34816x16_S34816x16x1_0_1 gt))
      (transpose S34816x16x1024 [2, 0, 1] (Host.dotGeneral dot_S16x512x1024_S34816x16x512_S16x1024x34816_1_2_2_0_0_1 none wd a) transposes_S16x1024x34816_S34816x16x1024_2_0_1))
    (constant S_ .f32 0x00000000#32) reducesTo_S34816x16x1024_S34816x1024_d1 h_S_

theorem hot (a b : BitVec 32) : (((IntOp.cmpi .eq a b).toNat : ℝ) : EReal) = if a = b then 1 else 0 := by
  by_cases h : a = b <;> simp [IntOp.cmpi, h, show (a == b) = decide (a = b) from rfl]

theorem gates_at (idx : IVec S34816x2 32) (w : FVec Ideal S34816x2 .f32) (t : Fin 34816) (e : Fin 16) :
    gates idx w (ix2 t e) = ∑ k : Fin 2, (if idx (ix2 t k) = BitVec.ofNat 32 e then (1 : EReal) else 0) * w (ix2 t k) := by
  pointwise [gates]
  exact Finset.sum_congr rfl fun k _ => congrArg (fun z : EReal => z * w (ix2 t k)) (hot _ _)

theorem proj_at (x : FVec Ideal S34816x1024 .f32) (w : FVec Ideal S16x1024x512 .f32) (p : Fin 34816) (e : Fin 16) (f : Fin 512) :
    proj x w (ix3 p e f) = ∑ k : Fin 1024, x (ix2 p k) * w (ix3 e k f) := by
  pointwise [proj]

theorem act_at (g u : FVec Ideal S34816x16x512 .f32) (p : Fin 34816) (e : Fin 16) (f : Fin 512) :
    act g u (ix3 p e f) = g (ix3 p e f) * Ideal.div 1 (1 + Ideal.exp (-(g (ix3 p e f) : EReal))) * u (ix3 p e f) := by
  pointwise [act]

theorem result_at (gt : FVec Ideal S34816x16 .f32) (a : FVec Ideal S34816x16x512 .f32) (wd : FVec Ideal S16x512x1024 .f32) (p : Fin 34816) (d : Fin 1024) :
    result gt a wd (ix2 p d) = ∑ e : Fin 16, (gt (ix2 p e) : EReal) * ∑ f : Fin 512, wd (ix3 e f d) * a (ix3 p e f) := by
  pointwise [result]

/-- The reference's whole result, of its six arguments. -/
def ffn (h : FVec Ideal S34816x1024 .f32) (idx : IVec S34816x2 32) (w : FVec Ideal S34816x2 .f32)
    (wg wu : FVec Ideal S16x1024x512 .f32) (wd : FVec Ideal S16x512x1024 .f32) : FVec Ideal S34816x1024 .f32 :=
  result (gates idx w) (act (proj h wg) (proj h wu)) wd

/-- One expert's output at a token. -/
def out (h : FVec Ideal S34816x1024 .f32) (wg wu : FVec Ideal S16x1024x512 .f32) (wd : FVec Ideal S16x512x1024 .f32)
    (t : Fin 34816) (e : Fin 16) (d : Fin 1024) : EReal :=
  ∑ f : Fin 512, wd (ix3 e f d) * act (proj h wg) (proj h wu) (ix3 t e f)

theorem two_terms (Y : Fin 16 → EReal) (g0 g1 : EReal) (e0 e1 : Fin 16) (hne : e0 ≠ e1) :
    (∑ e : Fin 16, ((if e0 = e then 1 else 0) * g0 + (if e1 = e then 1 else 0) * g1) * Y e) = g0 * Y e0 + g1 * Y e1 := by
  have h : ∀ e : Fin 16, ((if e0 = e then (1 : EReal) else 0) * g0 + (if e1 = e then 1 else 0) * g1) * Y e
      = (if e0 = e then g0 * Y e else 0) + (if e1 = e then g1 * Y e else 0) := fun e => by
    by_cases h0 : e0 = e
    · rw [if_pos h0, if_pos h0, if_neg (fun h1 => hne (h0.trans h1.symm)), if_neg (fun h1 => hne (h0.trans h1.symm)), one_mul, zero_mul, add_zero, add_zero]
    · by_cases h1 : e1 = e
      · rw [if_neg h0, if_neg h0, if_pos h1, if_pos h1, one_mul, zero_mul, zero_add, zero_add]
      · rw [if_neg h0, if_neg h0, if_neg h1, if_neg h1, zero_mul, zero_mul, add_zero, zero_mul]
  rw [Finset.sum_congr rfl fun e _ => h e, Finset.sum_add_distrib, Finset.sum_ite_eq, Finset.sum_ite_eq]
  simp

/-- A token whose two choices differ: its two experts' outputs, each times its weight. -/
theorem ffn_at (h : FVec Ideal S34816x1024 .f32) (idx : IVec S34816x2 32) (w : FVec Ideal S34816x2 .f32)
    (wg wu : FVec Ideal S16x1024x512 .f32) (wd : FVec Ideal S16x512x1024 .f32) (t : Fin 34816) (d : Fin 1024) (e0 e1 : Fin 16)
    (h0 : idx (ix2 t 0) = BitVec.ofNat 32 e0) (h1 : idx (ix2 t 1) = BitVec.ofNat 32 e1) (hne : e0 ≠ e1) :
    ffn h idx w wg wu wd (ix2 t d) = (w (ix2 t 0) : EReal) * out h wg wu wd t e0 d + (w (ix2 t 1) : EReal) * out h wg wu wd t e1 d := by
  have hw : ∀ a b : Fin 16, BitVec.ofNat 32 (a : ℕ) = BitVec.ofNat 32 (b : ℕ) ↔ a = b := by decide
  unfold ffn
  rw [result_at, ← two_terms (fun e => out h wg wu wd t e d) _ _ e0 e1 hne]
  refine Finset.sum_congr rfl fun e _ => ?_
  rw [gates_at, Fin.sum_univ_two, h0, h1]
  simp only [hw]
  rfl

end Cert.Reference2Ideal.Moe

end
-- ==== Proof.MoeStage.lean ====
module

public import proofs.«01_k».proof.Proof.MoeHost
public import Idealize.ShloMosaic.Lib.Routing.Words

/-! The buffers of the plan, each as its operations write it from the buffers before. -/

@[expose] public section

set_option maxRecDepth 16384

noncomputable section

namespace Cert.Kernel2Ideal.Moe

open Cert.Kernel2Ideal Cert.Kernel2Ideal.Gen
open Idealize.ShloMosaic Idealize.ShloMosaic.TcCoe Idealize.SL.Sem

variable (m : (ℓ : Loc nD τ sig) → Buf (Elt Ideal) ℓ) (c : Dev nD)

def A0 : FVec Ideal S34816x1024 .f32 := U0 m c (Proc.devRef .tc main_arg0)
def A1 : IVec S34816x2 32 := U0 m c (Proc.devRef .tc main_arg1)
def A2 : FVec Ideal S34816x2 .f32 := U0 m c (Proc.devRef .tc main_arg2)
def A3 : FVec Ideal S16x1024x512 .f32 := U0 m c (Proc.devRef .tc main_arg3)
def A4 : FVec Ideal S16x1024x512 .f32 := U0 m c (Proc.devRef .tc main_arg4)
def A5 : FVec Ideal S16x512x1024 .f32 := U0 m c (Proc.devRef .tc main_arg5)
def B0 : IVec S69632 32 := U1 m c (Proc.devRef .tc main_v0)
def B1 : IVec S69632 32 := U2 m c (Proc.devRef .tc main_v1)
def B8 : IVec S69632x16 32 := U3 m c (Proc.devRef .tc main_v8)
def B9 : IVec S69632x16 32 := U4 m c (Proc.devRef .tc main_v9)
def B11 : IVec S16 32 := U5 m c (Proc.devRef .tc main_v11)
def B12 : IVec S69632x1 32 := U5 m c (Proc.devRef .tc main_v12)
def B13 : IVec S69632x1 32 := U6 m c (Proc.devRef .tc main_v13)
def B16 : IVec S69632 32 := U7 m c (Proc.devRef .tc main_v16)
def B20 : IVec S16 32 := U7 m c (Proc.devRef .tc main_v20)
def B21 : IVec S16 32 := U8 m c (Proc.devRef .tc main_v21)
def B23 : IVec S16 32 := U9 m c (Proc.devRef .tc main_v23)
def B24 : IVec S16 32 := U10 m c (Proc.devRef .tc main_v24)
def B25 : IVec S16 32 := U11 m c (Proc.devRef .tc main_v25)
def B26 : IVec S16 32 := U12 m c (Proc.devRef .tc main_v26)
def B27 : IVec S16 32 := U13 m c (Proc.devRef .tc main_v27)
def B36 : IVec S34816x2 32 := U13 m c (Proc.devRef .tc main_v36)
def B39 : IVec S152 32 := U13 m c (Proc.devRef .tc main_v39)
def B48 : IVec S152 32 := U13 m c (Proc.devRef .tc main_v48)
def B53 : IVec S152 32 := U13 m c (Proc.devRef .tc main_v53)
def B55 : IVec S77824 32 := U14 m c (Proc.devRef .tc main_v55)
def B62 : IVec S77824 32 := U15 m c (Proc.devRef .tc main_v62)
def B70 : IVec S77824 32 := U15 m c (Proc.devRef .tc main_v70)
def B83 : IVec S77824 1 := U15 m c (Proc.devRef .tc main_v83)
def B91 : IVec S77824 32 := U15 m c (Proc.devRef .tc main_v91)
def B92 : IVec S77824 32 := U16 m c (Proc.devRef .tc main_v92)
def B99 : IVec S77824 32 := U17 m c (Proc.devRef .tc main_v99)
def B100 : IVec S77824 32 := U18 m c (Proc.devRef .tc main_v100)
def B101 : IVec S77824 32 := U20 m c (Proc.devRef .tc main_v101)
def B109 : FVec Ideal S77824 .f32 := U21 m c (Proc.devRef .tc main_v109)
def B110 : FVec Ideal S77824 .f32 := U22 m c (Proc.devRef .tc main_v110)
def B111 : FVec Ideal S34816x1024 .bf16 := U23 m c (Proc.devRef .tc main_v111)
def B112 : FVec Ideal S77824x1024 .bf16 := U24 m c (Proc.devRef .tc main_v112)
def B113 : FVec Ideal S77824x1 .f32 := U25 m c (Proc.devRef .tc main_v113)
def B114 : FVec Ideal S16x1024x512 .bf16 := U25 m c (Proc.devRef .tc main_v114)
def B115 : FVec Ideal S16x1024x512 .bf16 := U25 m c (Proc.devRef .tc main_v115)
def B116 : FVec Ideal S16x512x1024 .bf16 := U25 m c (Proc.devRef .tc main_v116)

/-! ## One stretch, from any contents before it -/

variable (W : Valuation τ sig (Elt Ideal))

theorem t0  : (StableHlo.after hostOps0 W (Proc.devRef .tc main_v0) : IVec S69632 32) = (shapeCast S69632 (W (Proc.devRef .tc main_arg1) : IVec S34816x2 32) shapeCasts_S34816x2_S69632 : IVec S69632 32) := by
  after_reads_simp
  all_goals try simp -implicitDefEqProofs only [StableHlo.TRef.toBuf, StableHlo.TRef.ofBuf, cast_cast, cast_eq]
  all_goals rfl
theorem t1  : (StableHlo.after hostOps0_1 W (Proc.devRef .tc main_v1) : IVec S69632 32) = ((Host.sort2 S69632 0 comparator_i32_i32_d0 (W (Proc.devRef .tc main_v0) : IVec S69632 32) (iotaInDim S69632 32 0)).2 : IVec S69632 32) := by
  after_reads_simp
  all_goals try simp -implicitDefEqProofs only [StableHlo.TRef.toBuf, StableHlo.TRef.ofBuf, cast_cast, cast_eq]
  all_goals rfl
theorem t8  : (StableHlo.after hostOps0_2 W (Proc.devRef .tc main_v8) : IVec S69632x16 32) = (extui 32 (cmpi .eq (broadcastInDim S69632x16 ![0, 1] bcast_S69632x1_S69632x16_0_1 (broadcastInDim S69632x1 ![0] bcast_S69632_S69632x1_0 (W (Proc.devRef .tc main_v0) : IVec S69632 32))) (broadcastInDim S69632x16 ![0, 1] bcast_S1x16_S69632x16_0_1 (broadcastInDim S1x16 ![1] bcast_S16_S1x16_1 (iotaInDim S16 32 0)))) natLt_1_32 : IVec S69632x16 32) := by
  after_reads_simp
  all_goals try simp -implicitDefEqProofs only [StableHlo.TRef.toBuf, StableHlo.TRef.ofBuf, cast_cast, cast_eq]
  all_goals rfl
theorem t9  : (StableHlo.after hostOps0_3 W (Proc.devRef .tc main_v9) : IVec S69632x16 32) = (Host.reduceWindow IntOp.addi ![69632, 1] ![1, 1] ![69631, 0] ![0, 0] (W (Proc.devRef .tc main_v8) : IVec S69632x16 32) (broadcastInDim S_ ![] bcast_S_S_ (constantI S_ 32 0#32)) reduceWindows_S69632x16_S69632x16_w69632s1p69631_0_w1s1p0_0 h_S_ : IVec S69632x16 32) := by
  after_reads_simp
  all_goals try simp -implicitDefEqProofs only [StableHlo.TRef.toBuf, StableHlo.TRef.ofBuf, cast_cast, cast_eq]
  all_goals rfl
theorem t11  : (StableHlo.after hostOps0_4 W (Proc.devRef .tc main_v11) : IVec S16 32) = (shapeCast S16 (extractStridedSlice S1x16 ![69631, 0] (W (Proc.devRef .tc main_v9) : IVec S69632x16 32) slices_S69632x16_S1x16_69631_0) shapeCasts_S1x16_S16 : IVec S16 32) := by
  after_reads_simp
  all_goals try simp -implicitDefEqProofs only [StableHlo.TRef.toBuf, StableHlo.TRef.ofBuf, cast_cast, cast_eq]
  all_goals rfl
theorem t12  : (StableHlo.after hostOps0_4 W (Proc.devRef .tc main_v12) : IVec S69632x1 32) = ((broadcastInDim S69632x1 ![0] bcast_S69632_S69632x1_0 (W (Proc.devRef .tc main_v0) : IVec S69632 32)) : IVec S69632x1 32) := by
  after_reads_simp
  all_goals try simp -implicitDefEqProofs only [StableHlo.TRef.toBuf, StableHlo.TRef.ofBuf, cast_cast, cast_eq]
  all_goals rfl
theorem t13  : (StableHlo.after hostOps0_5 W (Proc.devRef .tc main_v13) : IVec S69632x1 32) = (select (Host.reduce IntOp.andi (andi (cmpi .sge (shapeCast S69632x1x1 (select (cmpi .slt (W (Proc.devRef .tc main_v12) : IVec S69632x1 32) (broadcastInDim S69632x1 ![] bcast_S_S69632x1 (constantI S_ 32 0#32))) (addi (W (Proc.devRef .tc main_v12) : IVec S69632x1 32) (broadcastInDim S69632x1 ![] bcast_S_S69632x1 (constantI S_ 32 16#32))) (W (Proc.devRef .tc main_v12) : IVec S69632x1 32)) shapeCasts_S69632x1_S69632x1x1) (broadcastInDim S69632x1x1 ![] bcast_S_S69632x1x1 (constantI S_ 32 0#32)))
      (cmpi .sle (shapeCast S69632x1x1 (select (cmpi .slt (W (Proc.devRef .tc main_v12) : IVec S69632x1 32) (broadcastInDim S69632x1 ![] bcast_S_S69632x1 (constantI S_ 32 0#32))) (addi (W (Proc.devRef .tc main_v12) : IVec S69632x1 32) (broadcastInDim S69632x1 ![] bcast_S_S69632x1 (constantI S_ 32 16#32))) (W (Proc.devRef .tc main_v12) : IVec S69632x1 32)) shapeCasts_S69632x1_S69632x1x1) (broadcastInDim S69632x1x1 ![0, 1, 2] bcast_S1x1x1_S69632x1x1_0_1_2 (broadcastInDim S1x1x1 ![2] bcast_S1_S1x1x1_2 (constantI S1 32 15#32))))) (constantI S_ 1 1#1) reducesTo_S69632x1x1_S69632x1_d2 h_S_)
    (Host.gather gather_S69632x16_S69632x1x1_S69632x1_n_1_0_0_1_2_11 (W (Proc.devRef .tc main_v9) : IVec S69632x16 32) (shapeCast S69632x1x1 (select (cmpi .slt (W (Proc.devRef .tc main_v12) : IVec S69632x1 32) (broadcastInDim S69632x1 ![] bcast_S_S69632x1 (constantI S_ 32 0#32))) (addi (W (Proc.devRef .tc main_v12) : IVec S69632x1 32) (broadcastInDim S69632x1 ![] bcast_S_S69632x1 (constantI S_ 32 16#32))) (W (Proc.devRef .tc main_v12) : IVec S69632x1 32)) shapeCasts_S69632x1_S69632x1x1)) (broadcastInDim S69632x1 ![] bcast_S_S69632x1 (constantI S_ 32 2147483648#32)) : IVec S69632x1 32) := by
  after_reads_simp
  all_goals try simp -implicitDefEqProofs only [StableHlo.TRef.toBuf, StableHlo.TRef.ofBuf, cast_cast, cast_eq]
  all_goals rfl
theorem t16  : (StableHlo.after hostOps0_6 W (Proc.devRef .tc main_v16) : IVec S69632 32) = (subi (shapeCast S69632 (W (Proc.devRef .tc main_v13) : IVec S69632x1 32) shapeCasts_S69632x1_S69632) (broadcastInDim S69632 ![] bcast_S_S69632 (constantI S_ 32 1#32)) : IVec S69632 32) := by
  after_reads_simp
  all_goals try simp -implicitDefEqProofs only [StableHlo.TRef.toBuf, StableHlo.TRef.ofBuf, cast_cast, cast_eq]
  all_goals rfl
theorem t20  : (StableHlo.after hostOps0_6 W (Proc.devRef .tc main_v20) : IVec S16 32) = (subi (addi (W (Proc.devRef .tc main_v11) : IVec S16 32) (broadcastInDim S16 ![] bcast_S_S16 (constantI S_ 32 512#32))) (broadcastInDim S16 ![] bcast_S_S16 (constantI S_ 32 1#32)) : IVec S16 32) := by
  after_reads_simp
  all_goals try simp -implicitDefEqProofs only [StableHlo.TRef.toBuf, StableHlo.TRef.ofBuf, cast_cast, cast_eq]
  all_goals rfl
theorem t21 (h : W (Proc.devRef .tc main_c_2) = constantI S_ 32 512#32) : (StableHlo.after hostOps0_7 W (Proc.devRef .tc main_v21) : IVec S16 32) = (Routing.pyDiv bcast_S_S16 (W (Proc.devRef .tc main_v20) : IVec S16 32) (constantI S_ 32 512#32) : IVec S16 32) := by
  after_reads_simp
  all_goals try simp only [h]
  all_goals try simp -implicitDefEqProofs only [StableHlo.TRef.toBuf, StableHlo.TRef.ofBuf, cast_cast, cast_eq]
  all_goals rfl
theorem t23  : (StableHlo.after hostOps0_8 W (Proc.devRef .tc main_v23) : IVec S16 32) = (muli (W (Proc.devRef .tc main_v21) : IVec S16 32) (broadcastInDim S16 ![] bcast_S_S16 (constantI S_ 32 512#32)) : IVec S16 32) := by
  after_reads_simp
  all_goals try simp -implicitDefEqProofs only [StableHlo.TRef.toBuf, StableHlo.TRef.ofBuf, cast_cast, cast_eq]
  all_goals rfl
theorem t24  : (StableHlo.after hostOps0_9 W (Proc.devRef .tc main_v24) : IVec S16 32) = (Host.reduceWindow IntOp.addi ![16] ![1] ![15] ![0] (W (Proc.devRef .tc main_v23) : IVec S16 32) (broadcastInDim S_ ![] bcast_S_S_ (constantI S_ 32 0#32)) reduceWindows_S16_S16_w16s1p15_0 h_S_ : IVec S16 32) := by
  after_reads_simp
  all_goals try simp -implicitDefEqProofs only [StableHlo.TRef.toBuf, StableHlo.TRef.ofBuf, cast_cast, cast_eq]
  all_goals rfl
theorem t25  : (StableHlo.after hostOps0_10 W (Proc.devRef .tc main_v25) : IVec S16 32) = (subi (W (Proc.devRef .tc main_v24) : IVec S16 32) (W (Proc.devRef .tc main_v23) : IVec S16 32) : IVec S16 32) := by
  after_reads_simp
  all_goals try simp -implicitDefEqProofs only [StableHlo.TRef.toBuf, StableHlo.TRef.ofBuf, cast_cast, cast_eq]
  all_goals rfl
theorem t26  : (StableHlo.after hostOps0_11 W (Proc.devRef .tc main_v26) : IVec S16 32) = (Host.reduceWindow IntOp.addi ![16] ![1] ![15] ![0] (W (Proc.devRef .tc main_v11) : IVec S16 32) (broadcastInDim S_ ![] bcast_S_S_ (constantI S_ 32 0#32)) reduceWindows_S16_S16_w16s1p15_0 h_S_ : IVec S16 32) := by
  after_reads_simp
  all_goals try simp -implicitDefEqProofs only [StableHlo.TRef.toBuf, StableHlo.TRef.ofBuf, cast_cast, cast_eq]
  all_goals rfl
theorem t27  : (StableHlo.after hostOps0_12 W (Proc.devRef .tc main_v27) : IVec S16 32) = (subi (W (Proc.devRef .tc main_v26) : IVec S16 32) (W (Proc.devRef .tc main_v11) : IVec S16 32) : IVec S16 32) := by
  after_reads_simp
  all_goals try simp -implicitDefEqProofs only [StableHlo.TRef.toBuf, StableHlo.TRef.ofBuf, cast_cast, cast_eq]
  all_goals rfl
theorem t36  : (StableHlo.after hostOps0_12 W (Proc.devRef .tc main_v36) : IVec S34816x2 32) = (shapeCast S34816x2 (addi (Host.gather gather_S16_S69632x1_S69632_n_0_n_n_0_1_1 (W (Proc.devRef .tc main_v25) : IVec S16 32) (broadcastInDim S69632x1 ![0] bcast_S69632_S69632x1_0 (select (cmpi .slt (W (Proc.devRef .tc main_v0) : IVec S69632 32) (broadcastInDim S69632 ![] bcast_S_S69632 (constantI S_ 32 0#32))) (addi (W (Proc.devRef .tc main_v0) : IVec S69632 32) (broadcastInDim S69632 ![] bcast_S_S69632 (constantI S_ 32 16#32))) (W (Proc.devRef .tc main_v0) : IVec S69632 32)))) (W (Proc.devRef .tc main_v16) : IVec S69632 32)) shapeCasts_S69632_S34816x2 : IVec S34816x2 32) := by
  after_reads_simp
  all_goals try simp -implicitDefEqProofs only [StableHlo.TRef.toBuf, StableHlo.TRef.ofBuf, cast_cast, cast_eq]
  all_goals rfl
theorem t39  : (StableHlo.after hostOps0_12 W (Proc.devRef .tc main_v39) : IVec S152 32) = (muli (iotaInDim S152 32 0) (broadcastInDim S152 ![] bcast_S_S152 (constantI S_ 32 512#32)) : IVec S152 32) := by
  after_reads_simp
  all_goals try simp -implicitDefEqProofs only [StableHlo.TRef.toBuf, StableHlo.TRef.ofBuf, cast_cast, cast_eq]
  all_goals rfl
theorem t48 {F : FTy → Type} [FloatOps F] (W : Valuation τ sig (Elt F)) : (StableHlo.after hostOps0_12 W (Proc.devRef .tc main_v48) : IVec S152 32) = (minsi (Host.reduce IntOp.addi (extui 32 (cmpi .sle (broadcastInDim S152x16 ![0, 1] bcast_S1x16_S152x16_0_1 (broadcastInDim S1x16 ![1] bcast_S16_S1x16_1 (W (Proc.devRef .tc main_v24) : IVec S16 32))) (broadcastInDim S152x16 ![0, 1] bcast_S152x1_S152x16_0_1 (broadcastInDim S152x1 ![0] bcast_S152_S152x1_0 (StableHlo.after hostOps0_12 W (Proc.devRef .tc main_v39) : IVec S152 32)))) natLt_1_32) (constantI S_ 32 0#32) reducesTo_S152x16_S152_d1 h_S_) (broadcastInDim S152 ![] bcast_S_S152 (constantI S_ 32 15#32)) : IVec S152 32) := by
  after_reads_simp
  all_goals try simp -implicitDefEqProofs only [StableHlo.TRef.toBuf, StableHlo.TRef.ofBuf, cast_cast, cast_eq]
  all_goals rfl
theorem t53  : (StableHlo.after hostOps0_12 W (Proc.devRef .tc main_v53) : IVec S152 32) = (extui 32 (cmpi .slt (StableHlo.after hostOps0_12 W (Proc.devRef .tc main_v39) : IVec S152 32) (broadcastInDim S152 ![] bcast_S_S152 (shapeCast S_ (extractStridedSlice S1 ![15] (W (Proc.devRef .tc main_v24) : IVec S16 32) slices_S16_S1_15) shapeCasts_S1_S_))) natLt_1_32 : IVec S152 32) := by
  after_reads_simp
  all_goals try simp -implicitDefEqProofs only [StableHlo.TRef.toBuf, StableHlo.TRef.ofBuf, cast_cast, cast_eq]
  all_goals rfl
theorem t55 (h : W (Proc.devRef .tc main_c_9) = constantI S_ 32 512#32) (h2 : W (Proc.devRef .tc main_v54) = iotaInDim S77824 32 0) : (StableHlo.after hostOps0_13 W (Proc.devRef .tc main_v55) : IVec S77824 32) = (Routing.pyDiv bcast_S_S77824 (iotaInDim S77824 32 0) (constantI S_ 32 512#32) : IVec S77824 32) := by
  after_reads_simp
  all_goals try simp only [h, h2]
  all_goals try simp -implicitDefEqProofs only [StableHlo.TRef.toBuf, StableHlo.TRef.ofBuf, cast_cast, cast_eq]
  all_goals rfl
theorem t62  : (StableHlo.after hostOps0_14 W (Proc.devRef .tc main_v62) : IVec S77824 32) = ((Host.gather gather_S152_S77824x1_S77824_n_0_n_n_0_1_1 (W (Proc.devRef .tc main_v48) : IVec S152 32) (broadcastInDim S77824x1 ![0] bcast_S77824_S77824x1_0 (select (cmpi .slt (W (Proc.devRef .tc main_v55) : IVec S77824 32) (broadcastInDim S77824 ![] bcast_S_S77824 (constantI S_ 32 0#32))) (addi (W (Proc.devRef .tc main_v55) : IVec S77824 32) (broadcastInDim S77824 ![] bcast_S_S77824 (constantI S_ 32 152#32))) (W (Proc.devRef .tc main_v55) : IVec S77824 32)))) : IVec S77824 32) := by
  after_reads_simp
  all_goals try simp -implicitDefEqProofs only [StableHlo.TRef.toBuf, StableHlo.TRef.ofBuf, cast_cast, cast_eq]
  all_goals rfl
theorem t70 (h2 : W (Proc.devRef .tc main_v54) = iotaInDim S77824 32 0) : (StableHlo.after hostOps0_14 W (Proc.devRef .tc main_v70) : IVec S77824 32) = (subi (iotaInDim S77824 32 0) (Host.gather gather_S16_S77824x1_S77824_n_0_n_n_0_1_1 (W (Proc.devRef .tc main_v25) : IVec S16 32) (broadcastInDim S77824x1 ![0] bcast_S77824_S77824x1_0 (select (cmpi .slt (StableHlo.after hostOps0_14 W (Proc.devRef .tc main_v62) : IVec S77824 32) (broadcastInDim S77824 ![] bcast_S_S77824 (constantI S_ 32 0#32))) (addi (StableHlo.after hostOps0_14 W (Proc.devRef .tc main_v62) : IVec S77824 32) (broadcastInDim S77824 ![] bcast_S_S77824 (constantI S_ 32 16#32))) (StableHlo.after hostOps0_14 W (Proc.devRef .tc main_v62) : IVec S77824 32)))) : IVec S77824 32) := by
  after_reads_simp
  all_goals try simp only [h2]
  all_goals try simp -implicitDefEqProofs only [StableHlo.TRef.toBuf, StableHlo.TRef.ofBuf, cast_cast, cast_eq]
  all_goals rfl
theorem t83 (h2 : W (Proc.devRef .tc main_v54) = iotaInDim S77824 32 0) : (StableHlo.after hostOps0_14 W (Proc.devRef .tc main_v83) : IVec S77824 1) = (andi (cmpi .slt (StableHlo.after hostOps0_14 W (Proc.devRef .tc main_v70) : IVec S77824 32) (Host.gather gather_S16_S77824x1_S77824_n_0_n_n_0_1_1 (W (Proc.devRef .tc main_v11) : IVec S16 32) (broadcastInDim S77824x1 ![0] bcast_S77824_S77824x1_0 (select (cmpi .slt (StableHlo.after hostOps0_14 W (Proc.devRef .tc main_v62) : IVec S77824 32) (broadcastInDim S77824 ![] bcast_S_S77824 (constantI S_ 32 0#32))) (addi (StableHlo.after hostOps0_14 W (Proc.devRef .tc main_v62) : IVec S77824 32) (broadcastInDim S77824 ![] bcast_S_S77824 (constantI S_ 32 16#32))) (StableHlo.after hostOps0_14 W (Proc.devRef .tc main_v62) : IVec S77824 32))))) (cmpi .slt (iotaInDim S77824 32 0) (broadcastInDim S77824 ![] bcast_S_S77824 (shapeCast S_ (extractStridedSlice S1 ![15] (W (Proc.devRef .tc main_v24) : IVec S16 32) slices_S16_S1_15) shapeCasts_S1_S_))) : IVec S77824 1) := by
  after_reads_simp
  all_goals try simp only [h2]
  all_goals try simp -implicitDefEqProofs only [StableHlo.TRef.toBuf, StableHlo.TRef.ofBuf, cast_cast, cast_eq]
  all_goals rfl
theorem t91  : (StableHlo.after hostOps0_14 W (Proc.devRef .tc main_v91) : IVec S77824 32) = (addi (Host.gather gather_S16_S77824x1_S77824_n_0_n_n_0_1_1 (W (Proc.devRef .tc main_v27) : IVec S16 32) (broadcastInDim S77824x1 ![0] bcast_S77824_S77824x1_0 (select (cmpi .slt (StableHlo.after hostOps0_14 W (Proc.devRef .tc main_v62) : IVec S77824 32) (broadcastInDim S77824 ![] bcast_S_S77824 (constantI S_ 32 0#32))) (addi (StableHlo.after hostOps0_14 W (Proc.devRef .tc main_v62) : IVec S77824 32) (broadcastInDim S77824 ![] bcast_S_S77824 (constantI S_ 32 16#32))) (StableHlo.after hostOps0_14 W (Proc.devRef .tc main_v62) : IVec S77824 32)))) (StableHlo.after hostOps0_14 W (Proc.devRef .tc main_v70) : IVec S77824 32) : IVec S77824 32) := by
  after_reads_simp
  all_goals try simp -implicitDefEqProofs only [StableHlo.TRef.toBuf, StableHlo.TRef.ofBuf, cast_cast, cast_eq]
  all_goals rfl
theorem t92 (h : W (Proc.devRef .tc main_c_18) = constantI S_ 32 0#32) (h2 : W (Proc.devRef .tc main_c_19) = constantI S_ 32 69631#32) : (StableHlo.after hostOps0_15 W (Proc.devRef .tc main_v92) : IVec S77824 32) = (minsi (broadcastInDim S77824 ![] bcast_S_S77824 (constantI S_ 32 69631#32)) (maxsi (broadcastInDim S77824 ![] bcast_S_S77824 (constantI S_ 32 0#32)) (W (Proc.devRef .tc main_v91) : IVec S77824 32)) : IVec S77824 32) := by
  after_reads_simp
  all_goals try simp only [h, h2]
  all_goals try simp -implicitDefEqProofs only [StableHlo.TRef.toBuf, StableHlo.TRef.ofBuf, cast_cast, cast_eq]
  all_goals rfl
theorem t99  : (StableHlo.after hostOps0_16 W (Proc.devRef .tc main_v99) : IVec S77824 32) = ((Host.gather gather_S69632_S77824x1_S77824_n_0_n_n_0_1_1 (W (Proc.devRef .tc main_v1) : IVec S69632 32) (broadcastInDim S77824x1 ![0] bcast_S77824_S77824x1_0 (select (cmpi .slt (W (Proc.devRef .tc main_v92) : IVec S77824 32) (broadcastInDim S77824 ![] bcast_S_S77824 (constantI S_ 32 0#32))) (addi (W (Proc.devRef .tc main_v92) : IVec S77824 32) (broadcastInDim S77824 ![] bcast_S_S77824 (constantI S_ 32 69632#32))) (W (Proc.devRef .tc main_v92) : IVec S77824 32)))) : IVec S77824 32) := by
  after_reads_simp
  all_goals try simp -implicitDefEqProofs only [StableHlo.TRef.toBuf, StableHlo.TRef.ofBuf, cast_cast, cast_eq]
  all_goals rfl
theorem t100 (h : W (Proc.devRef .tc main_c_22) = constantI S_ 32 2#32) : (StableHlo.after hostOps0_17 W (Proc.devRef .tc main_v100) : IVec S77824 32) = (Routing.pyDiv bcast_S_S77824 (W (Proc.devRef .tc main_v99) : IVec S77824 32) (constantI S_ 32 2#32) : IVec S77824 32) := by
  after_reads_simp
  all_goals try simp only [h]
  all_goals try simp -implicitDefEqProofs only [StableHlo.TRef.toBuf, StableHlo.TRef.ofBuf, cast_cast, cast_eq]
  all_goals rfl
theorem t101 (h : W (Proc.devRef .tc main_c_23) = constantI S_ 32 0#32) : (StableHlo.after hostOps0_19 W (Proc.devRef .tc main_v101) : IVec S77824 32) = (select (W (Proc.devRef .tc main_v83) : IVec S77824 1) (W (Proc.devRef .tc main_v100) : IVec S77824 32) (broadcastInDim S77824 ![] bcast_S_S77824 (constantI S_ 32 0#32)) : IVec S77824 32) := by
  after_reads_simp
  all_goals try simp only [h]
  all_goals try simp -implicitDefEqProofs only [StableHlo.TRef.toBuf, StableHlo.TRef.ofBuf, cast_cast, cast_eq]
  all_goals rfl
theorem t109  : (StableHlo.after hostOps0_20 W (Proc.devRef .tc main_v109) : FVec Ideal S77824 .f32) = ((Host.gather gather_S69632_S77824x1_S77824_n_0_n_n_0_1_1 (shapeCast S69632 (W (Proc.devRef .tc main_arg2) : FVec Ideal S34816x2 .f32) shapeCasts_S34816x2_S69632) (broadcastInDim S77824x1 ![0] bcast_S77824_S77824x1_0 (select (cmpi .slt (W (Proc.devRef .tc main_v99) : IVec S77824 32) (broadcastInDim S77824 ![] bcast_S_S77824 (constantI S_ 32 0#32))) (addi (W (Proc.devRef .tc main_v99) : IVec S77824 32) (broadcastInDim S77824 ![] bcast_S_S77824 (constantI S_ 32 69632#32))) (W (Proc.devRef .tc main_v99) : IVec S77824 32)))) : FVec Ideal S77824 .f32) := by
  after_reads_simp
  all_goals try simp -implicitDefEqProofs only [StableHlo.TRef.toBuf, StableHlo.TRef.ofBuf, cast_cast, cast_eq]
  all_goals rfl
theorem t110 (h : W (Proc.devRef .tc main_cst) = constant (F := Ideal) S_ .f32 0x00000000#32) : (StableHlo.after hostOps0_21 W (Proc.devRef .tc main_v110) : FVec Ideal S77824 .f32) = (select (W (Proc.devRef .tc main_v83) : IVec S77824 1) (W (Proc.devRef .tc main_v109) : FVec Ideal S77824 .f32) (broadcastInDim S77824 ![] bcast_S_S77824 (constant (F := Ideal) S_ .f32 0x00000000#32)) : FVec Ideal S77824 .f32) := by
  after_reads_simp
  all_goals try simp only [h]
  all_goals try simp -implicitDefEqProofs only [StableHlo.TRef.toBuf, StableHlo.TRef.ofBuf, cast_cast, cast_eq]
  all_goals rfl
theorem t111  : (StableHlo.after hostOps0_22 W (Proc.devRef .tc main_v111) : FVec Ideal S34816x1024 .bf16) = ((truncf .bf16 (W (Proc.devRef .tc main_arg0) : FVec Ideal S34816x1024 .f32) bitsLt_bf16_f32) : FVec Ideal S34816x1024 .bf16) := by
  after_reads_simp
  all_goals try simp -implicitDefEqProofs only [StableHlo.TRef.toBuf, StableHlo.TRef.ofBuf, cast_cast, cast_eq]
  all_goals rfl
theorem t112  : (StableHlo.after hostOps0_23 W (Proc.devRef .tc main_v112) : FVec Ideal S77824x1024 .bf16) = ((select (broadcastInDim S77824x1024 ![0] bcast_S77824_S77824x1024_0 (Host.reduce IntOp.andi (andi (cmpi .sge (broadcastInDim S77824x1 ![0] bcast_S77824_S77824x1_0 (select (cmpi .slt (W (Proc.devRef .tc main_v101) : IVec S77824 32) (broadcastInDim S77824 ![] bcast_S_S77824 (constantI S_ 32 0#32))) (addi (W (Proc.devRef .tc main_v101) : IVec S77824 32) (broadcastInDim S77824 ![] bcast_S_S77824 (constantI S_ 32 34816#32))) (W (Proc.devRef .tc main_v101) : IVec S77824 32))) (broadcastInDim S77824x1 ![] bcast_S_S77824x1 (constantI S_ 32 0#32)))
      (cmpi .sle (broadcastInDim S77824x1 ![0] bcast_S77824_S77824x1_0 (select (cmpi .slt (W (Proc.devRef .tc main_v101) : IVec S77824 32) (broadcastInDim S77824 ![] bcast_S_S77824 (constantI S_ 32 0#32))) (addi (W (Proc.devRef .tc main_v101) : IVec S77824 32) (broadcastInDim S77824 ![] bcast_S_S77824 (constantI S_ 32 34816#32))) (W (Proc.devRef .tc main_v101) : IVec S77824 32))) (broadcastInDim S77824x1 ![0, 1] bcast_S1x1_S77824x1_0_1 (broadcastInDim S1x1 ![1] bcast_S1_S1x1_1 (constantI S1 32 34815#32))))) (constantI S_ 1 1#1) reducesTo_S77824x1_S77824_d1 h_S_))
    (Host.gather gather_S34816x1024_S77824x1_S77824x1024_1_0_n_n_0_1_11024 (W (Proc.devRef .tc main_v111) : FVec Ideal S34816x1024 .bf16) (broadcastInDim S77824x1 ![0] bcast_S77824_S77824x1_0 (select (cmpi .slt (W (Proc.devRef .tc main_v101) : IVec S77824 32) (broadcastInDim S77824 ![] bcast_S_S77824 (constantI S_ 32 0#32))) (addi (W (Proc.devRef .tc main_v101) : IVec S77824 32) (broadcastInDim S77824 ![] bcast_S_S77824 (constantI S_ 32 34816#32))) (W (Proc.devRef .tc main_v101) : IVec S77824 32)))) (broadcastInDim S77824x1024 ![] bcast_S_S77824x1024 (constant (F := Ideal) S_ .bf16 0x7FC0#16))) : FVec Ideal S77824x1024 .bf16) := by
  after_reads_simp
  all_goals try simp -implicitDefEqProofs only [StableHlo.TRef.toBuf, StableHlo.TRef.ofBuf, cast_cast, cast_eq]
  all_goals rfl
theorem t113  : (StableHlo.after hostOps0_24 W (Proc.devRef .tc main_v113) : FVec Ideal S77824x1 .f32) = ((broadcastInDim S77824x1 ![0] bcast_S77824_S77824x1_0 (W (Proc.devRef .tc main_v110) : FVec Ideal S77824 .f32)) : FVec Ideal S77824x1 .f32) := by
  after_reads_simp
  all_goals try simp -implicitDefEqProofs only [StableHlo.TRef.toBuf, StableHlo.TRef.ofBuf, cast_cast, cast_eq]
  all_goals rfl
theorem t114  : (StableHlo.after hostOps0_24 W (Proc.devRef .tc main_v114) : FVec Ideal S16x1024x512 .bf16) = ((truncf .bf16 (W (Proc.devRef .tc main_arg3) : FVec Ideal S16x1024x512 .f32) bitsLt_bf16_f32) : FVec Ideal S16x1024x512 .bf16) := by
  after_reads_simp
  all_goals try simp -implicitDefEqProofs only [StableHlo.TRef.toBuf, StableHlo.TRef.ofBuf, cast_cast, cast_eq]
  all_goals rfl
theorem t115  : (StableHlo.after hostOps0_24 W (Proc.devRef .tc main_v115) : FVec Ideal S16x1024x512 .bf16) = ((truncf .bf16 (W (Proc.devRef .tc main_arg4) : FVec Ideal S16x1024x512 .f32) bitsLt_bf16_f32) : FVec Ideal S16x1024x512 .bf16) := by
  after_reads_simp
  all_goals try simp -implicitDefEqProofs only [StableHlo.TRef.toBuf, StableHlo.TRef.ofBuf, cast_cast, cast_eq]
  all_goals rfl
theorem t116  : (StableHlo.after hostOps0_24 W (Proc.devRef .tc main_v116) : FVec Ideal S16x512x1024 .bf16) = ((truncf .bf16 (W (Proc.devRef .tc main_arg5) : FVec Ideal S16x512x1024 .f32) bitsLt_bf16_f32) : FVec Ideal S16x512x1024 .bf16) := by
  after_reads_simp
  all_goals try simp -implicitDefEqProofs only [StableHlo.TRef.toBuf, StableHlo.TRef.ofBuf, cast_cast, cast_eq]
  all_goals rfl

/-! ## Each buffer from the buffers before -/

theorem s0 : B0 m c = shapeCast S69632 (A1 m c) shapeCasts_S34816x2_S69632 := by
  exact t0 (U0 m c)
theorem s1 : B1 m c = (Host.sort2 S69632 0 comparator_i32_i32_d0 (B0 m c) (iotaInDim S69632 32 0)).2 := by
  exact t1 (U1 m c)
theorem s8 : B8 m c = extui 32 (cmpi .eq (broadcastInDim S69632x16 ![0, 1] bcast_S69632x1_S69632x16_0_1 (broadcastInDim S69632x1 ![0] bcast_S69632_S69632x1_0 (B0 m c))) (broadcastInDim S69632x16 ![0, 1] bcast_S1x16_S69632x16_0_1 (broadcastInDim S1x16 ![1] bcast_S16_S1x16_1 (iotaInDim S16 32 0)))) natLt_1_32 := by
  have hv0 : B0 m c = U2 m c (Proc.devRef .tc main_v0) := by rw [keep1 m c main_v0 (by decide)]; rfl
  rw [hv0]
  exact t8 (U2 m c)
theorem s9 : B9 m c = Host.reduceWindow IntOp.addi ![69632, 1] ![1, 1] ![69631, 0] ![0, 0] (B8 m c) (broadcastInDim S_ ![] bcast_S_S_ (constantI S_ 32 0#32)) reduceWindows_S69632x16_S69632x16_w69632s1p69631_0_w1s1p0_0 h_S_ := by
  exact t9 (U3 m c)
theorem s11 : B11 m c = shapeCast S16 (extractStridedSlice S1x16 ![69631, 0] (B9 m c) slices_S69632x16_S1x16_69631_0) shapeCasts_S1x16_S16 := by
  exact t11 (U4 m c)
theorem s12 : B12 m c = (broadcastInDim S69632x1 ![0] bcast_S69632_S69632x1_0 (B0 m c)) := by
  have hv0 : B0 m c = U4 m c (Proc.devRef .tc main_v0) := by rw [keep3 m c main_v0 (by decide), keep2 m c main_v0 (by decide), keep1 m c main_v0 (by decide)]; rfl
  rw [hv0]
  exact t12 (U4 m c)
theorem s13 : B13 m c = select (Host.reduce IntOp.andi (andi (cmpi .sge (shapeCast S69632x1x1 (select (cmpi .slt (B12 m c) (broadcastInDim S69632x1 ![] bcast_S_S69632x1 (constantI S_ 32 0#32))) (addi (B12 m c) (broadcastInDim S69632x1 ![] bcast_S_S69632x1 (constantI S_ 32 16#32))) (B12 m c)) shapeCasts_S69632x1_S69632x1x1) (broadcastInDim S69632x1x1 ![] bcast_S_S69632x1x1 (constantI S_ 32 0#32)))
      (cmpi .sle (shapeCast S69632x1x1 (select (cmpi .slt (B12 m c) (broadcastInDim S69632x1 ![] bcast_S_S69632x1 (constantI S_ 32 0#32))) (addi (B12 m c) (broadcastInDim S69632x1 ![] bcast_S_S69632x1 (constantI S_ 32 16#32))) (B12 m c)) shapeCasts_S69632x1_S69632x1x1) (broadcastInDim S69632x1x1 ![0, 1, 2] bcast_S1x1x1_S69632x1x1_0_1_2 (broadcastInDim S1x1x1 ![2] bcast_S1_S1x1x1_2 (constantI S1 32 15#32))))) (constantI S_ 1 1#1) reducesTo_S69632x1x1_S69632x1_d2 h_S_)
    (Host.gather gather_S69632x16_S69632x1x1_S69632x1_n_1_0_0_1_2_11 (B9 m c) (shapeCast S69632x1x1 (select (cmpi .slt (B12 m c) (broadcastInDim S69632x1 ![] bcast_S_S69632x1 (constantI S_ 32 0#32))) (addi (B12 m c) (broadcastInDim S69632x1 ![] bcast_S_S69632x1 (constantI S_ 32 16#32))) (B12 m c)) shapeCasts_S69632x1_S69632x1x1)) (broadcastInDim S69632x1 ![] bcast_S_S69632x1 (constantI S_ 32 2147483648#32)) := by
  have hv9 : B9 m c = U5 m c (Proc.devRef .tc main_v9) := by rw [keep4 m c main_v9 (by decide)]; rfl
  rw [hv9]
  exact t13 (U5 m c)
theorem s16 : B16 m c = subi (shapeCast S69632 (B13 m c) shapeCasts_S69632x1_S69632) (broadcastInDim S69632 ![] bcast_S_S69632 (constantI S_ 32 1#32)) := by
  exact t16 (U6 m c)
theorem s20 : B20 m c = subi (addi (B11 m c) (broadcastInDim S16 ![] bcast_S_S16 (constantI S_ 32 512#32))) (broadcastInDim S16 ![] bcast_S_S16 (constantI S_ 32 1#32)) := by
  have hv11 : B11 m c = U6 m c (Proc.devRef .tc main_v11) := by rw [keep5 m c main_v11 (by decide)]; rfl
  rw [hv11]
  exact t20 (U6 m c)
theorem s21 : B21 m c = Routing.pyDiv bcast_S_S16 (B20 m c) (constantI S_ 32 512#32) := by
  have kc_2 : U7 m c (Proc.devRef .tc main_c_2) = constantI S_ 32 512#32 := by
    unfold U7; after_reads_simp
  exact t21 (U7 m c) kc_2
theorem s23 : B23 m c = muli (B21 m c) (broadcastInDim S16 ![] bcast_S_S16 (constantI S_ 32 512#32)) := by
  exact t23 (U8 m c)
theorem s24 : B24 m c = Host.reduceWindow IntOp.addi ![16] ![1] ![15] ![0] (B23 m c) (broadcastInDim S_ ![] bcast_S_S_ (constantI S_ 32 0#32)) reduceWindows_S16_S16_w16s1p15_0 h_S_ := by
  exact t24 (U9 m c)
theorem s25 : B25 m c = subi (B24 m c) (B23 m c) := by
  have hv23 : B23 m c = U10 m c (Proc.devRef .tc main_v23) := by rw [keep9 m c main_v23 (by decide)]; rfl
  rw [hv23]
  exact t25 (U10 m c)
theorem s26 : B26 m c = Host.reduceWindow IntOp.addi ![16] ![1] ![15] ![0] (B11 m c) (broadcastInDim S_ ![] bcast_S_S_ (constantI S_ 32 0#32)) reduceWindows_S16_S16_w16s1p15_0 h_S_ := by
  have hv11 : B11 m c = U11 m c (Proc.devRef .tc main_v11) := by rw [keep10 m c main_v11 (by decide), keep9 m c main_v11 (by decide), keep8 m c main_v11 (by decide), keep7 m c main_v11 (by decide), keep6 m c main_v11 (by decide), keep5 m c main_v11 (by decide)]; rfl
  rw [hv11]
  exact t26 (U11 m c)
theorem s27 : B27 m c = subi (B26 m c) (B11 m c) := by
  have hv11 : B11 m c = U12 m c (Proc.devRef .tc main_v11) := by rw [keep11 m c main_v11 (by decide), keep10 m c main_v11 (by decide), keep9 m c main_v11 (by decide), keep8 m c main_v11 (by decide), keep7 m c main_v11 (by decide), keep6 m c main_v11 (by decide), keep5 m c main_v11 (by decide)]; rfl
  rw [hv11]
  exact t27 (U12 m c)
theorem s36 : B36 m c = shapeCast S34816x2 (addi (Host.gather gather_S16_S69632x1_S69632_n_0_n_n_0_1_1 (B25 m c) (broadcastInDim S69632x1 ![0] bcast_S69632_S69632x1_0 (select (cmpi .slt (B0 m c) (broadcastInDim S69632 ![] bcast_S_S69632 (constantI S_ 32 0#32))) (addi (B0 m c) (broadcastInDim S69632 ![] bcast_S_S69632 (constantI S_ 32 16#32))) (B0 m c)))) (B16 m c)) shapeCasts_S69632_S34816x2 := by
  have hv25 : B25 m c = U12 m c (Proc.devRef .tc main_v25) := by rw [keep11 m c main_v25 (by decide)]; rfl
  have hv0 : B0 m c = U12 m c (Proc.devRef .tc main_v0) := by rw [keep11 m c main_v0 (by decide), keep10 m c main_v0 (by decide), keep9 m c main_v0 (by decide), keep8 m c main_v0 (by decide), keep7 m c main_v0 (by decide), keep6 m c main_v0 (by decide), keep5 m c main_v0 (by decide), keep4 m c main_v0 (by decide), keep3 m c main_v0 (by decide), keep2 m c main_v0 (by decide), keep1 m c main_v0 (by decide)]; rfl
  have hv16 : B16 m c = U12 m c (Proc.devRef .tc main_v16) := by rw [keep11 m c main_v16 (by decide), keep10 m c main_v16 (by decide), keep9 m c main_v16 (by decide), keep8 m c main_v16 (by decide), keep7 m c main_v16 (by decide)]; rfl
  rw [hv25, hv0, hv16]
  exact t36 (U12 m c)
theorem s39 : B39 m c = muli (iotaInDim S152 32 0) (broadcastInDim S152 ![] bcast_S_S152 (constantI S_ 32 512#32)) := by
  exact t39 (U12 m c)
theorem s48 : B48 m c = minsi (Host.reduce IntOp.addi (extui 32 (cmpi .sle (broadcastInDim S152x16 ![0, 1] bcast_S1x16_S152x16_0_1 (broadcastInDim S1x16 ![1] bcast_S16_S1x16_1 (B24 m c))) (broadcastInDim S152x16 ![0, 1] bcast_S152x1_S152x16_0_1 (broadcastInDim S152x1 ![0] bcast_S152_S152x1_0 (B39 m c)))) natLt_1_32) (constantI S_ 32 0#32) reducesTo_S152x16_S152_d1 h_S_) (broadcastInDim S152 ![] bcast_S_S152 (constantI S_ 32 15#32)) := by
  have hv24 : B24 m c = U12 m c (Proc.devRef .tc main_v24) := by rw [keep11 m c main_v24 (by decide), keep10 m c main_v24 (by decide)]; rfl
  rw [hv24]
  exact t48 (U12 m c)
theorem s53 : B53 m c = extui 32 (cmpi .slt (B39 m c) (broadcastInDim S152 ![] bcast_S_S152 (shapeCast S_ (extractStridedSlice S1 ![15] (B24 m c) slices_S16_S1_15) shapeCasts_S1_S_))) natLt_1_32 := by
  have hv24 : B24 m c = U12 m c (Proc.devRef .tc main_v24) := by rw [keep11 m c main_v24 (by decide), keep10 m c main_v24 (by decide)]; rfl
  rw [hv24]
  exact t53 (U12 m c)
theorem s55 : B55 m c = Routing.pyDiv bcast_S_S77824 (iotaInDim S77824 32 0) (constantI S_ 32 512#32) := by
  have kc_9 : U13 m c (Proc.devRef .tc main_c_9) = constantI S_ 32 512#32 := by
    unfold U13; after_reads_simp
  have kv54 : U13 m c (Proc.devRef .tc main_v54) = iotaInDim S77824 32 0 := by
    unfold U13; after_reads_simp
  exact t55 (U13 m c) kc_9 kv54
theorem s62 : B62 m c = (Host.gather gather_S152_S77824x1_S77824_n_0_n_n_0_1_1 (B48 m c) (broadcastInDim S77824x1 ![0] bcast_S77824_S77824x1_0 (select (cmpi .slt (B55 m c) (broadcastInDim S77824 ![] bcast_S_S77824 (constantI S_ 32 0#32))) (addi (B55 m c) (broadcastInDim S77824 ![] bcast_S_S77824 (constantI S_ 32 152#32))) (B55 m c)))) := by
  have hv48 : B48 m c = U14 m c (Proc.devRef .tc main_v48) := by rw [keep13 m c main_v48 (by decide)]; rfl
  rw [hv48]
  exact t62 (U14 m c)
theorem s70 : B70 m c = subi (iotaInDim S77824 32 0) (Host.gather gather_S16_S77824x1_S77824_n_0_n_n_0_1_1 (B25 m c) (broadcastInDim S77824x1 ![0] bcast_S77824_S77824x1_0 (select (cmpi .slt (B62 m c) (broadcastInDim S77824 ![] bcast_S_S77824 (constantI S_ 32 0#32))) (addi (B62 m c) (broadcastInDim S77824 ![] bcast_S_S77824 (constantI S_ 32 16#32))) (B62 m c)))) := by
  have hv25 : B25 m c = U14 m c (Proc.devRef .tc main_v25) := by rw [keep13 m c main_v25 (by decide), keep12 m c main_v25 (by decide), keep11 m c main_v25 (by decide)]; rfl
  have kv54 : U14 m c (Proc.devRef .tc main_v54) = iotaInDim S77824 32 0 := by
    rw [keep13 m c main_v54 (by decide)]; unfold U13; after_reads_simp
  rw [hv25]
  exact t70 (U14 m c) kv54
theorem s83 : B83 m c = andi (cmpi .slt (B70 m c) (Host.gather gather_S16_S77824x1_S77824_n_0_n_n_0_1_1 (B11 m c) (broadcastInDim S77824x1 ![0] bcast_S77824_S77824x1_0 (select (cmpi .slt (B62 m c) (broadcastInDim S77824 ![] bcast_S_S77824 (constantI S_ 32 0#32))) (addi (B62 m c) (broadcastInDim S77824 ![] bcast_S_S77824 (constantI S_ 32 16#32))) (B62 m c))))) (cmpi .slt (iotaInDim S77824 32 0) (broadcastInDim S77824 ![] bcast_S_S77824 (shapeCast S_ (extractStridedSlice S1 ![15] (B24 m c) slices_S16_S1_15) shapeCasts_S1_S_))) := by
  have hv11 : B11 m c = U14 m c (Proc.devRef .tc main_v11) := by rw [keep13 m c main_v11 (by decide), keep12 m c main_v11 (by decide), keep11 m c main_v11 (by decide), keep10 m c main_v11 (by decide), keep9 m c main_v11 (by decide), keep8 m c main_v11 (by decide), keep7 m c main_v11 (by decide), keep6 m c main_v11 (by decide), keep5 m c main_v11 (by decide)]; rfl
  have hv24 : B24 m c = U14 m c (Proc.devRef .tc main_v24) := by rw [keep13 m c main_v24 (by decide), keep12 m c main_v24 (by decide), keep11 m c main_v24 (by decide), keep10 m c main_v24 (by decide)]; rfl
  have kv54 : U14 m c (Proc.devRef .tc main_v54) = iotaInDim S77824 32 0 := by
    rw [keep13 m c main_v54 (by decide)]; unfold U13; after_reads_simp
  rw [hv11, hv24]
  exact t83 (U14 m c) kv54
theorem s91 : B91 m c = addi (Host.gather gather_S16_S77824x1_S77824_n_0_n_n_0_1_1 (B27 m c) (broadcastInDim S77824x1 ![0] bcast_S77824_S77824x1_0 (select (cmpi .slt (B62 m c) (broadcastInDim S77824 ![] bcast_S_S77824 (constantI S_ 32 0#32))) (addi (B62 m c) (broadcastInDim S77824 ![] bcast_S_S77824 (constantI S_ 32 16#32))) (B62 m c)))) (B70 m c) := by
  have hv27 : B27 m c = U14 m c (Proc.devRef .tc main_v27) := by rw [keep13 m c main_v27 (by decide)]; rfl
  rw [hv27]
  exact t91 (U14 m c)
theorem s92 : B92 m c = minsi (broadcastInDim S77824 ![] bcast_S_S77824 (constantI S_ 32 69631#32)) (maxsi (broadcastInDim S77824 ![] bcast_S_S77824 (constantI S_ 32 0#32)) (B91 m c)) := by
  have kc_18 : U15 m c (Proc.devRef .tc main_c_18) = constantI S_ 32 0#32 := by
    unfold U15; after_reads_simp
  have kc_19 : U15 m c (Proc.devRef .tc main_c_19) = constantI S_ 32 69631#32 := by
    unfold U15; after_reads_simp
  exact t92 (U15 m c) kc_18 kc_19
theorem s99 : B99 m c = (Host.gather gather_S69632_S77824x1_S77824_n_0_n_n_0_1_1 (B1 m c) (broadcastInDim S77824x1 ![0] bcast_S77824_S77824x1_0 (select (cmpi .slt (B92 m c) (broadcastInDim S77824 ![] bcast_S_S77824 (constantI S_ 32 0#32))) (addi (B92 m c) (broadcastInDim S77824 ![] bcast_S_S77824 (constantI S_ 32 69632#32))) (B92 m c)))) := by
  have hv1 : B1 m c = U16 m c (Proc.devRef .tc main_v1) := by rw [keep15 m c main_v1 (by decide), keep14 m c main_v1 (by decide), keep13 m c main_v1 (by decide), keep12 m c main_v1 (by decide), keep11 m c main_v1 (by decide), keep10 m c main_v1 (by decide), keep9 m c main_v1 (by decide), keep8 m c main_v1 (by decide), keep7 m c main_v1 (by decide), keep6 m c main_v1 (by decide), keep5 m c main_v1 (by decide), keep4 m c main_v1 (by decide), keep3 m c main_v1 (by decide), keep2 m c main_v1 (by decide)]; rfl
  rw [hv1]
  exact t99 (U16 m c)
theorem s100 : B100 m c = Routing.pyDiv bcast_S_S77824 (B99 m c) (constantI S_ 32 2#32) := by
  have kc_22 : U17 m c (Proc.devRef .tc main_c_22) = constantI S_ 32 2#32 := by
    unfold U17; after_reads_simp
  exact t100 (U17 m c) kc_22
theorem s101 : B101 m c = select (B83 m c) (B100 m c) (broadcastInDim S77824 ![] bcast_S_S77824 (constantI S_ 32 0#32)) := by
  have hv83 : B83 m c = U19 m c (Proc.devRef .tc main_v83) := by rw [keep18 m c main_v83 (by decide), keep17 m c main_v83 (by decide), keep16 m c main_v83 (by decide), keep15 m c main_v83 (by decide)]; rfl
  have hv100 : B100 m c = U19 m c (Proc.devRef .tc main_v100) := by rw [keep18 m c main_v100 (by decide)]; rfl
  have kc_23 : U19 m c (Proc.devRef .tc main_c_23) = constantI S_ 32 0#32 := by
    unfold U19; after_reads_simp
  rw [hv83, hv100]
  exact t101 (U19 m c) kc_23
theorem s109 : B109 m c = (Host.gather gather_S69632_S77824x1_S77824_n_0_n_n_0_1_1 (shapeCast S69632 (A2 m c) shapeCasts_S34816x2_S69632) (broadcastInDim S77824x1 ![0] bcast_S77824_S77824x1_0 (select (cmpi .slt (B99 m c) (broadcastInDim S77824 ![] bcast_S_S77824 (constantI S_ 32 0#32))) (addi (B99 m c) (broadcastInDim S77824 ![] bcast_S_S77824 (constantI S_ 32 69632#32))) (B99 m c)))) := by
  have harg2 : A2 m c = U20 m c (Proc.devRef .tc main_arg2) := by rw [keep19 m c main_arg2 (by decide), keep18 m c main_arg2 (by decide), keep17 m c main_arg2 (by decide), keep16 m c main_arg2 (by decide), keep15 m c main_arg2 (by decide), keep14 m c main_arg2 (by decide), keep13 m c main_arg2 (by decide), keep12 m c main_arg2 (by decide), keep11 m c main_arg2 (by decide), keep10 m c main_arg2 (by decide), keep9 m c main_arg2 (by decide), keep8 m c main_arg2 (by decide), keep7 m c main_arg2 (by decide), keep6 m c main_arg2 (by decide), keep5 m c main_arg2 (by decide), keep4 m c main_arg2 (by decide), keep3 m c main_arg2 (by decide), keep2 m c main_arg2 (by decide), keep1 m c main_arg2 (by decide), keep0 m c main_arg2 (by decide)]; rfl
  have hv99 : B99 m c = U20 m c (Proc.devRef .tc main_v99) := by rw [keep19 m c main_v99 (by decide), keep18 m c main_v99 (by decide), keep17 m c main_v99 (by decide)]; rfl
  rw [harg2, hv99]
  exact t109 (U20 m c)
theorem s110 : B110 m c = select (B83 m c) (B109 m c) (broadcastInDim S77824 ![] bcast_S_S77824 (constant (F := Ideal) S_ .f32 0x00000000#32)) := by
  have hv83 : B83 m c = U21 m c (Proc.devRef .tc main_v83) := by rw [keep20 m c main_v83 (by decide), keep19 m c main_v83 (by decide), keep18 m c main_v83 (by decide), keep17 m c main_v83 (by decide), keep16 m c main_v83 (by decide), keep15 m c main_v83 (by decide)]; rfl
  have kcst : U21 m c (Proc.devRef .tc main_cst) = constant (F := Ideal) S_ .f32 0x00000000#32 := by
    unfold U21; after_reads_simp
  rw [hv83]
  exact t110 (U21 m c) kcst
theorem s111 : B111 m c = (truncf .bf16 (A0 m c) bitsLt_bf16_f32) := by
  have harg0 : A0 m c = U22 m c (Proc.devRef .tc main_arg0) := by rw [keep21 m c main_arg0 (by decide), keep20 m c main_arg0 (by decide), keep19 m c main_arg0 (by decide), keep18 m c main_arg0 (by decide), keep17 m c main_arg0 (by decide), keep16 m c main_arg0 (by decide), keep15 m c main_arg0 (by decide), keep14 m c main_arg0 (by decide), keep13 m c main_arg0 (by decide), keep12 m c main_arg0 (by decide), keep11 m c main_arg0 (by decide), keep10 m c main_arg0 (by decide), keep9 m c main_arg0 (by decide), keep8 m c main_arg0 (by decide), keep7 m c main_arg0 (by decide), keep6 m c main_arg0 (by decide), keep5 m c main_arg0 (by decide), keep4 m c main_arg0 (by decide), keep3 m c main_arg0 (by decide), keep2 m c main_arg0 (by decide), keep1 m c main_arg0 (by decide), keep0 m c main_arg0 (by decide)]; rfl
  rw [harg0]
  exact t111 (U22 m c)
theorem s112 : B112 m c = (select (broadcastInDim S77824x1024 ![0] bcast_S77824_S77824x1024_0 (Host.reduce IntOp.andi (andi (cmpi .sge (broadcastInDim S77824x1 ![0] bcast_S77824_S77824x1_0 (select (cmpi .slt (B101 m c) (broadcastInDim S77824 ![] bcast_S_S77824 (constantI S_ 32 0#32))) (addi (B101 m c) (broadcastInDim S77824 ![] bcast_S_S77824 (constantI S_ 32 34816#32))) (B101 m c))) (broadcastInDim S77824x1 ![] bcast_S_S77824x1 (constantI S_ 32 0#32)))
      (cmpi .sle (broadcastInDim S77824x1 ![0] bcast_S77824_S77824x1_0 (select (cmpi .slt (B101 m c) (broadcastInDim S77824 ![] bcast_S_S77824 (constantI S_ 32 0#32))) (addi (B101 m c) (broadcastInDim S77824 ![] bcast_S_S77824 (constantI S_ 32 34816#32))) (B101 m c))) (broadcastInDim S77824x1 ![0, 1] bcast_S1x1_S77824x1_0_1 (broadcastInDim S1x1 ![1] bcast_S1_S1x1_1 (constantI S1 32 34815#32))))) (constantI S_ 1 1#1) reducesTo_S77824x1_S77824_d1 h_S_))
    (Host.gather gather_S34816x1024_S77824x1_S77824x1024_1_0_n_n_0_1_11024 (B111 m c) (broadcastInDim S77824x1 ![0] bcast_S77824_S77824x1_0 (select (cmpi .slt (B101 m c) (broadcastInDim S77824 ![] bcast_S_S77824 (constantI S_ 32 0#32))) (addi (B101 m c) (broadcastInDim S77824 ![] bcast_S_S77824 (constantI S_ 32 34816#32))) (B101 m c)))) (broadcastInDim S77824x1024 ![] bcast_S_S77824x1024 (constant (F := Ideal) S_ .bf16 0x7FC0#16))) := by
  have hv101 : B101 m c = U23 m c (Proc.devRef .tc main_v101) := by rw [keep22 m c main_v101 (by decide), keep21 m c main_v101 (by decide), keep20 m c main_v101 (by decide)]; rfl
  rw [hv101]
  exact t112 (U23 m c)
theorem s113 : B113 m c = (broadcastInDim S77824x1 ![0] bcast_S77824_S77824x1_0 (B110 m c)) := by
  have hv110 : B110 m c = U24 m c (Proc.devRef .tc main_v110) := by rw [keep23 m c main_v110 (by decide), keep22 m c main_v110 (by decide)]; rfl
  rw [hv110]
  exact t113 (U24 m c)
theorem s114 : B114 m c = (truncf .bf16 (A3 m c) bitsLt_bf16_f32) := by
  have harg3 : A3 m c = U24 m c (Proc.devRef .tc main_arg3) := by rw [keep23 m c main_arg3 (by decide), keep22 m c main_arg3 (by decide), keep21 m c main_arg3 (by decide), keep20 m c main_arg3 (by decide), keep19 m c main_arg3 (by decide), keep18 m c main_arg3 (by decide), keep17 m c main_arg3 (by decide), keep16 m c main_arg3 (by decide), keep15 m c main_arg3 (by decide), keep14 m c main_arg3 (by decide), keep13 m c main_arg3 (by decide), keep12 m c main_arg3 (by decide), keep11 m c main_arg3 (by decide), keep10 m c main_arg3 (by decide), keep9 m c main_arg3 (by decide), keep8 m c main_arg3 (by decide), keep7 m c main_arg3 (by decide), keep6 m c main_arg3 (by decide), keep5 m c main_arg3 (by decide), keep4 m c main_arg3 (by decide), keep3 m c main_arg3 (by decide), keep2 m c main_arg3 (by decide), keep1 m c main_arg3 (by decide), keep0 m c main_arg3 (by decide)]; rfl
  rw [harg3]
  exact t114 (U24 m c)
theorem s115 : B115 m c = (truncf .bf16 (A4 m c) bitsLt_bf16_f32) := by
  have harg4 : A4 m c = U24 m c (Proc.devRef .tc main_arg4) := by rw [keep23 m c main_arg4 (by decide), keep22 m c main_arg4 (by decide), keep21 m c main_arg4 (by decide), keep20 m c main_arg4 (by decide), keep19 m c main_arg4 (by decide), keep18 m c main_arg4 (by decide), keep17 m c main_arg4 (by decide), keep16 m c main_arg4 (by decide), keep15 m c main_arg4 (by decide), keep14 m c main_arg4 (by decide), keep13 m c main_arg4 (by decide), keep12 m c main_arg4 (by decide), keep11 m c main_arg4 (by decide), keep10 m c main_arg4 (by decide), keep9 m c main_arg4 (by decide), keep8 m c main_arg4 (by decide), keep7 m c main_arg4 (by decide), keep6 m c main_arg4 (by decide), keep5 m c main_arg4 (by decide), keep4 m c main_arg4 (by decide), keep3 m c main_arg4 (by decide), keep2 m c main_arg4 (by decide), keep1 m c main_arg4 (by decide), keep0 m c main_arg4 (by decide)]; rfl
  rw [harg4]
  exact t115 (U24 m c)
theorem s116 : B116 m c = (truncf .bf16 (A5 m c) bitsLt_bf16_f32) := by
  have harg5 : A5 m c = U24 m c (Proc.devRef .tc main_arg5) := by rw [keep23 m c main_arg5 (by decide), keep22 m c main_arg5 (by decide), keep21 m c main_arg5 (by decide), keep20 m c main_arg5 (by decide), keep19 m c main_arg5 (by decide), keep18 m c main_arg5 (by decide), keep17 m c main_arg5 (by decide), keep16 m c main_arg5 (by decide), keep15 m c main_arg5 (by decide), keep14 m c main_arg5 (by decide), keep13 m c main_arg5 (by decide), keep12 m c main_arg5 (by decide), keep11 m c main_arg5 (by decide), keep10 m c main_arg5 (by decide), keep9 m c main_arg5 (by decide), keep8 m c main_arg5 (by decide), keep7 m c main_arg5 (by decide), keep6 m c main_arg5 (by decide), keep5 m c main_arg5 (by decide), keep4 m c main_arg5 (by decide), keep3 m c main_arg5 (by decide), keep2 m c main_arg5 (by decide), keep1 m c main_arg5 (by decide), keep0 m c main_arg5 (by decide)]; rfl
  rw [harg5]
  exact t116 (U24 m c)

/-! ## The combination after the region -/

theorem t119 : (StableHlo.after hostOps1 W (Proc.devRef .tc main_v119) : IVec S34816 32) = shapeCast S34816 (extractStridedSlice S34816x1 ![0, 0] (W (Proc.devRef .tc main_v36) : IVec S34816x2 32) slices_S34816x2_S34816x1_0_0) shapeCasts_S34816x1_S34816 := by
  after_reads_simp
  all_goals try simp -implicitDefEqProofs only [StableHlo.TRef.toBuf, StableHlo.TRef.ofBuf, cast_cast, cast_eq]
  all_goals rfl
theorem t122 : (StableHlo.after hostOps1_2 W (Proc.devRef .tc main_v122) : IVec S34816 32) = shapeCast S34816 (extractStridedSlice S34816x1 ![0, 1] (W (Proc.devRef .tc main_v36) : IVec S34816x2 32) slices_S34816x2_S34816x1_0_1) shapeCasts_S34816x1_S34816 := by
  after_reads_simp
  all_goals try simp -implicitDefEqProofs only [StableHlo.TRef.toBuf, StableHlo.TRef.ofBuf, cast_cast, cast_eq]
  all_goals rfl
/-- `take(ys, i, axis=0)`, a row out of range filled. -/
def taken (ys : FVec Ideal S77824x1024 .f32) (i : IVec S34816 32) : FVec Ideal S34816x1024 .f32 :=
  (select (broadcastInDim S34816x1024 ![0] bcast_S34816_S34816x1024_0 (Host.reduce IntOp.andi (andi (cmpi .sge (broadcastInDim S34816x1 ![0] bcast_S34816_S34816x1_0 (select (cmpi .slt i (broadcastInDim S34816 ![] bcast_S_S34816 (constantI S_ 32 0#32))) (addi i (broadcastInDim S34816 ![] bcast_S_S34816 (constantI S_ 32 77824#32))) i)) (broadcastInDim S34816x1 ![] bcast_S_S34816x1 (constantI S_ 32 0#32)))
      (cmpi .sle (broadcastInDim S34816x1 ![0] bcast_S34816_S34816x1_0 (select (cmpi .slt i (broadcastInDim S34816 ![] bcast_S_S34816 (constantI S_ 32 0#32))) (addi i (broadcastInDim S34816 ![] bcast_S_S34816 (constantI S_ 32 77824#32))) i)) (broadcastInDim S34816x1 ![0, 1] bcast_S1x1_S34816x1_0_1 (broadcastInDim S1x1 ![1] bcast_S1_S1x1_1 (constantI S1 32 77823#32))))) (constantI S_ 1 1#1) reducesTo_S34816x1_S34816_d1 h_S_))
    (Host.gather gather_S77824x1024_S34816x1_S34816x1024_1_0_n_n_0_1_11024 ys (broadcastInDim S34816x1 ![0] bcast_S34816_S34816x1_0 (select (cmpi .slt i (broadcastInDim S34816 ![] bcast_S_S34816 (constantI S_ 32 0#32))) (addi i (broadcastInDim S34816 ![] bcast_S_S34816 (constantI S_ 32 77824#32))) i))) (broadcastInDim S34816x1024 ![] bcast_S_S34816x1024 (constant (F := Ideal) S_ .f32 0x7FC00000#32)))
theorem t120 : (StableHlo.after hostOps1_1 W (Proc.devRef .tc main_v120) : FVec Ideal S34816x1024 .f32) = taken (W (Proc.devRef .tc main_v117) : FVec Ideal S77824x1024 .f32) (W (Proc.devRef .tc main_v119) : IVec S34816 32) := by
  unfold taken
  after_reads_simp
  all_goals try simp -implicitDefEqProofs only [StableHlo.TRef.toBuf, StableHlo.TRef.ofBuf, cast_cast, cast_eq]
  all_goals rfl
theorem t123 : (StableHlo.after hostOps1_3 W (Proc.devRef .tc main_v123) : FVec Ideal S34816x1024 .f32) = taken (W (Proc.devRef .tc main_v117) : FVec Ideal S77824x1024 .f32) (W (Proc.devRef .tc main_v122) : IVec S34816 32) := by
  unfold taken
  after_reads_simp
  all_goals try simp -implicitDefEqProofs only [StableHlo.TRef.toBuf, StableHlo.TRef.ofBuf, cast_cast, cast_eq]
  all_goals rfl
theorem t124 : (StableHlo.after opsAfter.flatten W (Proc.devRef .tc main_v124) : FVec Ideal S34816x1024 .f32)
    = addf (taken (W (Proc.devRef .tc main_v117) : FVec Ideal S77824x1024 .f32) (shapeCast S34816 (extractStridedSlice S34816x1 ![0, 0] (W (Proc.devRef .tc main_v36) : IVec S34816x2 32) slices_S34816x2_S34816x1_0_0) shapeCasts_S34816x1_S34816))
      (taken (W (Proc.devRef .tc main_v117) : FVec Ideal S77824x1024 .f32) (shapeCast S34816 (extractStridedSlice S34816x1 ![0, 1] (W (Proc.devRef .tc main_v36) : IVec S34816x2 32) slices_S34816x2_S34816x1_0_1) shapeCasts_S34816x1_S34816)) := by
  rw [← t119 W]
  have e36 : W (Proc.devRef .tc main_v36) = StableHlo.after hostOps1_1 (StableHlo.after hostOps1 W) (Proc.devRef .tc main_v36) := by
    rw [keepAfter1 _ main_v36 (by decide), keepAfter0 _ main_v36 (by decide)]
  have e117 : W (Proc.devRef .tc main_v117) = StableHlo.after hostOps1_2 (StableHlo.after hostOps1_1 (StableHlo.after hostOps1 W)) (Proc.devRef .tc main_v117) := by
    rw [keepAfter2 _ main_v117 (by decide), keepAfter1 _ main_v117 (by decide), keepAfter0 _ main_v117 (by decide)]
  have f117 : W (Proc.devRef .tc main_v117) = StableHlo.after hostOps1 W (Proc.devRef .tc main_v117) := by
    rw [keepAfter0 _ main_v117 (by decide)]
  rw [e36, ← t122]
  have h1 := t120 (StableHlo.after hostOps1 W)
  rw [← f117] at h1
  have h2 := t123 (StableHlo.after hostOps1_2 (StableHlo.after hostOps1_1 (StableHlo.after hostOps1 W)))
  rw [← e117] at h2
  rw [← h1, ← h2, show StableHlo.after hostOps1_1 (StableHlo.after hostOps1 W) (Proc.devRef .tc main_v120)
    = StableHlo.after hostOps1_3 (StableHlo.after hostOps1_2 (StableHlo.after hostOps1_1 (StableHlo.after hostOps1 W))) (Proc.devRef .tc main_v120) from by
      rw [keepAfter3 _ main_v120 (by decide), keepAfter2 _ main_v120 (by decide)]]
  unfold opsAfter
  simp only [List.flatten_cons, List.flatten_nil, List.append_nil, StableHlo.after_append]
  rfl

end Cert.Kernel2Ideal.Moe

end
-- ==== Proof.MoePlan.lean ====
module

public import Idealize.ShloMosaic.Lib.PlanTiles.StableSort
public import Idealize.ShloMosaic.Lib.Routing.Ops
public import Idealize.ShloMosaic.Lib.WordCmp

/-! The routing plan's arithmetic: slots counted by expert, each expert's segment padded to whole tiles of 512 rows, and
    the place a stable sort of the slots by expert gives each of them. -/

@[expose] public section

set_option maxRecDepth 16384

namespace Cert.Kernel2Ideal.Moe.Plan

open Idealize.ShloMosaic Idealize.ShloMosaic.ValueIdx
open Idealize.ShloMosaic.Routing (shape1 ofFin_eq_ix1)
open Idealize.ShloMosaic.PlanTiles (Lex pairwise_stableSort_lex)

/-- The number of slots. -/
abbrev NS : ℕ := 69632

variable (e : ℕ → ℕ)

/-- How many of the first `n` slots are expert `j`'s. -/
def cnt (j n : ℕ) : ℕ := Nat.count (fun s => e s = j) n
/-- An expert's slots, rounded up to whole tiles. -/
def padd (j : ℕ) : ℕ := (cnt e j NS + 511) / 512 * 512
/-- Where an expert's segment starts among the padded rows. -/
def segS (j : ℕ) : ℕ := ((List.range j).map (padd e)).sum
/-- Where it starts among the sorted slots. -/
def srcS (j : ℕ) : ℕ := ((List.range j).map fun i => cnt e i NS).sum
/-- The row of a slot. -/
def row (s : ℕ) : ℕ := segS e (e s) + cnt e (e s) s
/-- The place of a slot in the sort. -/
def pos (s : ℕ) : ℕ := srcS e (e s) + cnt e (e s) s

theorem sum_ind (j n : ℕ) : ((List.range n).map fun i => if e i = j then 1 else 0).sum = cnt e j n := by
  unfold cnt
  induction n with
  | zero => rfl
  | succ n ih => rw [List.range_succ, List.map_append, List.sum_append, ih, Nat.count_succ]; simp

theorem cnt_self (s : ℕ) : cnt e (e s) (s + 1) = cnt e (e s) s + 1 := by
  unfold cnt; rw [Nat.count_succ, if_pos rfl]

theorem cnt_lt {s t : ℕ} (h : s < t) : cnt e (e s) s < cnt e (e s) t := Nat.count_strict_mono rfl h

theorem segS_succ (j : ℕ) : segS e (j + 1) = segS e j + padd e j := by
  unfold segS; rw [List.range_succ, List.map_append, List.sum_append]; simp
theorem srcS_succ (j : ℕ) : srcS e (j + 1) = srcS e j + cnt e j NS := by
  unfold srcS; rw [List.range_succ, List.map_append, List.sum_append]; simp
theorem segS_mono {i j : ℕ} (h : i ≤ j) : segS e i ≤ segS e j := by
  induction h with
  | refl => exact le_rfl
  | step _ ih => rw [segS_succ]; omega
theorem srcS_mono {i j : ℕ} (h : i ≤ j) : srcS e i ≤ srcS e j := by
  induction h with
  | refl => exact le_rfl
  | step _ ih => rw [srcS_succ]; omega

theorem segS_tiles (j : ℕ) : 512 * (segS e j / 512) = segS e j := by
  have : 512 ∣ segS e j := by
    induction j with
    | zero => exact Dvd.intro 0 rfl
    | succ j ih => rw [segS_succ]; exact Nat.dvd_add ih (Dvd.intro_left _ rfl)
  exact Nat.mul_div_cancel' this

theorem srcS_eq (j : ℕ) : srcS e j = Nat.count (fun s => e s < j) NS := by
  have step : ∀ j n, Nat.count (fun s => e s < j + 1) n = Nat.count (fun s => e s < j) n + cnt e j n := fun j n => by
    unfold cnt
    induction n with
    | zero => rfl
    | succ n ih => simp only [Nat.count_succ, ih]; split_ifs <;> omega
  induction j with
  | zero =>
    refine Eq.symm ?_
    show Nat.count (fun s => e s < 0) NS = 0
    generalize NS = n
    induction n with
    | zero => rfl
    | succ n ih => rw [Nat.count_succ, ih]; simp
  | succ j ih => rw [srcS_succ, step, ih]

theorem srcS_le (j : ℕ) : srcS e j ≤ NS := by rw [srcS_eq]; exact Nat.count_le _

theorem cnt_le (j n : ℕ) : cnt e j n ≤ n := Nat.count_le _
theorem padd_le (j : ℕ) : cnt e j NS ≤ padd e j ∧ padd e j ≤ cnt e j NS + 511 := by unfold padd; omega

theorem segS_le (j : ℕ) : segS e j ≤ srcS e j + j * 511 := by
  induction j with
  | zero => exact le_rfl
  | succ j ih => rw [segS_succ, srcS_succ]; have := (padd_le e j).2; omega

theorem segS_total {j : ℕ} (h : j ≤ 16) : segS e j ≤ 77808 := by
  have := segS_le e j
  have : srcS e j ≤ 69632 := srcS_le e j
  omega

section Row
variable {s : ℕ} (hs : s < NS) (he : e s < 16)

include hs in
theorem row_lt_end : row e s < segS e (e s + 1) := by
  have h1 := cnt_lt e hs
  have h2 := (padd_le e (e s)).1
  rw [segS_succ]; unfold row; omega

include hs he in
theorem row_lt : row e s < 77824 := by
  have := row_lt_end e hs
  have := segS_total e (show e s + 1 ≤ 16 by omega)
  omega

include hs he in
theorem row_lt_all : row e s < segS e 16 := lt_of_lt_of_le (row_lt_end e hs) (segS_mono e he)

theorem count_below (P : ℕ → Prop) [DecidablePred P] {k : ℕ} (hk : k ≤ 16) (h : ∀ j < 16, P j ↔ j < k) : Nat.count P 16 = k := by
  rw [Nat.count_eq_card_filter_range, Finset.filter_congr (q := fun j => j < k) fun j hj => h j (Finset.mem_range.1 hj)]
  have : ∀ k ≤ 16, (Finset.filter (fun j => j < k) (Finset.range 16)).card = k := by decide
  exact this k hk

include hs he in
/-- The tile of a slot's row is its expert's. -/
theorem tile_row : Nat.count (fun j => segS e (j + 1) ≤ 512 * (row e s / 512)) 16 = e s := by
  refine count_below _ he.le fun j hj => ?_
  have h0 := segS_tiles e (e s)
  have h1 := row_lt_end e hs
  have h2 : segS e (e s) ≤ row e s := Nat.le_add_right _ _
  constructor
  · intro h
    by_contra hn
    have := segS_mono e (show e s + 1 ≤ j + 1 by omega)
    omega
  · intro h
    have := segS_mono e (show j + 1 ≤ e s by omega)
    omega

include hs he in
theorem tile_row_valid : 512 * (row e s / 512) < segS e 16 := by
  have := row_lt_all e hs he
  omega

include hs in
theorem pos_lt : pos e s < NS := by
  have h1 := cnt_lt e hs
  have h2 := srcS_le e (e s + 1)
  rw [srcS_succ] at h2
  unfold pos; omega
end Row

/-! ## The stable sort -/

theorem pos_lex {a b : ℕ} (ha : a < NS) (h : e a < e b ∨ (e a = e b ∧ a < b)) : pos e a < pos e b := by
  unfold pos
  rcases h with h | ⟨h1, h2⟩
  · have h1 := cnt_lt e ha
    have h2 := srcS_mono e (show e a + 1 ≤ e b from h)
    rw [srcS_succ] at h2
    omega
  · have := cnt_lt e h2
    rw [← h1]; omega

theorem sortedFrom_pairwise {n : ℕ} (R : Fin n → Fin n → Prop) (before : Fin n → Fin n → Bool) (h : (sortPositions n before).Pairwise R)
    (i j : Fin n) (hij : i < j) : R (sortedFrom before i) (sortedFrom before j) :=
  List.pairwise_iff_get.1 h (i.cast (length_sortPositions n before).symm) (j.cast (length_sortPositions n before).symm) hij

theorem lt_of_flip {x y : ℕ} (hx : x < 16) (h : 16 - y < 16 - x) : x < y := by omega
theorem eq_of_flip {x y : ℕ} (hx : x < 16) (hy : y < 16) (h : 16 - x = 16 - y) : x = y := by omega

variable (he : ∀ s < NS, e s < 16)

include he in
theorem sorted_pos (s : Fin NS) :
    sortedFrom (fun a b : Fin NS => decide (e a.val < e b.val)) ⟨pos e s, pos_lt e s.isLt⟩ = s := by
  have hb : (fun a b : Fin NS => decide (e a.val < e b.val)) = fun a b : Fin NS => decide (16 - e b.val < 16 - e a.val) := by
    funext a b
    have := he a a.isLt; have := he b b.isLt
    exact decide_eq_decide.2 (by omega)
  have hl : (sortPositions NS fun a b : Fin NS => decide (e a.val < e b.val)).Pairwise (Lex (fun a : Fin NS => 16 - e a.val) (· < ·)) := by
    rw [hb]
    exact pairwise_stableSort_lex (fun a : Fin NS => 16 - e a.val) (· < ·) (List.finRange NS) (List.pairwise_lt_finRange NS)
  have key := sortedFrom_pairwise _ _ hl
  obtain ⟨r, hr'⟩ := sortedFrom_surjective (fun a b : Fin NS => decide (e a.val < e b.val)) s
  clear hl hb
  generalize sortedFrom (fun a b : Fin NS => decide (e a.val < e b.val)) = sf at key hr' ⊢
  have hmono : StrictMono fun r : Fin NS => (⟨pos e (sf r), pos_lt e (sf r).isLt⟩ : Fin NS) := by
    intro i j hij
    refine Fin.mk_lt_mk.2 (pos_lex e (sf i).isLt ?_)
    have hi := he _ (sf i).isLt
    have hj := he _ (sf j).isLt
    rcases key i j hij with h' | ⟨h1, h2⟩
    · exact Or.inl (lt_of_flip hi h')
    · exact Or.inr ⟨eq_of_flip hi hj h1, h2⟩
  have h1 : (⟨pos e (sf r), pos_lt e (sf r).isLt⟩ : Fin NS) = r := le_antisymm hmono.apply_le hmono.le_apply
  have h2 : (⟨pos e s, pos_lt e s.isLt⟩ : Fin NS) = r := by
    rw [← h1]; exact Fin.ext (by show pos e s = pos e (sf r); rw [hr'])
  rw [h2]; exact hr'

include he in
/-- The second operand of a stable sort of the slots by expert, read at a slot's place: it is the slot's. -/
theorem sort2_read (cmp : BitVec 32 × BitVec 32 → BitVec 32 × BitVec 32 → BitVec 1) (hc : ∀ l r, cmp l r = IntOp.cmpi .slt l.1 r.1)
    (kx y : IVec (shape1 NS) 32) (hk : ∀ a : Fin NS, kx (ix1 a) = BitVec.ofNat 32 (e a)) (s : Fin NS) :
    (Host.sort2 (shape1 NS) 0 cmp kx y).2 (ix1 ⟨pos e s, pos_lt e s.isLt⟩) = y (ix1 s) := by
  have hd : 0 < (shape1 NS).rank := Nat.zero_lt_one
  have ea : ∀ (j : (shape1 NS).Idx) (c : Fin NS), j.along (⟨0, hd⟩ : Fin (shape1 NS).rank) c = ix1 c := fun j c =>
    (Shape.Idx.along_rank1 j c).trans (ofFin_eq_ix1 c)
  have hbefore : ∀ j : (shape1 NS).Idx,
      (fun a b : Fin NS => cmp (kx (j.along ⟨0, hd⟩ a), y (j.along ⟨0, hd⟩ a)) (kx (j.along ⟨0, hd⟩ b), y (j.along ⟨0, hd⟩ b)) == 1#1)
        = fun a b => decide (e a.val < e b.val) := fun j => by
    funext a b
    have h1 := he a a.isLt; have h2 := he b b.isLt
    rw [hc]
    show (IntOp.cmpi .slt (kx (j.along ⟨0, hd⟩ a)) (kx (j.along ⟨0, hd⟩ b)) == 1#1) = _
    rw [ea j a, ea j b, hk a, hk b, WordCmp.cmpi_slt_ofNat (by omega) (by omega)]
    by_cases h : e a.val < e b.val <;> simp [h]
  unfold Host.sort2
  rw [dif_pos hd]
  refine (congrArg (fun c : Fin NS => y ((ix1 (⟨pos e s, pos_lt e s.isLt⟩ : Fin NS)).along ⟨0, hd⟩ c))
    ((congrArg (fun f : Fin NS → Fin NS → Bool => sortedFrom f ⟨pos e s, pos_lt e s.isLt⟩) (hbefore _)).trans (sorted_pos e he s))).trans ?_
  exact congrArg y (ea _ _)

end Cert.Kernel2Ideal.Moe.Plan
-- ==== Proof.MoeWords.lean ====
module

public import Idealize.ShloMosaic.Lib.Routing.Words
public import Idealize.ShloMosaic.Lib.Routing.OpsOne
public import Idealize.ShloMosaic.Lib.Routing.OpsSet
public import Idealize.ShloMosaic.Lib.Routing.OpsSearch
public import Idealize.ShloMosaic.Lib.ReduceAll
public import Idealize.ShloMosaic.Lib.ValueIdxCore

/-! The index arithmetic of jnp's takes: a wrapped index, and a gather at one that is in range, filled or not. -/

@[expose] public section

namespace Cert.Kernel2Ideal.Moe.Plan

open Idealize.ShloMosaic Idealize.ShloMosaic.ValueIdx Idealize.ShloMosaic.WordCmp
open Idealize.ShloMosaic.Routing

/-- An index that is not negative is not wrapped. -/
theorem wrap_ap {s : Shape} (x z n : IVec s 32) (i : s.Idx) {a : ℕ} (hx : x i = BitVec.ofNat 32 a) (ha : a < 2 ^ 31) (hz : z i = 0#32) :
    select (cmpi .slt x z) (addi x n) x i = BitVec.ofNat 32 a := by
  rw [select_at, cmpi_at, hx, hz, show (0#32 : BitVec 32) = BitVec.ofNat 32 0 from rfl, cmpi_slt_ofNat (w := 32) ha (by decide), select_decide, if_neg (by omega)]

/-- jnp's `table[y]`. -/
theorem take_wrap {α : Type} {N n : ℕ} (d : GatherDims (shape1 N) (shape2 n 1) (shape1 n)) (hcoll : d.collapsedSliceDims = [0])
    (hob : d.operandBatchingDims = []) (hsim : d.startIndexMap = [0]) (hivd : d.indexVectorDim = 1) (x : (shape1 N).Idx → α)
    (h₁ : (shape1 n).BroadcastsInDim (shape2 n 1) (![0] : Fin 1 → Fin (shape2 n 1).rank)) (y z w : IVec (shape1 n) 32) (p : Fin n) {k : ℕ}
    (hk : k < N) (hN : N ≤ 2 ^ 31) (hy : y (ix1 p) = BitVec.ofNat 32 k) (hz : z (ix1 p) = 0#32) :
    Host.gather d x (broadcastInDim (shape2 n 1) ![0] h₁ (select (cmpi .slt y z) (addi y w) y)) (ix1 p) = x (ix1 ⟨k, hk⟩) :=
  take_ap d hcoll hob hsim hivd x _ p hk (by omega) ((bcCol h₁ _ p).trans (wrap_ap y z w _ hy (by omega) hz))

theorem reduce_andi_at {s t u : Shape} {axes : List (Fin s.rank)} (x : s.Idx → BitVec 1) (init : u.Idx → BitVec 1) (h : s.ReducesTo axes t)
    (hu : 0 < u.numel) (j : t.Idx) (hi : init (Shape.Idx.first hu) = 1#1) (hx : ∀ i, h.drop i = j → x i = 1#1) :
    Host.reduce IntOp.andi x init h hu j = 1#1 := by
  rw [Host.reduce_eq_foldl]
  exact IntOp.foldl_andi_one x _ _ hi fun n hn => hx n (by simpa using (List.mem_filter.1 hn).2)

/-- Both bounds hold of an index in range. -/
theorem inRange {a r : ℕ} (ha : a < 2 ^ 31) (hr : r < 2 ^ 31) (h : a ≤ r) :
    IntOp.andi (IntOp.cmpi .sge (BitVec.ofNat 32 a) 0#32) (IntOp.cmpi .sle (BitVec.ofNat 32 a) (BitVec.ofNat 32 r)) = 1#1 := by
  rw [show (0#32 : BitVec 32) = BitVec.ofNat 32 0 from rfl, cmpi_sge_ofNat (w := 32) ha (by decide), cmpi_sle_ofNat (w := 32) ha hr]
  simp [h]; rfl

/-- jnp's `take(table, y, axis=0)` of the rows of a matrix, at a row in range. -/
theorem take_rows {α : Type} {N n B r : ℕ} (d : GatherDims (shape2 N B) (shape2 n 1) (shape2 n B)) (hoff : d.offsetDims = [1])
    (hcoll : d.collapsedSliceDims = [0]) (hob : d.operandBatchingDims = []) (hsim : d.startIndexMap = [0]) (hivd : d.indexVectorDim = 1)
    (x : (shape2 N B).Idx → α) (fl : (shape2 n B).Idx → α) (ix zz rr : IVec (shape2 n 1) 32) (init : shape0.Idx → BitVec 1)
    (hred : (shape2 n 1).ReducesTo [1] (shape1 n)) (hu : 0 < shape0.numel)
    (hb : (shape1 n).BroadcastsInDim (shape2 n B) (![0] : Fin 1 → Fin (shape2 n B).rank)) (p : Fin n) (q : Fin B) {k : ℕ} (hk : k < N) (hN : N = r + 1)
    (hr : r < 2 ^ 31 - 1) (hix : ix (ix2 p (0 : Fin 1)) = BitVec.ofNat 32 k) (hzz : ∀ i, zz i = 0#32) (hrr : ∀ i, rr i = BitVec.ofNat 32 r)
    (hi : ∀ i, init i = 1#1) :
    select (broadcastInDim (shape2 n B) ![0] hb (Host.reduce IntOp.andi (andi (cmpi .sge ix zz) (cmpi .sle ix rr)) init hred hu))
      (Host.gather d x ix) fl (ix2 p q) = x (ix2 ⟨k, hk⟩ q) := by
  have e : broadcastInDim (shape2 n B) ![0] hb (Host.reduce IntOp.andi (andi (cmpi .sge ix zz) (cmpi .sle ix rr)) init hred hu) (ix2 p q)
      = Host.reduce IntOp.andi (andi (cmpi .sge ix zz) (cmpi .sle ix rr)) init hred hu (ix1 p) :=
    broadcastInDim_apply _ hb _ _ _ fun a => by
      match a with
      | ⟨0, _⟩ =>
        show p.val = if n = 1 then 0 else p.val
        have := p.isLt
        split <;> omega
  rw [select_at, e, reduce_andi_at _ _ _ _ _ (hi _) fun i hi => ?_]
  · exact (select_of_eq_one rfl _ _).trans (gather_row d hoff hcoll hob hsim hivd x ix p q ⟨k, hk⟩ hix (by omega))
  · have h0 : i = ix2 p (0 : Fin 1) := by
      have hv : (hred.drop i 0 : ℕ) = i 0 := Shape.ReducesTo.drop_apply_val hred i 0
      rw [hi] at hv
      funext a
      match a with
      | ⟨0, _⟩ => exact Fin.ext hv.symm
      | ⟨1, _⟩ => exact Subsingleton.elim (α := Fin 1) _ _
    rw [h0, andi_at, cmpi_at, cmpi_at, hix, hzz, hrr]
    exact inRange (by omega) (by omega) (by omega)

/-- jnp's `take_along_axis(x, y, axis=1)` of one column, at an index in range. -/
theorem take_along {α : Type} {N C r : ℕ} (wf : GatherDims.WF (shape2 N C) (shape3 N 1 1) (shape2 N 1) [] [1] [0] [1] [0] 2 ![1, 1])
    (d : GatherDims (shape2 N C) (shape3 N 1 1) (shape2 N 1)) (hd : d = ⟨[], [1], [0], [0], [1], 2, ![1, 1], wf⟩)
    (x : (shape2 N C).Idx → α) (fl : (shape2 N 1).Idx → α) (ix zz rr : IVec (shape3 N 1 1) 32) (init : shape0.Idx → BitVec 1)
    (hred : (shape3 N 1 1).ReducesTo [2] (shape2 N 1)) (hu : 0 < shape0.numel) (p : Fin N) {k : ℕ} (hk : k < C) (hC : C = r + 1)
    (hr : r < 2 ^ 31 - 1) (hix : ix (ix3 p (0 : Fin 1) (0 : Fin 1)) = BitVec.ofNat 32 k) (hzz : ∀ i, zz i = 0#32) (hrr : ∀ i, rr i = BitVec.ofNat 32 r)
    (hi : ∀ i, init i = 1#1) :
    select (Host.reduce IntOp.andi (andi (cmpi .sge ix zz) (cmpi .sle ix rr)) init hred hu) (Host.gather d x ix) fl (ix2 p (0 : Fin 1))
      = x (ix2 p ⟨k, hk⟩) := by
  rw [select_at, reduce_andi_at _ _ _ _ _ (hi _) fun i hi => ?_]
  · refine (select_of_eq_one rfl _ _).trans ?_
    subst hd
    unfold Host.gather
    congr 1
    funext a
    refine Fin.ext ?_
    set d : GatherDims (shape2 N C) (shape3 N 1 1) (shape2 N 1) := ⟨[], [1], [0], [0], [1], 2, ![1, 1], wf⟩ with hd
    show d.start (ix2 p (0 : Fin 1)) ix a + d.batchCoord (ix2 p (0 : Fin 1)) a + d.offCoord (ix2 p (0 : Fin 1)) a = _
    have h01 : a = 0 ∨ a = 1 := by
      match a with
      | ⟨0, _⟩ => exact Or.inl rfl
      | ⟨1, _⟩ => exact Or.inr rfl
    rcases h01 with rfl | rfl
    · rw [GatherDims.start_batching _ _ _ _ (List.mem_singleton.mpr rfl),
        GatherDims.offCoord_eq_zero _ _ _ (fun h => ((GatherDims.mem_sKept _ _).mp h).2 (List.mem_singleton.mpr rfl))]
      simp only [Nat.zero_add, Nat.add_zero]
      unfold GatherDims.batchCoord
      rw [dif_pos (List.mem_singleton.mpr rfl)]
      rfl
    · rw [GatherDims.batchCoord_eq_zero _ _ _ (fun h => by simp [hd] at h),
        GatherDims.offCoord_eq_zero _ _ _ (fun h => ((GatherDims.mem_sKept _ _).mp h).1 (List.mem_singleton.mpr rfl))]
      simp only [Nat.add_zero]
      unfold GatherDims.start
      rw [dif_pos (show (1 : Fin 2) ∈ d.startIndexMap from List.mem_singleton.mpr rfl)]
      have hsi : d.siIdx (ix2 p (0 : Fin 1)) ⟨List.idxOf (1 : Fin 2) d.startIndexMap,
          List.idxOf_lt_length_iff.2 (List.mem_singleton.mpr rfl)⟩ = ix3 p (0 : Fin 1) (0 : Fin 1) := by
        funext b; refine Fin.ext ?_
        match b with
        | ⟨0, _⟩ => rfl
        | ⟨1, _⟩ => rfl
        | ⟨2, _⟩ => rfl
      rw [hsi, hix, StableHlo.Predicate.toInt_ofNat_small _ (by omega)]
      show min (k : Int).toNat (C - 1) = k
      omega
  · have h0 : i = ix3 p (0 : Fin 1) (0 : Fin 1) := by
      have hv : (hred.drop i 0 : ℕ) = i 0 := Shape.ReducesTo.drop_apply_val hred i 0
      rw [hi] at hv
      funext a
      match a with
      | ⟨0, _⟩ => exact Fin.ext hv.symm
      | ⟨1, _⟩ => exact Subsingleton.elim (α := Fin 1) _ _
      | ⟨2, _⟩ => exact Subsingleton.elim (α := Fin 1) _ _
    rw [h0, andi_at, cmpi_at, cmpi_at, hix, hzz, hrr]
    exact inRange (by omega) (by omega) (by omega)

end Cert.Kernel2Ideal.Moe.Plan
-- ==== Proof.MoeFacts.lean ====
module

public import proofs.«01_k».proof.Proof.MoeStage
public import proofs.«01_k».proof.Proof.MoePlan
public import proofs.«01_k».proof.Proof.MoeWords

/-! What the plan's buffers hold: the numbers of Proof/MoePlan.lean, as words. -/

@[expose] public section

set_option maxRecDepth 16384

noncomputable section

namespace Cert.Kernel2Ideal.Moe

open Cert.Kernel2Ideal Cert.Kernel2Ideal.Gen Cert.Kernel2Ideal.Moe.Plan
open Idealize.ShloMosaic Idealize.ShloMosaic.TcCoe Idealize.SL.Sem
open Idealize.ShloMosaic.Routing Idealize.ShloMosaic.ValueIdx Idealize.ShloMosaic.WordCmp

variable (m : (ℓ : Loc nD τ sig) → Buf (Elt Ideal) ℓ) (c : Dev nD)

/-! ## The experts' range is not needed for the table's -/

theorem minsi_word {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (Nat.le_of_lt h)]
  · rw [if_neg (fun e => h (of_decide_eq_true e)), Nat.min_eq_right (by omega)]

open Classical in
theorem sum_words (msk : IVec (shape2 152 16) 1) (h : (shape2 152 16).ReducesTo [1] (shape1 152)) (hu : 0 < shape0.numel) (q : Fin 152) :
    ∃ n ≤ 16, Host.reduce IntOp.addi (extui 32 msk natLt_1_32) (constantI shape0 32 0#32) h hu (ix1 q) = BitVec.ofNat 32 n :=
  ⟨_, Nat.count_le _, reduce_count (by decide) msk natLt_1_32 h hu q (fun k => if h : k < 16 then msk (ix2 q ⟨k, h⟩) = 1#1 else False) fun k => by
    rw [dif_pos k.isLt]⟩

theorem table_lt {F : FTy → Type} [FloatOps F] (m : (ℓ : Loc nD τ sig) → Buf (Elt F) ℓ) (c : Dev nD) (q : Fin 152) :
    ((V m c main_v48 : IVec S152 32) (ix1 q)).toNat < 16 := by
  rw [V_eq, keep24 m c main_v48 (by decide), keep23 m c main_v48 (by decide), keep22 m c main_v48 (by decide), keep21 m c main_v48 (by decide),
    keep20 m c main_v48 (by decide), keep19 m c main_v48 (by decide), keep18 m c main_v48 (by decide), keep17 m c main_v48 (by decide),
    keep16 m c main_v48 (by decide), keep15 m c main_v48 (by decide), keep14 m c main_v48 (by decide), keep13 m c main_v48 (by decide)]
  unfold U13
  refine (congrArg (fun w : IVec S152 32 => (w (ix1 q)).toNat) (t48 (U12 m c))).trans_lt ?_
  generalize (U12 m c (Proc.devRef .tc main_v24) : IVec S16 32) = x
  generalize (StableHlo.after hostOps0_12 (U12 m c) (Proc.devRef .tc main_v39) : IVec S152 32) = y
  obtain ⟨n, hn, e⟩ := sum_words (cmpi .sle (broadcastInDim S152x16 ![0, 1] bcast_S1x16_S152x16_0_1 (broadcastInDim S1x16 ![1] bcast_S16_S1x16_1 x))
    (broadcastInDim S152x16 ![0, 1] bcast_S152x1_S152x16_0_1 (broadcastInDim S152x1 ![0] bcast_S152_S152x1_0 y))) reducesTo_S152x16_S152_d1 h_S_ q
  refine (congrArg (fun w => (IntOp.minsi w 15#32).toNat) e).trans_lt ?_
  show (IntOp.minsi (BitVec.ofNat 32 n) (BitVec.ofNat 32 15)).toNat < 16
  rw [minsi_word (by omega) (by decide), BitVec.toNat_ofNat]
  omega

/-! ## The experts of the slots -/

/-- The expert of slot `s` of the 69632: token `s / 2`'s choice `s % 2`. -/
def E (s : ℕ) : ℕ := if h : s < 69632 then (A1 m c (ix2 (⟨s / 2, by omega⟩ : Fin 34816) (⟨s % 2, by omega⟩ : Fin 2))).toNat else 0

variable (hA : ∀ i : S34816x2.Idx, (A1 m c i).toNat < 16)
include hA

theorem E_lt (s : ℕ) : E m c s < 16 := by
  unfold E
  split
  · exact hA _
  · decide

omit hA in
theorem f0 (s : Fin 69632) : B0 m c (ix1 s) = BitVec.ofNat 32 (E m c s) := by
  rw [s0]
  refine (cast21 _ _ (⟨(s : ℕ) / 2, by omega⟩ : Fin 34816) (⟨(s : ℕ) % 2, by omega⟩ : Fin 2) s (by show (s : ℕ) = s / 2 * 2 + s % 2; omega)).trans ?_
  unfold E
  rw [dif_pos s.isLt, BitVec.ofNat_toNat, BitVec.setWidth_eq]

theorem f8 (s : Fin 69632) (j : Fin 16) : B8 m c (ix2 s j) = BitVec.ofNat 32 (if E m c s = j then 1 else 0) := by
  have h := E_lt m c hA s
  rw [s8]
  show (cmpi .eq _ _ (ix2 s j)).setWidth 32 = _
  rw [cmpi_at, bcRows, bcCols, f0, iota1_ap, cmpi_eq_ofNat (w := 32) (by omega) (by omega), setWidth_ofBool]

theorem f9 (s : Fin 69632) (j : Fin 16) : B9 m c (ix2 s j) = BitVec.ofNat 32 (cnt (E m c) j (s + 1)) := by
  rw [s9, ← sum_ind]
  exact cumsum_rows (Rm1 := 69631) rfl _ (fun i c' => if E m c i = c' then 1 else 0) (f8 m c hA) _ (bc0 _ _ _) _ _ s j

theorem f11 (j : Fin 16) : B11 m c (ix1 j) = BitVec.ofNat 32 (cnt (E m c) j NS) := by
  rw [s11]
  refine (cast21 _ _ (0 : Fin 1) j j (by simp)).trans ?_
  refine Eq.trans ?_ (f9 m c hA ⟨69631, by decide⟩ j)
  unfold extractStridedSlice
  refine congrArg (B9 m c) (funext fun a => Fin.ext ?_)
  match a with
  | ⟨0, _⟩ => rfl
  | ⟨1, _⟩ => exact Nat.zero_add _

theorem f13 (s : Fin 69632) : B13 m c (ix2 s (0 : Fin 1)) = BitVec.ofNat 32 (cnt (E m c) (E m c s) (s + 1)) := by
  have h := E_lt m c hA s
  rw [s13]
  refine (take_along (r := 15) _ _ rfl (B9 m c) _ _ _ _ _ _ _ s h rfl (by decide) ?_ (fun i => bc0 _ _ _) (fun i => rfl) (fun i => rfl)).trans (f9 m c hA s ⟨_, h⟩)
  refine (shapeCast_apply _ _ (ix3 s (0 : Fin 1) (0 : Fin 1)) (ix2 s (0 : Fin 1)) ?_).trans ?_
  · rw [Shape.rowMajor_val_two, Shape.rowMajor_val_three]
    show (s : ℕ) * 1 + 0 = ((s : ℕ) * 1 + 0) * 1 + 0
    omega
  · refine wrap_ap _ _ _ _ ?_ (by omega) (bc0 _ _ _)
    rw [s12]
    exact (bcCol _ _ _).trans (f0 m c s)

theorem f16 (s : Fin 69632) : B16 m c (ix1 s) = BitVec.ofNat 32 (cnt (E m c) (E m c s) s) := by
  rw [s16, subi_ap, bc0, constantI_at]
  rw [show shapeCast S69632 (B13 m c) shapeCasts_S69632x1_S69632 (ix1 s) = B13 m c (ix2 s (0 : Fin 1)) from cast21 _ _ s (0 : Fin 1) s (by simp), f13 m c hA, cnt_self]
  exact ofNat32_sub (by omega)

theorem f23 (j : Fin 16) : B23 m c (ix1 j) = BitVec.ofNat 32 (padd (E m c) j) := by
  have h1 := cnt_le (E m c) j NS
  have h2 : cnt (E m c) j NS ≤ 69632 := h1
  have h20 : B20 m c (ix1 j) = BitVec.ofNat 32 (cnt (E m c) j NS + 511) := by
    rw [s20, subi_ap, addi_ap, bc0, bc0, constantI_at, constantI_at, f11 m c hA, BitVec.ofNat_add_ofNat]
    exact ofNat32_sub (by omega)
  rw [s23, muli_ap, bc0, constantI_at, s21]
  rw [show Routing.pyDiv bcast_S_S16 (B20 m c) (constantI S_ 32 512#32) (ix1 j) = _ from pyDiv_ap _ _ _ _ h20 rfl (by omega) (by decide) (by decide)]
  exact BitVec.ofNat_mul_ofNat _ _

theorem f24 (j : Fin 16) : B24 m c (ix1 j) = BitVec.ofNat 32 (segS (E m c) (j + 1)) := by
  rw [s24]
  exact cumsum1 (Nm1 := 15) rfl _ (padd (E m c)) (f23 m c hA) _ (bc0 _ _ _) _ _ j

theorem f25 (j : Fin 16) : B25 m c (ix1 j) = BitVec.ofNat 32 (segS (E m c) j) := by
  rw [s25, subi_ap, f24 m c hA, f23 m c hA, segS_succ, ofNat32_sub (by omega), Nat.add_sub_cancel]

theorem f27 (j : Fin 16) : B27 m c (ix1 j) = BitVec.ofNat 32 (srcS (E m c) j) := by
  have h : B26 m c (ix1 j) = BitVec.ofNat 32 (srcS (E m c) (j + 1)) := by
    rw [s26]
    exact cumsum1 (Nm1 := 15) rfl _ (fun i => cnt (E m c) i NS) (f11 m c hA) _ (bc0 _ _ _) _ _ j
  rw [s27, subi_ap, h, f11 m c hA, srcS_succ, ofNat32_sub (by omega), Nat.add_sub_cancel]

/-- The row of a token's choice. -/
theorem f36 (s : Fin 69632) (t : Fin 34816) (k : Fin 2) (hs : (s : ℕ) = t * 2 + k) : B36 m c (ix2 t k) = BitVec.ofNat 32 (row (E m c) s) := by
  have h := E_lt m c hA s
  rw [s36]
  refine (cast12 _ _ t k s hs).trans ?_
  rw [addi_ap, f16 m c hA]
  rw [show Host.gather gather_S16_S69632x1_S69632_n_0_n_n_0_1_1 (B25 m c) _ (ix1 s) = _ from
    take_wrap _ rfl rfl rfl rfl (B25 m c) _ (B0 m c) _ _ s h (by decide) (f0 m c s) (bc0 _ _ _), f25 m c hA]
  exact BitVec.ofNat_add_ofNat _ _

/-! ## At the row of a slot -/

omit hA in
theorem f39 (q : Fin 152) : B39 m c (ix1 q) = BitVec.ofNat 32 (512 * q) := by
  rw [s39, muli_ap, bc0, constantI_at, iota1_ap, Nat.mul_comm]
  exact BitVec.ofNat_mul_ofNat _ _

theorem last_seg {s : Shape} (hb : shape0.BroadcastsInDim s (![] : Fin 0 → Fin s.rank)) (i : s.Idx) :
    broadcastInDim s ![] hb (shapeCast S_ (extractStridedSlice S1 ![15] (B24 m c) slices_S16_S1_15) shapeCasts_S1_S_) i = BitVec.ofNat 32 (segS (E m c) 16) := by
  rw [bc0]
  refine (shapeCast_apply _ _ ValueIdx.ix0 (ix1 (0 : Fin 1)) ?_).trans ((slice1 15 _ _ (0 : Fin 1) (by decide)).trans (f24 m c hA _))
  rfl

variable (s : Fin 69632)

/-- The slot's row, and its tile. -/
abbrev rw_ : Fin 77824 := ⟨row (E m c) s, row_lt (E m c) s.isLt (E_lt m c hA s)⟩
abbrev tl_ : Fin 152 := ⟨row (E m c) s / 512, by have := row_lt (E m c) s.isLt (E_lt m c hA s); omega⟩

theorem f48 : B48 m c (ix1 (tl_ m c hA s)) = BitVec.ofNat 32 (E m c s) := by
  have h := E_lt m c hA s
  have hr := row_lt (E m c) s.isLt h
  rw [s48]
  have e := reduce_count (by decide) (cmpi .sle (broadcastInDim S152x16 ![0, 1] bcast_S1x16_S152x16_0_1 (broadcastInDim S1x16 ![1] bcast_S16_S1x16_1 (B24 m c)))
    (broadcastInDim S152x16 ![0, 1] bcast_S152x1_S152x16_0_1 (broadcastInDim S152x1 ![0] bcast_S152_S152x1_0 (B39 m c)))) natLt_1_32 reducesTo_S152x16_S152_d1 h_S_
    (tl_ m c hA s) (fun j => segS (E m c) (j + 1) ≤ 512 * (row (E m c) s / 512)) (fun j => by
      have := segS_total (E m c) (show (j : ℕ) + 1 ≤ 16 by omega)
      rw [cmpi_at, bcRows, bcCols, f24 m c hA, f39, cmpi_sle_ofNat (w := 32) (by omega) (by show 512 * (row (E m c) s / 512) < _; omega), ofBool_decide_eq_one_iff])
  rw [tile_row (E m c) s.isLt h] at e
  refine (congrArg (fun w => IntOp.minsi w 15#32) e).trans ((minsi_word (b := 15) (by omega) (by decide)).trans ?_)
  rw [Nat.min_eq_left (by omega)]

theorem f53 : B53 m c (ix1 (tl_ m c hA s)) = 1#32 := by
  have h := E_lt m c hA s
  have hr := row_lt (E m c) s.isLt h
  have hv := tile_row_valid (E m c) s.isLt h
  have := segS_total (E m c) (le_refl 16)
  rw [s53]
  show (cmpi .slt _ _ (ix1 (tl_ m c hA s))).setWidth 32 = _
  rw [cmpi_at, last_seg m c hA, f39, cmpi_slt_ofNat (w := 32) (by show 512 * (row (E m c) s / 512) < _; omega) (by omega), setWidth_ofBool, if_pos hv]

theorem f62 : B62 m c (ix1 (rw_ m c hA s)) = BitVec.ofNat 32 (E m c s) := by
  have hr := row_lt (E m c) s.isLt (E_lt m c hA s)
  rw [s62]
  refine (take_wrap _ rfl rfl rfl rfl (B48 m c) _ (B55 m c) _ _ (rw_ m c hA s) (tl_ m c hA s).isLt (by decide) ?_ (bc0 _ _ _)).trans (f48 m c hA s)
  rw [s55]
  exact pyDiv_ap _ _ _ _ (iota1_ap _) rfl (by show row (E m c) s < _; omega) (by decide) (by decide)

/-- A table of the experts, read at the row's. -/
theorem take62 (x : IVec S16 32) (f : ℕ → ℕ) (hx : ∀ j : Fin 16, x (ix1 j) = BitVec.ofNat 32 (f j)) :
    Host.gather gather_S16_S77824x1_S77824_n_0_n_n_0_1_1 x (broadcastInDim S77824x1 ![0] bcast_S77824_S77824x1_0
      (select (cmpi .slt (B62 m c) (broadcastInDim S77824 ![] bcast_S_S77824 (constantI S_ 32 0#32)))
        (addi (B62 m c) (broadcastInDim S77824 ![] bcast_S_S77824 (constantI S_ 32 16#32))) (B62 m c))) (ix1 (rw_ m c hA s)) = BitVec.ofNat 32 (f (E m c s)) :=
  (take_wrap _ rfl rfl rfl rfl x _ (B62 m c) _ _ (rw_ m c hA s) (E_lt m c hA s) (by decide) (f62 m c hA s) (bc0 _ _ _)).trans (hx _)

theorem f70 : B70 m c (ix1 (rw_ m c hA s)) = BitVec.ofNat 32 (cnt (E m c) (E m c s) s) := by
  have hr := row_lt (E m c) s.isLt (E_lt m c hA s)
  rw [s70, subi_ap, take62 m c hA s _ (segS (E m c)) (f25 m c hA), iota1_ap]
  show BitVec.ofNat 32 (row (E m c) s) - _ = _
  unfold row
  rw [ofNat32_sub (by omega), Nat.add_sub_cancel_left]

theorem f83 : B83 m c (ix1 (rw_ m c hA s)) = 1#1 := by
  have h := E_lt m c hA s
  have hr := row_lt (E m c) s.isLt h
  have hl := row_lt_all (E m c) s.isLt h
  have := segS_total (E m c) (le_refl 16)
  have h1 : cnt (E m c) (E m c s) s < cnt (E m c) (E m c s) NS := cnt_lt (E m c) s.isLt
  have h2 : cnt (E m c) (E m c s) NS ≤ 69632 := cnt_le _ _ _
  rw [s83, andi_at, cmpi_at, cmpi_at, f70 m c hA, take62 m c hA s _ (fun j => cnt (E m c) j NS) (f11 m c hA), last_seg m c hA, iota1_ap,
    cmpi_slt_ofNat (w := 32) (by omega) (by omega), cmpi_slt_ofNat (w := 32) (by show row (E m c) s < _; omega) (by omega), decide_eq_true h1, decide_eq_true hl]
  rfl

theorem f92 : B92 m c (ix1 (rw_ m c hA s)) = BitVec.ofNat 32 (pos (E m c) s) := by
  have hp : pos (E m c) s < 69632 := pos_lt (E m c) s.isLt
  have h91 : B91 m c (ix1 (rw_ m c hA s)) = BitVec.ofNat 32 (pos (E m c) s) := by
    rw [s91, addi_ap, take62 m c hA s _ (srcS (E m c)) (f27 m c hA), f70 m c hA]
    exact BitVec.ofNat_add_ofNat _ _
  rw [s92]
  show IntOp.minsi (BitVec.ofNat 32 69631) (IntOp.maxsi (BitVec.ofNat 32 0) (B91 m c (ix1 (rw_ m c hA s)))) = _
  rw [h91, clip_word (by omega) (by decide) (by decide), Nat.max_eq_left (by omega), Nat.min_eq_left (by omega)]

/-- The row's slot. -/
theorem f99 : B99 m c (ix1 (rw_ m c hA s)) = BitVec.ofNat 32 s := by
  rw [s99]
  refine (take_wrap _ rfl rfl rfl rfl (B1 m c) _ (B92 m c) _ _ (rw_ m c hA s) (pos_lt (E m c) s.isLt) (by decide) (f92 m c hA s) (bc0 _ _ _)).trans ?_
  rw [s1]
  exact (sort2_read (E m c) (fun s _ => E_lt m c hA s) comparator_i32_i32_d0 (fun l r => rfl) (B0 m c) (iotaInDim S69632 32 0) (f0 m c) s).trans (iota1_ap s)

theorem f101 : B101 m c (ix1 (rw_ m c hA s)) = BitVec.ofNat 32 (s / 2) := by
  rw [s101, select_at, f83 m c hA, select_of_eq_one rfl, s100]
  exact pyDiv_ap _ _ _ _ (f99 m c hA s) rfl (by omega) (by decide) (by decide)

/-- The row's gate. -/
theorem f113 : B113 m c (ix2 (rw_ m c hA s) (0 : Fin 1)) = A2 m c (ix2 (⟨s / 2, by omega⟩ : Fin 34816) (⟨s % 2, by omega⟩ : Fin 2)) := by
  rw [s113]
  refine (bcCol _ _ _).trans ?_
  rw [s110, select_at, f83 m c hA, select_of_eq_one rfl, s109]
  refine (take_wrap _ rfl rfl rfl rfl _ _ (B99 m c) _ _ (rw_ m c hA s) s.isLt (by decide) (f99 m c hA s) (bc0 _ _ _)).trans ?_
  exact cast21 _ _ (⟨(s : ℕ) / 2, by omega⟩ : Fin 34816) (⟨(s : ℕ) % 2, by omega⟩ : Fin 2) s (by show (s : ℕ) = s / 2 * 2 + s % 2; omega)

/-- The row's activations. -/
theorem f112 (k : Fin 1024) : (B112 m c (ix2 (rw_ m c hA s) k) : EReal) = A0 m c (ix2 (⟨s / 2, by omega⟩ : Fin 34816) k) := by
  rw [s112]
  refine (take_rows (r := 34815) _ rfl rfl rfl rfl rfl (B111 m c) _ _ _ _ _ _ _ _ (rw_ m c hA s) k (show (s : ℕ) / 2 < 34816 by omega) rfl (by decide) ?_
    (fun i => bc0 _ _ _) (fun i => rfl) (fun i => rfl)).trans ?_
  · exact (bcCol _ _ _).trans (wrap_ap _ _ _ _ (f101 m c hA s) (by omega) (bc0 _ _ _))
  · rw [s111]; rfl

omit hA in
/-- A row of the region's result, taken at an index in range. -/
theorem taken_at (ys : FVec Ideal S77824x1024 .f32) (i : IVec S34816 32) (t : Fin 34816) (d : Fin 1024) {r : ℕ} (hr : r < 77824)
    (hi : i (ix1 t) = BitVec.ofNat 32 r) : taken ys i (ix2 t d) = ys (ix2 ⟨r, hr⟩ d) := by
  unfold taken
  refine take_rows (r := 77823) _ rfl rfl rfl rfl rfl ys _ _ _ _ _ _ _ _ t d hr rfl (by decide) ?_ (fun i => bc0 _ _ _) (fun i => rfl) (fun i => rfl)
  exact (bcCol _ _ _).trans (wrap_ap _ _ _ _ hi (by omega) (bc0 _ _ _))

omit hA in
/-- A column of the slots' rows. -/
theorem column_at (o : Fin 2) (x : IVec S34816x2 32) (h : S34816x2.Slices ![0, o.val] S34816x1) (t : Fin 34816) :
    shapeCast S34816 (extractStridedSlice S34816x1 ![0, o.val] x h) shapeCasts_S34816x1_S34816 (ix1 t) = x (ix2 t o) := by
  refine (cast21 _ _ t (0 : Fin 1) t (by simp)).trans ?_
  unfold extractStridedSlice
  refine congrArg x (funext fun a => Fin.ext ?_)
  match a with
  | ⟨0, _⟩ => exact Nat.zero_add _
  | ⟨1, _⟩ => rfl

end Cert.Kernel2Ideal.Moe

end
-- ==== Proof.MoeValue.lean ====
module

public import proofs.«01_k».proof.Proof.MoeCell
public import proofs.«01_k».proof.Proof.MoeRef
public import proofs.«01_k».proof.Proof.MoeFacts
public import Idealize.ShloMosaic.Lib.Claim

/-! The result of the grouped feed-forward and its host code is the reference's. -/

@[expose] public section

set_option maxRecDepth 16384

noncomputable section

namespace Cert.Kernel2Ideal.Moe

open Cert.Kernel2Ideal Cert.Kernel2Ideal.Gen Cert.Kernel2Ideal.Moe.Plan
open Idealize.ShloMosaic Idealize.ShloMosaic.TcCoe Idealize.SL.Sem
open Idealize.ShloMosaic.Pipeline (Dat)

variable (m : (ℓ : Loc nD τ sig) → Buf (Elt Ideal) ℓ) (a : (pcfg0 (F := Ideal)).Adm)

/-! ## What the region's arrays and tables hold -/

theorem v112 (c : Dev nD) : V m c main_v112 = (B112 m c : S77824x1024.Idx → EReal) := by
  rw [V_eq, keep24 m c main_v112 (by decide)]
  rfl
theorem v113 (c : Dev nD) : V m c main_v113 = (B113 m c : S77824x1.Idx → EReal) := by
  rw [V_eq]
  rfl
theorem v114 (c : Dev nD) : V m c main_v114 = (A3 m c : S16x1024x512.Idx → EReal) := by
  rw [V_eq]
  exact s114 m c
theorem v115 (c : Dev nD) : V m c main_v115 = (A4 m c : S16x1024x512.Idx → EReal) := by
  rw [V_eq]
  exact s115 m c
theorem v116 (c : Dev nD) : V m c main_v116 = (A5 m c : S16x512x1024.Idx → EReal) := by
  rw [V_eq]
  exact s116 m c
theorem v48 (c : Dev nD) : V m c main_v48 = (B48 m c : IVec S152 32) := by
  rw [V_eq, keep24 m c main_v48 (by decide), keep23 m c main_v48 (by decide), keep22 m c main_v48 (by decide), keep21 m c main_v48 (by decide), keep20 m c main_v48 (by decide), keep19 m c main_v48 (by decide), keep18 m c main_v48 (by decide), keep17 m c main_v48 (by decide), keep16 m c main_v48 (by decide), keep15 m c main_v48 (by decide), keep14 m c main_v48 (by decide), keep13 m c main_v48 (by decide)]
  rfl
theorem v53 (c : Dev nD) : V m c main_v53 = (B53 m c : IVec S152 32) := by
  rw [V_eq, keep24 m c main_v53 (by decide), keep23 m c main_v53 (by decide), keep22 m c main_v53 (by decide), keep21 m c main_v53 (by decide), keep20 m c main_v53 (by decide), keep19 m c main_v53 (by decide), keep18 m c main_v53 (by decide), keep17 m c main_v53 (by decide), keep16 m c main_v53 (by decide), keep15 m c main_v53 (by decide), keep14 m c main_v53 (by decide), keep13 m c main_v53 (by decide)]
  rfl
theorem v36 (c : Dev nD) : V m c main_v36 = (B36 m c : IVec S34816x2 32) := by
  rw [V_eq, keep24 m c main_v36 (by decide), keep23 m c main_v36 (by decide), keep22 m c main_v36 (by decide), keep21 m c main_v36 (by decide), keep20 m c main_v36 (by decide), keep19 m c main_v36 (by decide), keep18 m c main_v36 (by decide), keep17 m c main_v36 (by decide), keep16 m c main_v36 (by decide), keep15 m c main_v36 (by decide), keep14 m c main_v36 (by decide), keep13 m c main_v36 (by decide)]
  rfl

/-! ## The blocks of a point -/

theorem lt152 (t : Fin (cfgA a).N) : (t : ℕ) < 152 := t.isLt

/-- The tile of a point, as an index of the two tables. -/
abbrev tl (t : Fin (cfgA a).N) : S152.Idx := ix1 ⟨t, lt152 a t⟩

theorem flat : ∀ t : Fin grid0.N, cc0_transform_0 (grid0.coords t) = ![t.val, 0] ∧ cc0_transform_1 (grid0.coords t) = ![t.val, 0]
    ∧ cc0_transform_5 (grid0.coords t) = ![t.val, 0] ∧ k0_off1 (grid0.coords t) = ![t.val] := by decide +kernel

theorem word_at (t : Fin (cfgA a).N) : word1 (crd a t) (tV a) = tV a (tl a t) := by
  refine congrArg (tV a) ?_
  funext x; apply Fin.ext; fin_cases x
  show k0_off1 (grid0.coords t) 0 + 1 * 0 = (t : ℕ)
  rw [(flat t).2.2.2]; rfl

theorem expert_at (t : Fin (cfgA a).N) : cc0_transform_2 k0_off1_inb numel1_S1 a.1 (crd a t) = ![(tE a (tl a t)).toNat, 0, 0]
    ∧ cc0_transform_3 k0_off1_inb numel1_S1 a.1 (crd a t) = ![(tE a (tl a t)).toNat, 0, 0]
    ∧ cc0_transform_4 k0_off1_inb numel1_S1 a.1 (crd a t) = ![(tE a (tl a t)).toNat, 0, 0] := by
  have e : word1 (crd a t) (tE a) = tE a (tl a t) := by
    refine congrArg (tE a) ?_
    funext x; apply Fin.ext; fin_cases x
    show k0_off1 (grid0.coords t) 0 + 1 * 0 = (t : ℕ)
    rw [(flat t).2.2.2]; rfl
  rw [← e]
  exact ⟨rfl, rfl, rfl⟩

theorem idx0 (t : Fin (cfgA a).N) : ((cfgA a).win (0 : Fin 6)).index t = ![t.val, 0] := (flat t).1
theorem idx1 (t : Fin (cfgA a).N) : ((cfgA a).win (1 : Fin 6)).index t = ![t.val, 0] := (flat t).2.1
theorem idx2 (t : Fin (cfgA a).N) : ((cfgA a).win (2 : Fin 6)).index t = ![(tE a (tl a t)).toNat, 0, 0] := (expert_at a t).1
theorem idx3 (t : Fin (cfgA a).N) : ((cfgA a).win (3 : Fin 6)).index t = ![(tE a (tl a t)).toNat, 0, 0] := (expert_at a t).2.1
theorem idx4 (t : Fin (cfgA a).N) : ((cfgA a).win (4 : Fin 6)).index t = ![(tE a (tl a t)).toNat, 0, 0] := (expert_at a t).2.2
theorem idx5 (t : Fin (cfgA a).N) : ((cfgA a).win (5 : Fin 6)).index t = ![t.val, 0] := (flat t).2.2.1

theorem x_blk (c : Dev nD) (t : Fin (cfgA a).N) (r : Fin 512) (k : Fin 1024) : iblk m a c (0 : Fin 6) t (ix2 r k)
    = (B112 m c : S77824x1024.Idx → EReal) (ix2 ⟨512 * t + r, by have := lt152 a t; omega⟩ k) := by
  have := lt152 a t
  blk_simp [iblk]
  rw [v112]
  generalize (B112 m c : S77824x1024.Idx → EReal) = X
  blk_ext [idx0 a t]

theorem w_blk (c : Dev nD) (t : Fin (cfgA a).N) (he : (tE a (tl a t)).toNat < 16) (k : Fin 1024) (f : Fin 512) : iblk m a c (2 : Fin 6) t (ix3 0 k f)
    = (A3 m c : S16x1024x512.Idx → EReal) (ix3 ⟨(tE a (tl a t)).toNat, he⟩ k f) := by
  blk_simp [iblk]
  rw [v114]
  generalize (A3 m c : S16x1024x512.Idx → EReal) = X
  blk_ext [idx2 a t]

theorem covers5 : ((cfgA a).win (5 : Fin 6)).Covers := by
  have h0 : ∀ t : Fin grid0.N, ((cfgA a).win (5 : Fin 6)).flush t = true := fun t => by
    rw [Pipeline.Window.flush_eq_flushOf]
    exact (by decide +kernel : ∀ t : Fin grid0.N, Pipeline.Window.flushOf grid0 true cc0_transform_5 t = true) t
  refine ⟨show ∀ x, 0 < S512x1024.size x by decide, fun β => ?_⟩
  have hβ : (β (0 : Fin 2) : ℕ) < 152 := Nat.lt_of_lt_of_eq (β (0 : Fin 2)).isLt (show (77824 + 512 - 1) / 512 = 152 by norm_num)
  have hβ1 : (β (1 : Fin 2) : ℕ) < 1 := Nat.lt_of_lt_of_eq (β (1 : Fin 2)).isLt (show (1024 + 1024 - 1) / 1024 = 1 by norm_num)
  refine ⟨⟨(β (0 : Fin 2) : ℕ), hβ⟩, h0 _, fun x => ⟨?_, Or.inl rfl⟩⟩
  rw [idx5]
  revert x
  show ∀ x : Fin 2, _
  intro x
  fin_cases x
  · rfl
  · show (0 : ℕ) = β (1 : Fin 2); omega

theorem g_read (X : S77824x1.Idx → EReal) (t : Fin (cfgA a).N) (r : Fin 512) :
    (((cfgA a).win (1 : Fin 6)).blk t).view.read (Elt Ideal) X (ix2 r 0) = X (ix2 ⟨512 * t + r, by have := lt152 a t; omega⟩ (0 : Fin 1)) := by
  have := lt152 a t
  blk_simp
  blk_ext [idx1 a t]

theorem g_blk (c : Dev nD) (t : Fin (cfgA a).N) (r : Fin 512) : iblk m a c (1 : Fin 6) t (ix2 r 0)
    = (B113 m c : S77824x1.Idx → EReal) (ix2 ⟨512 * t + r, by have := lt152 a t; omega⟩ (0 : Fin 1)) := by
  have h : V m c (Pipeline.arrRef spec0 (1 : Fin 6)) = (B113 m c : S77824x1.Idx → EReal) := v113 m c
  unfold iblk
  rw [h]
  exact g_read a _ t r

theorem u_blk (c : Dev nD) (t : Fin (cfgA a).N) (he : (tE a (tl a t)).toNat < 16) (k : Fin 1024) (f : Fin 512) : iblk m a c (3 : Fin 6) t (ix3 0 k f)
    = (A4 m c : S16x1024x512.Idx → EReal) (ix3 ⟨(tE a (tl a t)).toNat, he⟩ k f) := by
  blk_simp [iblk]
  rw [v115]
  generalize (A4 m c : S16x1024x512.Idx → EReal) = X
  blk_ext [idx3 a t]

theorem d_blk (c : Dev nD) (t : Fin (cfgA a).N) (he : (tE a (tl a t)).toNat < 16) (f : Fin 512) (d : Fin 1024) : iblk m a c (4 : Fin 6) t (ix3 0 f d)
    = (A5 m c : S16x512x1024.Idx → EReal) (ix3 ⟨(tE a (tl a t)).toNat, he⟩ f d) := by
  blk_simp [iblk]
  rw [v116]
  generalize (A5 m c : S16x512x1024.Idx → EReal) = X
  blk_ext [idx4 a t]

/-! ## The whole array, and one row of it -/

/-- The region's result: each entry as its tile's body leaves it. -/
def target (c : Dev nD) : S77824x1024.Idx → EReal := fun i =>
  outAt m a c ⟨(i 0 : ℕ) / 512, by have : (i 0 : ℕ) < 77824 := (i 0).isLt; show _ < 152; omega⟩ (ix2 (⟨(i 0 : ℕ) % 512, by omega⟩ : Fin 512) (i 1 : Fin 1024))

theorem target_at (c : Dev nD) (t : Fin (cfgA a).N) (r : Fin 512) (d : Fin 1024) :
    target m a c (ix2 ⟨512 * t + r, by have := lt152 a t; omega⟩ d) = outAt m a c t (ix2 r d) := by
  have hlt := lt152 a t
  unfold target
  have h1 : (⟨(512 * (t : ℕ) + r) / 512, by show _ < 152; omega⟩ : Fin (cfgA a).N) = t := Fin.ext (by show (512 * (t : ℕ) + r) / 512 = t; omega)
  have h2 : (⟨(512 * (t : ℕ) + r) % 512, by omega⟩ : Fin 512) = r := Fin.ext (by show (512 * (t : ℕ) + r) % 512 = r; omega)
  exact congrArg₂ (fun u v => outAt m a c u (ix2 v d)) h1 h2

theorem final (c : Dev nD) : (dats m a 0 c).arrAt (5 : Fin 6) (cfgA a).N = target m a c := by
  refine (dats m a 0 c).arrAt_eq_of_covers (5 : Fin 6) _ (covers5 a) (fun t hf y => ?_) (Memref.isWhole_whole _)
  have hlt := lt152 a t
  rw [after5]
  have e : ∀ r d, outAt m a c t (ix2 r d) = target m a c ((((cfgA a).win (5 : Fin 6)).blk t).view.emb (ix2 r d)) := fun r d => by
    refine (target_at m a c t r d).symm.trans ?_
    generalize target m a c = G
    blk_ext [idx5 a t]
  blk_simp
  rw [show y = ix2 (y 0) (y 1) from funext fun a => by fin_cases a <;> rfl]
  exact e _ _

variable (c : Dev nD) (hA : ∀ i : S34816x2.Idx, (A1 m c i).toNat < 16) (hE : tE a = B48 m c) (hV : tV a = B53 m c)
include hA hE hV

/-- The expert of a slot. -/
abbrev ex (s : Fin 69632) : Fin 16 := ⟨E m c s, E_lt m c hA s⟩

/-- A slot's row: its weight times its expert's output at its token. -/
theorem row_at (s : Fin 69632) (d : Fin 1024) : target m a c (ix2 (rw_ m c hA s) d)
    = (A2 m c (ix2 (⟨s / 2, by omega⟩ : Fin 34816) (⟨s % 2, by omega⟩ : Fin 2)) : EReal)
      * Reference2Ideal.Moe.out (A0 m c) (A3 m c) (A4 m c) (A5 m c) ⟨s / 2, by omega⟩ (ex m c hA s) d := by
  have hrow := row_lt (E m c) s.isLt (E_lt m c hA s)
  obtain ⟨t, ht⟩ : ∃ t : Fin (cfgA a).N, (t : ℕ) = row (E m c) s / 512 := ⟨⟨row (E m c) s / 512, by show _ < 152; omega⟩, rfl⟩
  have hlt := lt152 a t
  have hp : rw_ m c hA s = ⟨512 * t + (⟨row (E m c) s % 512, by omega⟩ : Fin 512), by show 512 * (t : ℕ) + row (E m c) s % 512 < _; omega⟩ :=
    Fin.ext (by show row (E m c) s = 512 * (t : ℕ) + row (E m c) s % 512; omega)
  have htl : tl a t = ix1 (tl_ m c hA s) := congrArg ix1 (Fin.ext ht)
  have hv : tV a (tl a t) = 1#32 := by rw [hV, htl]; exact f53 m c hA s
  have hw : tE a (tl a t) = BitVec.ofNat 32 (E m c s) := by rw [hE, htl]; exact f48 m c hA s
  have hn : (tE a (tl a t)).toNat = E m c s := by
    have := E_lt m c hA s
    rw [hw, BitVec.toNat_ofNat]; omega
  have he : (tE a (tl a t)).toNat < 16 := by rw [hn]; exact E_lt m c hA s
  have hex : (⟨(tE a (tl a t)).toNat, he⟩ : Fin 16) = ex m c hA s := Fin.ext hn
  have h : k0_cond1 (word1 (crd a t) (tV a)) = 1#1 := (cond1_iff _).2 (by rw [word_at, hv]; decide)
  have hx : ∀ k, iblk m a c (0 : Fin 6) t (ix2 (⟨row (E m c) s % 512, by omega⟩ : Fin 512) k) = (A0 m c (ix2 (⟨s / 2, by omega⟩ : Fin 34816) k) : EReal) := fun k =>
    (x_blk m a c t _ k).trans ((congrArg (fun p => (B112 m c (ix2 p k) : EReal)) hp.symm).trans (f112 m c hA s k))
  have hg : iblk m a c (1 : Fin 6) t (ix2 (⟨row (E m c) s % 512, by omega⟩ : Fin 512) 0) = (A2 m c (ix2 (⟨s / 2, by omega⟩ : Fin 34816) (⟨s % 2, by omega⟩ : Fin 2)) : EReal) :=
    (g_blk m a c t _).trans ((congrArg (fun p => (B113 m c (ix2 p (0 : Fin 1)) : EReal)) hp.symm).trans (f113 m c hA s))
  rw [hp, target_at]
  unfold outAt
  rw [dif_pos h, outA_eq, pay1_at]
  have eg : ∀ f, pj (iblk m a c (0 : Fin 6) t) (iblk m a c (2 : Fin 6) t) (⟨row (E m c) s % 512, by omega⟩ : Fin 512) f
      = Reference2Ideal.Moe.proj (A0 m c) (A3 m c) (ix3 ⟨s / 2, by omega⟩ (ex m c hA s) f) := fun f => by
    rw [Reference2Ideal.Moe.proj_at, pj]
    exact Finset.sum_congr rfl fun k _ => by rw [hx, w_blk m a c t he, hex]
  have eu : ∀ f, pj (iblk m a c (0 : Fin 6) t) (iblk m a c (3 : Fin 6) t) (⟨row (E m c) s % 512, by omega⟩ : Fin 512) f
      = Reference2Ideal.Moe.proj (A0 m c) (A4 m c) (ix3 ⟨s / 2, by omega⟩ (ex m c hA s) f) := fun f => by
    rw [Reference2Ideal.Moe.proj_at, pj]
    exact Finset.sum_congr rfl fun k _ => by rw [hx, u_blk m a c t he, hex]
  refine (mul_comm _ _).trans (congrArg₂ (fun x y : EReal => x * y) hg (Finset.sum_congr rfl fun f _ => ?_))
  refine (mul_comm _ _).trans (congrArg₂ (fun x y : EReal => x * y) ((d_blk m a c t he f d).trans (by rw [hex])) ?_)
  rw [Reference2Ideal.Moe.act_at, eg, eu]
  rfl

/-! ## The result -/

theorem result_eq (hne : ∀ t : Fin 34816, A1 m c (ix2 t 0) ≠ A1 m c (ix2 t 1)) :
    (StableHlo.after opsAfter.flatten (exitV m a c) (Proc.devRef .tc main_v124) : S34816x1024.Idx → EReal)
      = Reference2Ideal.Moe.ffn (A0 m c) (A1 m c) (A2 m c) (A3 m c) (A4 m c) (A5 m c) := by
  have e117 : (exitV m a c (Proc.devRef .tc main_v117) : S77824x1024.Idx → EReal) = target m a c :=
    (Pipeline.withArrays_arr spec0 winFacts0.arr_inj c _ _ (5 : Fin 6)).trans (final m a c)
  have e36 : (exitV m a c (Proc.devRef .tc main_v36) : IVec S34816x2 32) = B36 m c :=
    (Pipeline.withArrays_of_ne spec0 c _ _ main_v36 (by decide)).trans ((V_eq m c main_v36).symm.trans (v36 m c))
  suffices key : ∀ (t : Fin 34816) (d : Fin 1024),
      (StableHlo.after opsAfter.flatten (exitV m a c) (Proc.devRef .tc main_v124) : S34816x1024.Idx → EReal) (ix2 t d)
        = Reference2Ideal.Moe.ffn (A0 m c) (A1 m c) (A2 m c) (A3 m c) (A4 m c) (A5 m c) (ix2 t d) by
    funext i
    rw [show i = ix2 (i 0 : Fin 34816) (i 1 : Fin 1024) from funext fun a => by fin_cases a <;> rfl]
    exact key _ _
  intro t d
  refine (congrFun (t124 (exitV m a c)) (ix2 t d)).trans ?_
  rw [e117, e36]
  have hs0 : 2 * (t : ℕ) < 69632 := by omega
  have hs1 : 2 * (t : ℕ) + 1 < 69632 := by omega
  have k0 := (column_at (0 : Fin 2) (B36 m c) slices_S34816x2_S34816x1_0_0 t).trans (f36 m c hA ⟨2 * t, hs0⟩ t 0 (by show 2 * (t : ℕ) = t * 2 + 0; omega))
  have k1 := (column_at (1 : Fin 2) (B36 m c) slices_S34816x2_S34816x1_0_1 t).trans (f36 m c hA ⟨2 * t + 1, hs1⟩ t 1 (by show 2 * (t : ℕ) + 1 = t * 2 + 1; omega))
  have r0 := (taken_at (target m a c) _ t d (rw_ m c hA ⟨2 * t, hs0⟩).isLt k0).trans (row_at m a c hA hE hV ⟨2 * t, hs0⟩ d)
  have r1 := (taken_at (target m a c) _ t d (rw_ m c hA ⟨2 * t + 1, hs1⟩).isLt k1).trans (row_at m a c hA hE hV ⟨2 * t + 1, hs1⟩ d)
  have t0 : (⟨2 * (t : ℕ) / 2, by omega⟩ : Fin 34816) = t := Fin.ext (by show 2 * (t : ℕ) / 2 = t; omega)
  have t1 : (⟨(2 * (t : ℕ) + 1) / 2, by omega⟩ : Fin 34816) = t := Fin.ext (by show (2 * (t : ℕ) + 1) / 2 = t; omega)
  have c0 : (⟨2 * (t : ℕ) % 2, by omega⟩ : Fin 2) = 0 := Fin.ext (by show 2 * (t : ℕ) % 2 = 0; omega)
  have c1 : (⟨(2 * (t : ℕ) + 1) % 2, by omega⟩ : Fin 2) = 1 := Fin.ext (by show (2 * (t : ℕ) + 1) % 2 = 1; omega)
  have w0 : A1 m c (ix2 t 0) = BitVec.ofNat 32 (ex m c hA ⟨2 * t, hs0⟩ : ℕ) := by
    show _ = BitVec.ofNat 32 (E m c (2 * t))
    unfold E
    rw [dif_pos hs0, BitVec.ofNat_toNat, BitVec.setWidth_eq, t0, c0]
    rfl
  have w1 : A1 m c (ix2 t 1) = BitVec.ofNat 32 (ex m c hA ⟨2 * t + 1, hs1⟩ : ℕ) := by
    show _ = BitVec.ofNat 32 (E m c (2 * t + 1))
    unfold E
    rw [dif_pos hs1, BitVec.ofNat_toNat, BitVec.setWidth_eq, t1, c1]
    rfl
  refine Eq.trans ?_ (Reference2Ideal.Moe.ffn_at _ _ _ _ _ _ t d _ _ w0 w1 fun h => hne t (w0.trans ((congrArg (fun e : Fin 16 => BitVec.ofNat 32 (e : ℕ)) h).trans w1.symm))).symm
  refine congrArg₂ (fun x y : EReal => x + y) (r0.trans ?_) (r1.trans ?_)
  · rw [t0, c0]
  · rw [t1, c1]

end Cert.Kernel2Ideal.Moe

end
-- ==== Proof.MoeText.lean ====
/- The grouped feed-forward call has one text: with machine words for floats the kernel is the ideal kernel's program, so that
   what is proved of the one at any float values holds of the other. -/
module

public import proofs.«01_k».proof.Kernel2
public import proofs.«01_k».proof.Kernel2Ideal
public import proofs.«01_k».proof.Defs

@[expose] public section

set_option maxRecDepth 16384

namespace Cert.Proof.Moe

open Idealize.ShloMosaic

variable [Cert.Kernel2.Facts] [Cert.Kernel2Ideal.Facts]

set_option maxHeartbeats 1000000 in
theorem body_eq : @Cert.Kernel2.cc0_moe_grouped Bits _ _ = @Cert.Kernel2Ideal.cc0_moe_grouped Bits _ _ := by
  with_unfolding_all rfl

theorem bodies_eq : @Cert.Kernel2.defs₀ Bits _ _ = @Cert.Kernel2Ideal.defs₀ Bits _ _ := by
  unfold Cert.Kernel2.defs₀ Cert.Kernel2Ideal.defs₀
  congr 1
  funext l x
  match l, x with
  | 0, (t, s) =>
    dsimp only
    rw [body_eq]
    rfl

/-- The two body tables are one. -/
theorem defs_eq : @Cert.Kernel2.defs Bits _ _ = @Cert.Kernel2Ideal.defs Bits _ _ := by
  unfold Cert.Kernel2.defs Cert.Kernel2Ideal.defs
  rw [bodies_eq]
  rfl

set_option maxHeartbeats 1000000 in
theorem call0_eq : @Cert.Kernel2.fn_argsort.body Bits _ _ (.of Cert.Kernel2.main_v0) Cert.Kernel2.main_call0
    = @Cert.Kernel2Ideal.fn_argsort.body Bits _ _ (.of Cert.Kernel2Ideal.main_v0) Cert.Kernel2Ideal.main_call0 := by
  unfold Cert.Kernel2.fn_argsort.body Cert.Kernel2Ideal.fn_argsort.body
  rfl

set_option maxHeartbeats 1000000 in
theorem call1_eq : @Cert.Kernel2.fn_cumsum.body Bits _ _ (.of Cert.Kernel2.main_v8) Cert.Kernel2.main_call1
    = @Cert.Kernel2Ideal.fn_cumsum.body Bits _ _ (.of Cert.Kernel2Ideal.main_v8) Cert.Kernel2Ideal.main_call1 := by
  unfold Cert.Kernel2.fn_cumsum.body Cert.Kernel2Ideal.fn_cumsum.body
  rfl

set_option maxHeartbeats 1000000 in
theorem call2_eq : @Cert.Kernel2.fn_take_along_axis.body Bits _ _ (.of Cert.Kernel2.main_v9) (.of Cert.Kernel2.main_v12) Cert.Kernel2.main_call2
    = @Cert.Kernel2Ideal.fn_take_along_axis.body Bits _ _ (.of Cert.Kernel2Ideal.main_v9) (.of Cert.Kernel2Ideal.main_v12) Cert.Kernel2Ideal.main_call2 := by
  unfold Cert.Kernel2.fn_take_along_axis.body Cert.Kernel2Ideal.fn_take_along_axis.body
  rfl

set_option maxHeartbeats 1000000 in
theorem call3_eq : @Cert.Kernel2.fn_floor_divide.body Bits _ _ (.of Cert.Kernel2.main_v20) (.of Cert.Kernel2.main_c_2) Cert.Kernel2.main_call3
    = @Cert.Kernel2Ideal.fn_floor_divide.body Bits _ _ (.of Cert.Kernel2Ideal.main_v20) (.of Cert.Kernel2Ideal.main_c_2) Cert.Kernel2Ideal.main_call3 := by
  unfold Cert.Kernel2.fn_floor_divide.body Cert.Kernel2Ideal.fn_floor_divide.body
  rfl

set_option maxHeartbeats 1000000 in
theorem call4_eq : @Cert.Kernel2.fn_cumsum_1.body Bits _ _ (.of Cert.Kernel2.main_v23) Cert.Kernel2.main_call4
    = @Cert.Kernel2Ideal.fn_cumsum_1.body Bits _ _ (.of Cert.Kernel2Ideal.main_v23) Cert.Kernel2Ideal.main_call4 := by
  unfold Cert.Kernel2.fn_cumsum_1.body Cert.Kernel2Ideal.fn_cumsum_1.body
  rfl

set_option maxHeartbeats 1000000 in
theorem call5_eq : @Cert.Kernel2.fn_cumsum_1.body Bits _ _ (.of Cert.Kernel2.main_v11) Cert.Kernel2.main_call5
    = @Cert.Kernel2Ideal.fn_cumsum_1.body Bits _ _ (.of Cert.Kernel2Ideal.main_v11) Cert.Kernel2Ideal.main_call5 := by
  unfold Cert.Kernel2.fn_cumsum_1.body Cert.Kernel2Ideal.fn_cumsum_1.body
  rfl

set_option maxHeartbeats 1000000 in
theorem call6_eq : @Cert.Kernel2.fn_floor_divide_3.body Bits _ _ (.of Cert.Kernel2.main_v54) (.of Cert.Kernel2.main_c_9) Cert.Kernel2.main_call6
    = @Cert.Kernel2Ideal.fn_floor_divide_3.body Bits _ _ (.of Cert.Kernel2Ideal.main_v54) (.of Cert.Kernel2Ideal.main_c_9) Cert.Kernel2Ideal.main_call6 := by
  unfold Cert.Kernel2.fn_floor_divide_3.body Cert.Kernel2Ideal.fn_floor_divide_3.body
  rfl

set_option maxHeartbeats 1000000 in
theorem call7_eq : @Cert.Kernel2.fn_clip.body Bits _ _ (.of Cert.Kernel2.main_v91) (.of Cert.Kernel2.main_c_18) (.of Cert.Kernel2.main_c_19) Cert.Kernel2.main_call7
    = @Cert.Kernel2Ideal.fn_clip.body Bits _ _ (.of Cert.Kernel2Ideal.main_v91) (.of Cert.Kernel2Ideal.main_c_18) (.of Cert.Kernel2Ideal.main_c_19) Cert.Kernel2Ideal.main_call7 := by
  unfold Cert.Kernel2.fn_clip.body Cert.Kernel2Ideal.fn_clip.body
  rfl

set_option maxHeartbeats 1000000 in
theorem call8_eq : @Cert.Kernel2.fn_floor_divide_3.body Bits _ _ (.of Cert.Kernel2.main_v99) (.of Cert.Kernel2.main_c_22) Cert.Kernel2.main_call8
    = @Cert.Kernel2Ideal.fn_floor_divide_3.body Bits _ _ (.of Cert.Kernel2Ideal.main_v99) (.of Cert.Kernel2Ideal.main_c_22) Cert.Kernel2Ideal.main_call8 := by
  unfold Cert.Kernel2.fn_floor_divide_3.body Cert.Kernel2Ideal.fn_floor_divide_3.body
  rfl

set_option maxHeartbeats 1000000 in
theorem call9_eq : @Cert.Kernel2.fn_where_5.body Bits _ _ (.of Cert.Kernel2.main_v83) (.of Cert.Kernel2.main_v100) (.of Cert.Kernel2.main_c_23) Cert.Kernel2.main_call9
    = @Cert.Kernel2Ideal.fn_where_5.body Bits _ _ (.of Cert.Kernel2Ideal.main_v83) (.of Cert.Kernel2Ideal.main_v100) (.of Cert.Kernel2Ideal.main_c_23) Cert.Kernel2Ideal.main_call9 := by
  unfold Cert.Kernel2.fn_where_5.body Cert.Kernel2Ideal.fn_where_5.body
  rfl

set_option maxHeartbeats 1000000 in
theorem call10_eq : @Cert.Kernel2.fn_where_6.body Bits _ _ (.of Cert.Kernel2.main_v83) (.of Cert.Kernel2.main_v109) (.of Cert.Kernel2.main_cst) Cert.Kernel2.main_call10
    = @Cert.Kernel2Ideal.fn_where_6.body Bits _ _ (.of Cert.Kernel2Ideal.main_v83) (.of Cert.Kernel2Ideal.main_v109) (.of Cert.Kernel2Ideal.main_cst) Cert.Kernel2Ideal.main_call10 := by
  unfold Cert.Kernel2.fn_where_6.body Cert.Kernel2Ideal.fn_where_6.body
  rfl

set_option maxHeartbeats 1000000 in
theorem call11_eq : @Cert.Kernel2.fn_take.body Bits _ _ (.of Cert.Kernel2.main_v111) (.of Cert.Kernel2.main_v101) Cert.Kernel2.main_call11
    = @Cert.Kernel2Ideal.fn_take.body Bits _ _ (.of Cert.Kernel2Ideal.main_v111) (.of Cert.Kernel2Ideal.main_v101) Cert.Kernel2Ideal.main_call11 := by
  unfold Cert.Kernel2.fn_take.body Cert.Kernel2Ideal.fn_take.body
  rfl

set_option maxHeartbeats 1000000 in
theorem call12_eq : @Cert.Kernel2.fn_take_7.body Bits _ _ (.of Cert.Kernel2.main_v117) (.of Cert.Kernel2.main_v119) Cert.Kernel2.main_call12
    = @Cert.Kernel2Ideal.fn_take_7.body Bits _ _ (.of Cert.Kernel2Ideal.main_v117) (.of Cert.Kernel2Ideal.main_v119) Cert.Kernel2Ideal.main_call12 := by
  unfold Cert.Kernel2.fn_take_7.body Cert.Kernel2Ideal.fn_take_7.body
  rfl

set_option maxHeartbeats 1000000 in
theorem call13_eq : @Cert.Kernel2.fn_take_7.body Bits _ _ (.of Cert.Kernel2.main_v117) (.of Cert.Kernel2.main_v122) Cert.Kernel2.main_call13
    = @Cert.Kernel2Ideal.fn_take_7.body Bits _ _ (.of Cert.Kernel2Ideal.main_v117) (.of Cert.Kernel2Ideal.main_v122) Cert.Kernel2Ideal.main_call13 := by
  unfold Cert.Kernel2.fn_take_7.body Cert.Kernel2Ideal.fn_take_7.body
  rfl

set_option maxHeartbeats 4000000 in
theorem part0_eq : @Cert.Kernel2.main_part0 Bits _ _ = @Cert.Kernel2Ideal.main_part0 Bits _ _ := by
  unfold Cert.Kernel2.main_part0 Cert.Kernel2Ideal.main_part0
  rw [call0_eq, call1_eq, call2_eq, call3_eq, call4_eq, call5_eq]
  rfl

set_option maxHeartbeats 4000000 in
theorem part1_eq : @Cert.Kernel2.main_part1 Bits _ _ = @Cert.Kernel2Ideal.main_part1 Bits _ _ := by
  unfold Cert.Kernel2.main_part1 Cert.Kernel2Ideal.main_part1
  rw [call6_eq, call7_eq]
  rfl

set_option maxHeartbeats 4000000 in
theorem part2_eq : @Cert.Kernel2.main_part2 Bits _ _ = @Cert.Kernel2Ideal.main_part2 Bits _ _ := by
  unfold Cert.Kernel2.main_part2 Cert.Kernel2Ideal.main_part2
  rw [call8_eq, call9_eq, call10_eq, call11_eq, call12_eq, call13_eq]
  rfl

/-- The two programs are one. -/
theorem main_eq : @Cert.Kernel2.main Bits _ _ = @Cert.Kernel2Ideal.main Bits _ _ := by
  unfold Cert.Kernel2.main Cert.Kernel2Ideal.main
  rw [part0_eq, part1_eq, part2_eq]
  rfl

end Cert.Proof.Moe

end
-- ==== Proof.MoeFinal.lean ====
module

public import proofs.«01_k».proof.Proof.MoeValue
public import proofs.«01_k».proof.Proof.MoeText
public import proofs.«01_k».proof.Proof.Gen.Kernel2
public import proofs.«01_k».proof.Defs
public import proofs.«01_k».proof.Proof.Gen.Pre_finite_scores
public import proofs.«01_k».proof.Proof.Gen.Pre_two_experts
public import proofs.«01_k».proof.Proof.Gen.Kernel
public import proofs.«01_k».proof.Proof.Gen.KernelIdeal
public import proofs.«01_k».proof.Proof.Gen.ReferenceIdeal
public import Idealize.ShloMosaic.Lib.ReduceAll
public import Idealize.ShloMosaic.Lib.Affine
public import Idealize.ShloMosaic.Lib.KernelVsHost
public import Idealize.ShloMosaic.Adequacy
public import Idealize.ShloMosaic.Lib.Claim

/-! The claims about the grouped feed-forward and its host code. -/

@[expose] public section

set_option maxRecDepth 16384

noncomputable section

namespace Cert.Proof.Moe

open Idealize.ShloMosaic Idealize.ShloMosaic.TcCoe Idealize.SL.Sem

/-- The precondition: every chosen expert is one of the sixteen, and a token's two differ. -/
theorem chosen {F : FTy → Type} [FloatOps F] (x0 : FVec F Pre_two_experts.S34816x1024 .f32) (x1 : IVec Pre_two_experts.S34816x2 32)
    (x2 : FVec F Pre_two_experts.S34816x2 .f32) (x3 x4 : FVec F Pre_two_experts.S16x1024x512 .f32) (x5 : FVec F Pre_two_experts.S16x512x1024 .f32)
    (h : Cert.Pre_two_experts.fn (F := F) x0 x1 x2 x3 x4 x5 = fun _ => 1#1) :
    (∀ j : Pre_two_experts.S34816x2.Idx, (x1 j).toNat < 16) ∧ ∀ t : Fin 34816, x1 (ix2 t 0) ≠ x1 (ix2 t 1) := by
  obtain ⟨ha, hb⟩ := IntOp.andi_eq_one.1 (congrFun h ix0)
  refine ⟨fun j => ?_, fun t e => ?_⟩
  · obtain ⟨h1, h2⟩ := IntOp.andi_eq_one.1 (Host.reduce_andi_all _ _ _ _ _ ha j)
    have h1' : (0#32).toInt ≤ (x1 j).toInt := IntOp.cmpi_sge.1 h1
    have h2' : (x1 j).toInt < (16#32).toInt := IntOp.cmpi_slt.1 h2
    generalize x1 j = w at h1' h2'
    have e0 : (0#32).toInt = 0 := by decide
    have e16 : (16#32).toInt = 16 := by decide
    rw [e0] at h1'
    rw [e16] at h2'
    rw [BitVec.toInt_eq_toNat_cond] at h1' h2'
    have := w.isLt
    split at h1' <;> omega
  · have h1 := IntOp.cmpi_ne.1 (Host.reduce_andi_all _ _ _ _ _ hb (ix1 t))
    exact h1 (((Cert.Kernel2Ideal.Moe.column_at (0 : Fin 2) x1 _ t).trans e).trans (Cert.Kernel2Ideal.Moe.column_at (1 : Fin 2) x1 _ t).symm)

/-- The tables as the call finds them, at a memory of any floats: their experts are below sixteen whatever the arguments. -/
abbrev adm {F : FTy → Type} [FloatOps F] (m : (ℓ : Loc Cert.Kernel2Ideal.nD Cert.Kernel2Ideal.τ Cert.Kernel2Ideal.sig) → Buf (Elt F) ℓ) :
    (Cert.Kernel2Ideal.pcfg0 (F := F)).Adm :=
  ⟨Cert.Kernel2Ideal.Moe.tables m, Cert.Kernel2Ideal.Moe.ok_of_range _ fun j => by
    rw [show j = ix1 (j 0 : Fin 152) from funext fun a => by fin_cases a; rfl]
    exact Cert.Kernel2Ideal.Moe.table_lt m 0 (j 0)⟩

/-- The kernel's text is the ideal kernel's, so its run is that run with machine words for floats. -/
theorem frame_kernel : Cert.quiescent_Kernel2 := by
  intro m g _
  rw [defs_eq, main_eq]
  refine (θ_run (Cert.Kernel2Ideal.defs (F := Bits)) (onTc (τ := Cert.Kernel2Ideal.τ) Cert.Kernel2Ideal.main) ⟨m, fun _ => 0, g⟩).mono (fun r h => ?_)
    (Cert.Kernel2Ideal.Moe.run_args (F := Bits) m g (adm m) (Cert.Kernel2Ideal.Moe.tables_at m))
  exact ⟨fun c => (h.1 c).2, h.2⟩

theorem frame_ideal : Cert.quiescent_Kernel2Ideal := fun m g _ =>
  θ_run_mono (Cert.Kernel2Ideal.Moe.run_args m g (adm m) (Cert.Kernel2Ideal.Moe.tables_at m)) fun r h => ⟨fun c => (h.1 c).2, h.2⟩

theorem frame_ideal_pre : Cert.quiescent_Kernel2Ideal_pre_two_experts :=
  fun m g _ => frame_ideal m g trivial

theorem frame_reference : Cert.quiescent_Reference2Ideal :=
  fun m g _ => θ_run_mono (Cert.Reference2Ideal.Value.run m g) fun r h => ⟨fun c => (h c).2, sem_eq_zero_of_no_sems (by decide) r.2⟩

theorem frame_reference_pre : Cert.quiescent_Reference2Ideal_pre_two_experts :=
  fun m g _ => frame_reference m g trivial

/-- The call's result equals the reference's when each token has two experts of the sixteen. -/
theorem algebraic : Cert.algebraic_Kernel2Ideal_Reference2Ideal_pre_two_experts := by
  intro m g m' g' hpre hagree
  refine ⟨fun c => StableHlo.after Cert.Kernel2Ideal.Moe.opsAfter.flatten (Cert.Kernel2Ideal.Moe.exitV m (adm m) c) (Proc.devRef .tc Cert.Kernel2Ideal.main_v124), ?_, ?_⟩
  · exact θ_run_mono (Cert.Kernel2Ideal.Moe.run_args m g (adm m) (Cert.Kernel2Ideal.Moe.tables_at m)) fun r h c => h.1 c
  · refine θ_run_mono (Cert.Reference2Ideal.Value.run m' g') fun r hr' c => ?_
    obtain ⟨h, hargs⟩ := hr' c
    refine ⟨h.trans ?_, hargs⟩
    obtain ⟨e0, e1, e2, e3, e4, e5⟩ := hagree c
    obtain rfl : c = 0 := Subsingleton.elim _ _
    obtain ⟨hA, hne⟩ := chosen _ _ _ _ _ _ (hpre 0)
    refine Eq.trans ?_ (Cert.Kernel2Ideal.Moe.result_eq m (adm m) 0 hA (Cert.Kernel2Ideal.Moe.v48 m 0) (Cert.Kernel2Ideal.Moe.v53 m 0) hne).symm
    rw [e0, e1, e2, e3, e4, e5]
    rfl

end Cert.Proof.Moe

end
-- ==== Proof.ProjHost.lean ====
module

public import proofs.«01_k».proof.Proof.Gen.Kernel3Ideal.Frame.Runs
public import Idealize.ShloMosaic.Lib.Pipeline.ValueKit
public import Idealize.ShloMosaic.Lib.Pointwise

/-! What the projection's operands hold: the scale over the norm's gain, and the packed weights. -/

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem

/-- The gain times one plus the scale. -/
def aArr (sc : FVec Ideal S9x1x1024 .f32) (g : FVec Ideal S1024 .f32) : FVec Ideal S9x1x1024 .f32 :=
  mulf (broadcastInDim S9x1x1024 ![0, 1, 2] bcast_S1x1x1024_S9x1x1024_0_1_2 (broadcastInDim S1x1x1024 ![2] bcast_S1024_S1x1x1024_2 g))
    (addf (broadcastInDim S9x1x1024 ![] bcast_S_S9x1x1024 (constant S_ .f32 0x3F800000#32)) sc)

/-- The packed weights. -/
def wArr (w : FVec Ideal S1024x2144 .f32) : FVec Ideal S1024x2304 .bf16 :=
  truncf .bf16 (concatenate S1024x2304 1 [⟨S1024x1792, extractStridedSlice S1024x1792 ![0, 0] w slices_S1024x2144_S1024x1792_0_0⟩,
    ⟨S1024x192, extractStridedSlice S1024x192 ![0, 1792] w slices_S1024x2144_S1024x192_0_1792⟩,
    ⟨S1024x64, broadcastInDim S1024x64 ![] bcast_S_S1024x64 (constant S_ .f32 0x00000000#32)⟩,
    ⟨S1024x128, extractStridedSlice S1024x128 ![0, 1984] w slices_S1024x2144_S1024x128_0_1984⟩,
    ⟨S1024x32, extractStridedSlice S1024x32 ![0, 2112] w slices_S1024x2144_S1024x32_0_2112⟩,
    ⟨S1024x96, broadcastInDim S1024x96 ![] bcast_S_S1024x96 (constant S_ .f32 0x00000000#32)⟩] concatenates_S1024x1792_S1024x192_S1024x64_S1024x128_S1024x32_S1024x96_S1024x2304_d1) bitsLt_bf16_f32

theorem aArr_at (sc : FVec Ideal S9x1x1024 .f32) (g : FVec Ideal S1024 .f32) (b : Fin 9) (k : Fin 1024) :
    aArr sc g (ix3 b 0 k) = (g (ix1 k) : EReal) * (Ideal.ofBits FTy.f32 0x3F800000#32 + sc (ix3 b 0 k)) := by
  pointwise [aArr]

theorem wArr_at (w : FVec Ideal S1024x2144 .f32) (k : Fin 1024) (j : Fin 2304) (hj : (j : ℕ) < 1792) :
    wArr w (ix2 k j) = w (ix2 k ⟨j, by omega⟩) := by
  pointwise [wArr]
  exact dif_pos hj

variable (m : (ℓ : Loc nD τ sig) → Buf (Elt Ideal) ℓ)

theorem v4 (c : Dev nD) : V m c main_v4 = aArr (m ((c : Thread nD τ).loc main_arg1)) (m ((c : Thread nD τ).loc main_arg3)) := rfl
theorem v8 (c : Dev nD) : V m c main_v8 = shapeCast S32768x1024 (m ((c : Thread nD τ).loc main_arg0) : FVec Ideal S8x4096x1024 .f32) shapeCasts_S8x4096x1024_S32768x1024 := rfl
theorem v16 (c : Dev nD) : V m c main_v16 = wArr (m ((c : Thread nD τ).loc main_arg4)) := rfl

/-- Step `t` holds block `t` of the rows and of the results, batch `t / 8` of the modulation, and all the weights. -/
theorem idx : ∀ t : Fin cfg0.N, win0_0.index t = ![t.val, 0] ∧ win0_1.index t = ![t.val / 8, 0, 0] ∧ win0_2.index t = ![t.val / 8, 0, 0]
    ∧ win0_3.index t = ![0, 0] ∧ win0_11.index t = ![t.val, 0] ∧ win0_12.index t = ![t.val, 0] ∧ win0_13.index t = ![t.val, 0] :=
  (by decide +kernel : ∀ t : Fin grid0.N, _)

theorem lt64 (t : Fin cfg0.N) : (t : ℕ) < 64 := t.isLt

theorem rows_cast (x : FVec Ideal S8x4096x1024 .f32) (i : Fin 32768) (k : Fin 1024) :
    shapeCast S32768x1024 x shapeCasts_S8x4096x1024_S32768x1024 (ix2 i k) = x (ix3 ⟨(i : ℕ) / 4096, by omega⟩ ⟨(i : ℕ) % 4096, by omega⟩ k) := by
  pointwise

theorem x_blk (c : Dev nD) (t : Fin cfg0.N) (r : Fin 512) (k : Fin 1024) : iblk m c 0 t (ix2 r k)
    = shapeCast S32768x1024 (m ((c : Thread nD τ).loc main_arg0) : FVec Ideal S8x4096x1024 .f32) shapeCasts_S8x4096x1024_S32768x1024
      (ix2 ⟨512 * t + r, by have := lt64 t; omega⟩ k) := by
  have := lt64 t
  blk_simp [iblk]
  rw [v8]
  blk_ext [idx t]

theorem x_row (c : Dev nD) (t : Fin cfg0.N) (r : Fin 512) (k : Fin 1024) : iblk m c 0 t (ix2 r k)
    = (m ((c : Thread nD τ).loc main_arg0) : FVec Ideal S8x4096x1024 .f32)
      (ix3 ⟨(512 * (t : ℕ) + r) / 4096, by have := lt64 t; omega⟩ ⟨(512 * (t : ℕ) + r) % 4096, by omega⟩ k) :=
  (x_blk m c t r k).trans (rows_cast _ _ _)

theorem a_blk (c : Dev nD) (t : Fin cfg0.N) (k : Fin 1024) : iblk m c 1 t (ix3 0 0 k)
    = aArr (m ((c : Thread nD τ).loc main_arg1)) (m ((c : Thread nD τ).loc main_arg3)) (ix3 ⟨(t : ℕ) / 8, by have := lt64 t; omega⟩ 0 k) := by
  have := lt64 t
  blk_simp [iblk]
  rw [v4]
  blk_ext [idx t]

theorem s_blk (c : Dev nD) (t : Fin cfg0.N) (k : Fin 1024) : iblk m c 2 t (ix3 0 0 k)
    = (m ((c : Thread nD τ).loc main_arg2) : FVec Ideal S9x1x1024 .f32) (ix3 ⟨(t : ℕ) / 8, by have := lt64 t; omega⟩ 0 k) := by
  have := lt64 t
  blk_simp [iblk]
  rw [V_main_arg2]
  blk_ext [idx t]

theorem w_blk (c : Dev nD) (t : Fin cfg0.N) (k : Fin 1024) (j : Fin 2304) : iblk m c 3 t (ix2 k j)
    = wArr (m ((c : Thread nD τ).loc main_arg4)) (ix2 k j) := by
  have := lt64 t
  blk_simp [iblk]
  rw [v16]
  blk_ext [idx t]

end Cert.Kernel3Ideal.Prj

end
-- ==== Proof.ProjTables.lean ====
module

public import proofs.«01_k».proof.Proof.ProjHost

/-! What the projection's further operands hold: padded gains and weights, and the tables of the rotation. -/

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem

/-- The number zero, as the paddings write it. -/
abbrev nought : FVec Ideal S_ .f32 := sitofp .f32 (constantI S_ 32 0#32)

/-- The queries' gain, padded. -/
def qgArr (g : FVec Ideal S192 .f32) : FVec Ideal S1x256 .f32 :=
  broadcastInDim S1x256 ![1] bcast_S256_S1x256_1 (pad S256 ![0] ![64] ![0] g nought pads_S192_S256_0640 h_S_)

/-- The keys' gain. -/
def kgArr (g : FVec Ideal S128 .f32) : FVec Ideal S1x128 .f32 := broadcastInDim S1x128 ![1] bcast_S128_S1x128_1 g

/-- The queries' weights, each head padded. -/
def uqArr (w : FVec Ideal S192x384 .f32) : FVec Ideal S256x512 .bf16 :=
  truncf .bf16 (shapeCast S256x512 (pad S256x4x128 ![0, 0, 0] ![64, 0, 32] ![0, 0, 0] (shapeCast S192x4x96 w shapeCasts_S192x384_S192x4x96) nought
    pads_S192x4x96_S256x4x128_0640_000_0320 h_S_) shapeCasts_S256x4x128_S256x512) bitsLt_bf16_f32

/-- The weights of keys and values, the keys' padded. -/
def topArr (w : FVec Ideal S128x512 .f32) : FVec Ideal S128x768 .f32 :=
  concatenate S128x768 1 [⟨S128x512, shapeCast S128x512 (pad S128x4x128 ![0, 0, 0] ![0, 0, 64] ![0, 0, 0]
      (extractStridedSlice S128x4x64 ![0, 0, 0] (shapeCast S128x4x128 w shapeCasts_S128x512_S128x4x128) slices_S128x4x128_S128x4x64_0_0_0) nought
      pads_S128x4x64_S128x4x128_000_000_0640 h_S_) shapeCasts_S128x4x128_S128x512⟩,
    ⟨S128x256, shapeCast S128x256 (extractStridedSlice S128x4x64 ![0, 0, 64] (shapeCast S128x4x128 w shapeCasts_S128x512_S128x4x128) slices_S128x4x128_S128x4x64_0_0_64)
      shapeCasts_S128x4x64_S128x256⟩] concatenates_S128x512_S128x256_S128x768_d1

/-- Ones on the diagonal. -/
def eyeArr : FVec Ideal S128x128 .f32 :=
  uitofp .f32 (cmpi .eq (addi (iotaInDim S128x128 32 0) (broadcastInDim S128x128 ![] bcast_S_S128x128 (constantI S_ 32 0#32))) (iotaInDim S128x128 32 1))

/-- The rows that place the rotated columns into each head. -/
def lowArr : FVec Ideal S128x768 .f32 :=
  concatenate S128x768 1 [⟨S128x512, shapeCast S128x512 (broadcastInDim S1x128x4x128 ![0, 1, 2, 3] bcast_S1x128x1x128_S1x128x4x128_0_1_2_3
      (shapeCast S1x128x1x128 (pad S128x128 ![0, 64] ![0, 32] ![0, 0] (extractStridedSlice S128x32 ![0, 0] eyeArr slices_S128x128_S128x32_0_0) nought
        pads_S128x32_S128x128_000_64320 h_S_) shapeCasts_S128x128_S1x128x1x128)) shapeCasts_S1x128x4x128_S128x512⟩,
    ⟨S128x256, broadcastInDim S128x256 ![] bcast_S_S128x256 (constant S_ .f32 0x00000000#32)⟩] concatenates_S128x512_S128x256_S128x768_d1

/-- Both together. -/
def ukvArr (w : FVec Ideal S128x512 .f32) : FVec Ideal S256x768 .bf16 :=
  truncf .bf16 (concatenate S256x768 0 [⟨S128x768, topArr w⟩, ⟨S128x768, lowArr⟩] concatenates_S128x768_S128x768_S256x768_d0) bitsLt_bf16_f32

/-- The frequencies. -/
def freqArr : FVec Ideal S8 .f32 :=
  Host.powf (broadcastInDim S8 ![] bcast_S_S8 (constant S_ .f32 0x461C4000#32))
    (Host.divf (Host.negf (sitofp .f32 (iotaInDim S8 32 0))) (broadcastInDim S8 ![] bcast_S_S8 (constant S_ .f32 0x41000000#32)))

/-- The angles: of the row by each frequency, then of the column. -/
def angleArr : FVec Ideal S4096x16 .f32 :=
  concatenate S4096x16 1 [⟨S4096x8, mulf (broadcastInDim S4096x8 ![0, 1] bcast_S4096x1_S4096x8_0_1 (broadcastInDim S4096x1 ![0] bcast_S4096_S4096x1_0
        (sitofp .f32 (shapeCast S4096 (broadcastInDim S64x64 ![0] bcast_S64_S64x64_0 (iotaInDim S64 32 0)) shapeCasts_S64x64_S4096))))
      (broadcastInDim S4096x8 ![0, 1] bcast_S1x8_S4096x8_0_1 (broadcastInDim S1x8 ![1] bcast_S8_S1x8_1 freqArr))⟩,
    ⟨S4096x8, mulf (broadcastInDim S4096x8 ![0, 1] bcast_S4096x1_S4096x8_0_1 (broadcastInDim S4096x1 ![0] bcast_S4096_S4096x1_0
        (sitofp .f32 (shapeCast S4096 (broadcastInDim S64x64 ![0, 1] bcast_S1x64_S64x64_0_1 (shapeCast S1x64 (iotaInDim S64 32 0) shapeCasts_S64_S1x64)) shapeCasts_S64x64_S4096))))
      (broadcastInDim S4096x8 ![0, 1] bcast_S1x8_S4096x8_0_1 (broadcastInDim S1x8 ![1] bcast_S8_S1x8_1 freqArr))⟩]
    concatenates_S4096x8_S4096x8_S4096x16_d1

def cosArr : FVec Ideal S4096x16 .f32 := Host.cos angleArr
def sinArr : FVec Ideal S4096x16 .f32 := Host.sin angleArr

/-- The three tables of a head's 128 columns, over a table of cosines and a table of sines. -/
def tabA (c : FVec Ideal S4096x16 .f32) : FVec Ideal S4096x128 .f32 :=
  concatenate S4096x128 1 [⟨S4096x64, broadcastInDim S4096x64 ![] bcast_S_S4096x64 (constant S_ .f32 0x3F800000#32)⟩, ⟨S4096x16, c⟩, ⟨S4096x16, c⟩,
    ⟨S4096x32, broadcastInDim S4096x32 ![] bcast_S_S4096x32 (constant S_ .f32 0x3F800000#32)⟩] concatenates_S4096x64_S4096x16_S4096x16_S4096x32_S4096x128_d1
def tabB (s : FVec Ideal S4096x16 .f32) : FVec Ideal S4096x128 .f32 :=
  concatenate S4096x128 1 [⟨S4096x80, broadcastInDim S4096x80 ![] bcast_S_S4096x80 (constant S_ .f32 0x00000000#32)⟩, ⟨S4096x16, s⟩,
    ⟨S4096x32, broadcastInDim S4096x32 ![] bcast_S_S4096x32 (constant S_ .f32 0x00000000#32)⟩] concatenates_S4096x80_S4096x16_S4096x32_S4096x128_d1
def tabC (s : FVec Ideal S4096x16 .f32) : FVec Ideal S4096x128 .f32 :=
  concatenate S4096x128 1 [⟨S4096x64, broadcastInDim S4096x64 ![] bcast_S_S4096x64 (constant S_ .f32 0x00000000#32)⟩, ⟨S4096x16, Host.negf s⟩,
    ⟨S4096x48, broadcastInDim S4096x48 ![] bcast_S_S4096x48 (constant S_ .f32 0x00000000#32)⟩] concatenates_S4096x64_S4096x16_S4096x48_S4096x128_d1

theorem nought_at (i : S_.Idx) : (nought i : EReal) = 0 := by
  show (((0#32).toInt : ℝ) : EReal) = 0
  simp

theorem qgArr_at (g : FVec Ideal S192 .f32) (k : Fin 256) : qgArr g (ix2 0 k) = if h : (k : ℕ) < 192 then g (ix1 ⟨k, h⟩) else 0 := by
  pointwise [qgArr]
  by_cases h : (k : ℕ) < 192
  · rw [dif_pos h, dif_pos h]
  · rw [dif_neg h, dif_neg h]; exact nought_at ix0

theorem kgArr_at (g : FVec Ideal S128 .f32) (k : Fin 128) : kgArr g (ix2 0 k) = g (ix1 k) := by
  pointwise [kgArr]

theorem uqArr_at (w : FVec Ideal S192x384 .f32) (k : Fin 256) (j : Fin 512) : uqArr w (ix2 k j)
    = if h : (k : ℕ) < 192 ∧ (j : ℕ) % 128 < 96 then w (ix2 ⟨k, h.1⟩ ⟨96 * ((j : ℕ) / 128) + (j : ℕ) % 128, by omega⟩) else 0 := by
  have hj := j.isLt
  pointwise [uqArr]
  by_cases h : (k : ℕ) < 192 ∧ (j : ℕ) % 128 < 96
  · rw [dif_pos (by omega), dif_pos h]
    congr 2; apply Fin.ext; simp only; omega
  · rw [dif_neg (by omega), dif_neg h]; exact nought_at ix0

theorem ukvArr_key (w : FVec Ideal S128x512 .f32) (k : Fin 256) (j : Fin 768) (hk : (k : ℕ) < 128) (hj : (j : ℕ) < 512) : ukvArr w (ix2 k j)
    = if h : (j : ℕ) % 128 < 64 then w (ix2 ⟨k, hk⟩ ⟨j, hj⟩) else 0 := by
  pointwise [ukvArr, topArr]
  rw [dif_pos hk, dif_pos hj]
  by_cases h : (j : ℕ) % 128 < 64
  · refine (dif_pos ⟨hk, by omega, h⟩).trans (Eq.trans ?_ (dif_pos h).symm)
    exact congrArg w (congrArg (ix2 _) (Fin.ext (by simp only; omega)))
  · exact (dif_neg (by omega)).trans ((nought_at ix0).trans (by rw [dif_neg h]))

theorem ukvArr_value (w : FVec Ideal S128x512 .f32) (k : Fin 256) (j : Fin 256) (hk : (k : ℕ) < 128) : ukvArr w (ix2 k ⟨512 + j, by omega⟩)
    = w (ix2 ⟨k, hk⟩ ⟨128 * ((j : ℕ) / 64) + 64 + (j : ℕ) % 64, by omega⟩) := by
  pointwise [ukvArr, topArr]
  rw [dif_pos hk]
  congr 2; apply Fin.ext; simp only; omega

/-- An entry of the diagonal: a one where row and column agree. -/
theorem eye_at (a b : ℕ) (P : Prop) [Decidable P] (ha : a < 128) (hb : b < 128) (hP : P ↔ a = b) :
    FloatOps.uitofp (F := Ideal) FTy.f32 (IntOp.cmpi .eq (IntOp.addi (BitVec.ofNat 32 a) 0#32) (BitVec.ofNat 32 b)) = if P then (1 : EReal) else 0 := by
  have e : IntOp.addi (BitVec.ofNat 32 a) 0#32 = BitVec.ofNat 32 a := BitVec.add_zero _
  rw [e]
  by_cases h : a = b
  · rw [if_pos (hP.2 h), h]
    show (((IntOp.cmpi .eq (BitVec.ofNat 32 b) (BitVec.ofNat 32 b)).toNat : ℝ) : EReal) = 1
    simp [IntOp.cmpi]
  · rw [if_neg fun hp => h (hP.1 hp)]
    have hn : BitVec.ofNat 32 a ≠ BitVec.ofNat 32 b := fun he => h (by
      have := congrArg BitVec.toNat he
      rw [BitVec.toNat_ofNat, BitVec.toNat_ofNat] at this; omega)
    show (((IntOp.cmpi .eq (BitVec.ofNat 32 a) (BitVec.ofNat 32 b)).toNat : ℝ) : EReal) = 0
    simp [IntOp.cmpi, hn]

theorem ukvArr_place (w : FVec Ideal S128x512 .f32) (k : Fin 256) (j : Fin 768) (hk : ¬ (k : ℕ) < 128) (hj : (j : ℕ) < 512) : ukvArr w (ix2 k j)
    = if 64 ≤ (j : ℕ) % 128 ∧ (j : ℕ) % 128 < 96 ∧ (k : ℕ) - 128 = (j : ℕ) % 128 - 64 then 1 else 0 := by
  pointwise [ukvArr, lowArr, eyeArr]
  rw [dif_neg hk, dif_pos hj]
  by_cases h : 64 ≤ (j : ℕ) % 128 ∧ (j : ℕ) % 128 < 96
  · rw [dif_pos (by omega)]
    exact eye_at _ _ _ (by omega) (by omega) (by omega)
  · rw [dif_neg (by omega), if_neg (by omega)]; exact nought_at ix0

theorem ukvArr_none (w : FVec Ideal S128x512 .f32) (k : Fin 256) (j : Fin 256) (hk : ¬ (k : ℕ) < 128) : ukvArr w (ix2 k ⟨512 + j, by omega⟩) = 0 := by
  pointwise [ukvArr, lowArr]
  rw [dif_neg hk]

theorem tabA_at (c : FVec Ideal S4096x16 .f32) (r : Fin 4096) (d : Fin 128) : tabA c (ix2 r d)
    = if (d : ℕ) < 64 then 1 else if h : (d : ℕ) < 80 then c (ix2 r ⟨(d : ℕ) - 64, by omega⟩) else if h : (d : ℕ) < 96 then c (ix2 r ⟨(d : ℕ) - 80, by omega⟩) else 1 := by
  pointwise [tabA]
  by_cases h0 : (d : ℕ) < 64
  · rw [dif_pos h0, if_pos h0]
  rw [dif_neg h0, if_neg h0]
  by_cases h1 : (d : ℕ) < 80
  · rw [dif_pos (by omega), dif_pos h1]
  rw [dif_neg (by omega), dif_neg h1]
  by_cases h2 : (d : ℕ) < 96
  · rw [dif_pos (by omega), dif_pos h2]
    congr 2
  rw [dif_neg (by omega), dif_neg h2]

theorem tabB_at (s : FVec Ideal S4096x16 .f32) (r : Fin 4096) (d : Fin 128) : tabB s (ix2 r d)
    = if h0 : (d : ℕ) < 80 then 0 else if h : (d : ℕ) < 96 then s (ix2 r ⟨(d : ℕ) - 80, by omega⟩) else 0 := by
  pointwise [tabB]
  by_cases h0 : (d : ℕ) < 80
  · rw [dif_pos h0, dif_pos h0]
  rw [dif_neg h0, dif_neg h0]
  by_cases h1 : (d : ℕ) < 96
  · rw [dif_pos (by omega), dif_pos h1]
  rw [dif_neg (by omega), dif_neg h1]

theorem tabC_at (s : FVec Ideal S4096x16 .f32) (r : Fin 4096) (d : Fin 128) : tabC s (ix2 r d)
    = if h0 : (d : ℕ) < 64 then 0 else if h : (d : ℕ) < 80 then -s (ix2 r ⟨(d : ℕ) - 64, by omega⟩) else 0 := by
  pointwise [tabC]
  by_cases h0 : (d : ℕ) < 64
  · rw [dif_pos h0, dif_pos h0]
  rw [dif_neg h0, dif_neg h0]
  by_cases h1 : (d : ℕ) < 80
  · rw [dif_pos (by omega), dif_pos h1]
  rw [dif_neg (by omega), dif_neg h1]

theorem wArr_q (w : FVec Ideal S1024x2144 .f32) (k : Fin 1024) (l : Fin 256) :
    wArr w (ix2 k ⟨1792 + l, by omega⟩) = if h : (l : ℕ) < 192 then w (ix2 k ⟨1792 + l, by omega⟩) else 0 := by
  pointwise [wArr]
  by_cases h0 : (l : ℕ) < 192
  · rw [dif_pos h0, dif_pos h0]
  rw [dif_neg h0, dif_neg h0, dif_pos (by omega)]

theorem wArr_kv (w : FVec Ideal S1024x2144 .f32) (k : Fin 1024) (l : Fin 128) :
    wArr w (ix2 k ⟨2048 + l, by omega⟩) = w (ix2 k ⟨1984 + l, by omega⟩) := by
  pointwise [wArr]
  rw [dif_neg (by omega), dif_neg (by omega), dif_neg (by omega), dif_pos (by omega)]
  congr 2; apply Fin.ext; simp only; omega

theorem wArr_r (w : FVec Ideal S1024x2144 .f32) (k : Fin 1024) (l : Fin 128) :
    wArr w (ix2 k ⟨2176 + l, by omega⟩) = if h : (l : ℕ) < 32 then w (ix2 k ⟨2112 + l, by omega⟩) else 0 := by
  pointwise [wArr]
  rw [dif_neg (by omega), dif_neg (by omega), dif_neg (by omega), dif_neg (by omega)]
  by_cases h0 : (l : ℕ) < 32
  · rw [dif_pos (by omega), dif_pos h0]
    congr 2; apply Fin.ext; simp only; omega
  rw [dif_neg (by omega), dif_neg h0]

end Cert.Kernel3Ideal.Prj

end
-- ==== Proof.ProjOperands.lean ====
module

public import proofs.«01_k».proof.Proof.ProjTables

/-! The projection's further operands, whole and by blocks. -/

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem

variable (m : (ℓ : Loc nD τ sig) → Buf (Elt Ideal) ℓ)

theorem v6 (c : Dev nD) : V m c main_v6 = qgArr (m ((c : Thread nD τ).loc main_arg5)) := rfl
theorem v7 (c : Dev nD) : V m c main_v7 = kgArr (m ((c : Thread nD τ).loc main_arg7)) := rfl
theorem v20 (c : Dev nD) : V m c main_v20 = uqArr (m ((c : Thread nD τ).loc main_arg6)) := rfl
set_option maxHeartbeats 4000000 in
theorem v42 (c : Dev nD) : V m c main_v42 = ukvArr (m ((c : Thread nD τ).loc main_arg8)) := rfl
set_option maxHeartbeats 4000000 in
theorem v73 (c : Dev nD) : V m c main_v73 = tabA cosArr := rfl
theorem v76 (c : Dev nD) : V m c main_v76 = tabB sinArr := rfl
theorem v80 (c : Dev nD) : V m c main_v80 = tabC sinArr := rfl

/-- Step `t` holds the gains and weights whole, block `t mod 8` of the tables, and block `t` of the results. -/
theorem idx' : ∀ t : Fin cfg0.N, win0_4.index t = ![0, 0] ∧ win0_5.index t = ![0, 0] ∧ win0_6.index t = ![0, 0] ∧ win0_7.index t = ![0, 0]
    ∧ win0_8.index t = ![t.val % 8, 0] ∧ win0_9.index t = ![t.val % 8, 0] ∧ win0_10.index t = ![t.val % 8, 0]
    ∧ win0_14.index t = ![t.val, 0] ∧ win0_15.index t = ![t.val, 0] ∧ win0_16.index t = ![t.val, 0] :=
  (by decide +kernel : ∀ t : Fin grid0.N, _)

theorem qg_blk (c : Dev nD) (t : Fin cfg0.N) : iblk m c 4 t = qgArr (m ((c : Thread nD τ).loc main_arg5)) := by
  funext y
  rw [show y = ix2 (y 0) (y 1) from funext fun a => by fin_cases a <;> rfl]
  blk_simp [iblk]
  rw [v6]
  blk_ext [idx' t]

theorem uq_blk (c : Dev nD) (t : Fin cfg0.N) : iblk m c 5 t = uqArr (m ((c : Thread nD τ).loc main_arg6)) := by
  funext y
  rw [show y = ix2 (y 0) (y 1) from funext fun a => by fin_cases a <;> rfl]
  blk_simp [iblk]
  rw [v20]
  blk_ext [idx' t]

theorem kg_blk (c : Dev nD) (t : Fin cfg0.N) : iblk m c 6 t = kgArr (m ((c : Thread nD τ).loc main_arg7)) := by
  funext y
  rw [show y = ix2 (y 0) (y 1) from funext fun a => by fin_cases a <;> rfl]
  blk_simp [iblk]
  rw [v7]
  blk_ext [idx' t]

theorem ukv_blk (c : Dev nD) (t : Fin cfg0.N) : iblk m c 7 t = ukvArr (m ((c : Thread nD τ).loc main_arg8)) := by
  funext y
  rw [show y = ix2 (y 0) (y 1) from funext fun a => by fin_cases a <;> rfl]
  blk_simp [iblk]
  rw [v42]
  blk_ext [idx' t]

theorem tabA_blk (c : Dev nD) (t : Fin cfg0.N) (r : Fin 512) (d : Fin 128) : iblk m c 8 t (ix2 r d)
    = tabA cosArr (ix2 ⟨512 * ((t : ℕ) % 8) + r, by omega⟩ d) := by
  blk_simp [iblk]
  rw [v73]
  blk_ext [idx' t]

theorem tabB_blk (c : Dev nD) (t : Fin cfg0.N) (r : Fin 512) (d : Fin 128) : iblk m c 9 t (ix2 r d)
    = tabB sinArr (ix2 ⟨512 * ((t : ℕ) % 8) + r, by omega⟩ d) := by
  blk_simp [iblk]
  rw [v76]
  blk_ext [idx' t]

theorem tabC_blk (c : Dev nD) (t : Fin cfg0.N) (r : Fin 512) (d : Fin 128) : iblk m c 10 t (ix2 r d)
    = tabC sinArr (ix2 ⟨512 * ((t : ℕ) % 8) + r, by omega⟩ d) := by
  blk_simp [iblk]
  rw [v80]
  blk_ext [idx' t]

end Cert.Kernel3Ideal.Prj

end
-- ==== Proof.ProjBlock.lean ====
module

public import proofs.«01_k».proof.Proof.Gen.Kernel3Ideal.Skeleton
public import Idealize.ShloMosaic.Lib.Pipeline.ValueKit
public import Idealize.ShloMosaic.Lib.Pointwise

/-! The projection of 256 rows: each row normed, modulated and multiplied by the packed weights; kept in the
    half of a buffer and read back by columns. -/

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem

/-- One over the root of a row's mean square, the small constant added to it. -/
def unit (x : Fin 1024 → EReal) : EReal :=
  Ideal.rsqrt (Ideal.div (∑ k, x k * x k) (Ideal.ofBits FTy.f32 0x44800000#32) + Ideal.ofBits FTy.f32 0x358637BD#32)

/-- A row, normed, scaled and shifted, against a column of weights. -/
def entry (x a s w : Fin 1024 → EReal) : EReal := ∑ k, (x k * unit x * a k + s k) * w k

theorem rows_at (x : FVec Ideal S256x1024 .f32) (a s : FVec Ideal S1x1x1024 .f32) (w : FVec Ideal S1024x2304 .bf16) (i : Fin 256) (j : Fin 2304) :
    k0_pay3 (F := Ideal) x a s w (ix3 0 i j)
      = entry (fun k => x (ix2 i k)) (fun k => a (ix3 0 0 k)) (fun k => s (ix3 0 0 k)) fun k => w (ix2 k j) := by
  pointwise [k0_pay3]
  rfl

/-- The second half's text is the first's. -/
theorem second (x : FVec Ideal S256x1024 .f32) (a s : FVec Ideal S1x1x1024 .f32) (w : FVec Ideal S1024x2304 .bf16) :
    k0_pay6 (F := Ideal) (k0_pay4 x) (k0_pay5 x) a s w = k0_pay3 x a s w := rfl

/-- Columns of a half. -/
def cut (c n : ℕ) (h : c + n ≤ 2304) (p : FVec Ideal S1x256x2304 .f32) : FVec Ideal ⟨3, ![1, 256, n]⟩ .f32 := fun x =>
  p (ix3 0 (x 1) ⟨c + (x 2 : ℕ), by have := (x 2).isLt; simp at this; omega⟩)

variable {sp : Space} (v : View sig .tc sp S2x256x2304 .f32)

/-- Columns read of the first half. -/
theorem read0 (c n : ℕ) (h : c + n ≤ 2304) (i0 i1 iB) (p0 p1 : FVec Ideal S1x256x2304 .f32) :
    v.readCov ([⟨Rect.unit ![1, 0, 0] ![1, 256, 2304] i1, p1⟩, ⟨Rect.unit ![0, 0, 0] ![1, 256, 2304] i0, p0⟩] : List (View.Piece (Elt Ideal) S2x256x2304 .f32))
        (Rect.unit ![0, 0, c] ![1, 256, n] iB).toLoadRect = cut c n h p0 := by
  rw [View.readCov_eq_canon']
  funext x
  have hx0 : (x 0 : ℕ) < 1 := (x 0).isLt
  have hx2 : (x 2 : ℕ) < n := (x 2).isLt
  beta_reduce
  unfold cut
  rw [View.canon_cons_of_not_mem]
  · have e : (Rect.unit ![0, 0, c] ![1, 256, n] iB).toLoadRect.idx x
        = (Rect.unit (s := S2x256x2304) ![0, 0, 0] ![1, 256, 2304] i0).emb (ix3 0 (x 1) ⟨c + (x 2 : ℕ), by omega⟩) := by
      funext a; apply Fin.ext; fin_cases a
      · show 0 + 1 * (x 0 : ℕ) = 0 + 1 * 0; omega
      · rfl
      · show c + 1 * (x 2 : ℕ) = 0 + 1 * (c + (x 2 : ℕ)); omega
    rw [e]; exact View.canon_cons_emb _ _ _ _
  · refine Rect.not_mem_set_of_axis _ _ (0 : Fin 3) 1 1 rfl rfl rfl (Or.inl ?_)
    show 0 + 1 * (x 0 : ℕ) < 1; omega

/-- Columns read of the second half. -/
theorem read1 (c n : ℕ) (h : c + n ≤ 2304) (i1 iB) (p1 : FVec Ideal S1x256x2304 .f32) (L : List (View.Piece (Elt Ideal) S2x256x2304 .f32)) :
    v.readCov ((⟨Rect.unit ![1, 0, 0] ![1, 256, 2304] i1, p1⟩ : View.Piece (Elt Ideal) S2x256x2304 .f32) :: L)
        (Rect.unit ![1, 0, c] ![1, 256, n] iB).toLoadRect = cut c n h p1 := by
  rw [View.readCov_eq_canon']
  funext x
  have hx0 : (x 0 : ℕ) < 1 := (x 0).isLt
  have hx2 : (x 2 : ℕ) < n := (x 2).isLt
  beta_reduce
  unfold cut
  have e : (Rect.unit ![1, 0, c] ![1, 256, n] iB).toLoadRect.idx x
      = (Rect.unit (s := S2x256x2304) ![1, 0, 0] ![1, 256, 2304] i1).emb (ix3 0 (x 1) ⟨c + (x 2 : ℕ), by omega⟩) := by
    funext a; apply Fin.ext; fin_cases a
    · show 1 + 1 * (x 0 : ℕ) = 1 + 1 * 0; omega
    · rfl
    · show c + 1 * (x 2 : ℕ) = 0 + 1 * (c + (x 2 : ℕ)); omega
  rw [e]; exact View.canon_cons_emb _ _ _ _

theorem half_a (q : FVec Ideal S1x256x768 .f32) (i : Fin 256) (j : Fin 768) : k0_pay7 (F := Ideal) q (ix2 i j) = q (ix3 0 i j) := by
  pointwise [k0_pay7]
theorem half_b (q : FVec Ideal S1x256x512 .f32) (i : Fin 256) (j : Fin 512) : k0_pay8 (F := Ideal) q (ix2 i j) = q (ix3 0 i j) := by
  pointwise [k0_pay8]

end Cert.Kernel3Ideal.Prj

end
-- ==== Proof.ProjPoint.lean ====
module

public import proofs.«01_k».proof.Proof.ProjBlock
public import proofs.«01_k».proof.Proof.Gen.Kernel3Ideal.Frame

/-! What one step of the projection writes into its first three results. -/

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem
open Idealize.ShloMosaic.Pipeline (Dat)

/-- Two stores, of the upper and the lower 256 rows. -/
theorem two (n : ℕ) {e : EltTy} [Inhabited (Elt Ideal e)] (P Q : (⟨2, ![256, n]⟩ : Shape).Idx → Elt Ideal e) (i0 i1) (r : Fin 512) (j : Fin n) :
    View.canon ([⟨Rect.unit ![256, 0] ![256, n] i1, Q⟩, ⟨Rect.unit ![0, 0] ![256, n] i0, P⟩] : List (View.Piece (Elt Ideal) ⟨2, ![512, n]⟩ e)) (ix2 r j)
      = if h : (r : ℕ) < 256 then P (ix2 ⟨r, h⟩ j) else Q (ix2 ⟨(r : ℕ) - 256, by omega⟩ j) := by
  have hr := r.isLt
  by_cases h : (r : ℕ) < 256
  · rw [dif_pos h, View.canon_cons_of_not_mem]
    · have e : (ix2 r j : (⟨2, ![512, n]⟩ : Shape).Idx) = (Rect.unit (s := ⟨2, ![512, n]⟩) ![0, 0] ![256, n] i0).emb (ix2 ⟨r, h⟩ j) := by
        funext a; apply Fin.ext; fin_cases a
        · show (r : ℕ) = 0 + 1 * (r : ℕ); omega
        · show (j : ℕ) = 0 + 1 * (j : ℕ); omega
      rw [e]; exact View.canon_cons_emb _ _ _ _
    · exact Rect.not_mem_set_of_axis _ _ (0 : Fin 2) 256 256 rfl rfl rfl (Or.inl h)
  · rw [dif_neg h]
    have e : (ix2 r j : (⟨2, ![512, n]⟩ : Shape).Idx) = (Rect.unit (s := ⟨2, ![512, n]⟩) ![256, 0] ![256, n] i1).emb (ix2 ⟨(r : ℕ) - 256, by omega⟩ j) := by
      funext a; apply Fin.ext; fin_cases a
      · show (r : ℕ) = 256 + 1 * ((r : ℕ) - 256); omega
      · show (j : ℕ) = 0 + 1 * (j : ℕ); omega
    rw [e]; exact View.canon_cons_emb _ _ _ _

/-- 256 rows from row `o` on. -/
theorem rows_ld (X : FVec Ideal S512x1024 .f32) (o : ℕ) (i) (ho : o + 256 ≤ 512) (r : Fin 256) (k : Fin 1024) :
    View.ld (Val := Elt Ideal) (e' := .f32) X (Rect.unit (s := S512x1024) ![o, 0] ![256, 1024] i) (ix2 r k) = X (ix2 ⟨o + r, by omega⟩ k) := by
  refine congrArg X ?_
  funext a; apply Fin.ext; fin_cases a
  · show o + 1 * (r : ℕ) = o + r; omega
  · show 0 + 1 * (k : ℕ) = k; omega

/-- One entry of the projection of a block. -/
def cell (X : FVec Ideal S512x1024 .f32) (A S : FVec Ideal S1x1x1024 .f32) (W : FVec Ideal S1024x2304 .bf16) (r : Fin 512) (j : Fin 2304) : EReal :=
  entry (fun k => X (ix2 r k)) (fun k => A (ix3 0 0 k)) (fun k => S (ix3 0 0 k)) fun k => W (ix2 k j)

theorem rows_cell (X : FVec Ideal S512x1024 .f32) (A S : FVec Ideal S1x1x1024 .f32) (W : FVec Ideal S1024x2304 .bf16) (o : ℕ) (i) (ho : o + 256 ≤ 512)
    (r : Fin 256) (j : Fin 2304) :
    k0_pay3 (F := Ideal) (View.ld (Val := Elt Ideal) (e' := .f32) X (Rect.unit (s := S512x1024) ![o, 0] ![256, 1024] i)) A S W (ix3 0 r j) = cell X A S W ⟨o + r, by omega⟩ j := by
  refine (rows_at _ A S W r j).trans ?_
  unfold cell
  congr 1
  funext k
  exact rows_ld X o i ho r k

theorem halves (n c : ℕ) (hc : c + n ≤ 2304) (X : FVec Ideal S512x1024 .f32) (A S : FVec Ideal S1x1x1024 .f32) (W : FVec Ideal S1024x2304 .bf16)
    (P Q : FVec Ideal ⟨2, ![256, n]⟩ .f32) (i0 i1 j0 j1)
    (hP : ∀ i j, P (ix2 i j) = cut c n hc (k0_pay3 (F := Ideal) (View.ld (Val := Elt Ideal) (e' := .f32) X (Rect.unit (s := S512x1024) ![0, 0] ![256, 1024] j0)) A S W) (ix3 0 i j))
    (hQ : ∀ i j, Q (ix2 i j) = cut c n hc (k0_pay3 (F := Ideal) (View.ld (Val := Elt Ideal) (e' := .f32) X (Rect.unit (s := S512x1024) ![256, 0] ![256, 1024] j1)) A S W) (ix3 0 i j))
    (r : Fin 512) (j : Fin n) :
    View.canon ([⟨Rect.unit ![256, 0] ![256, n] i1, Q⟩, ⟨Rect.unit ![0, 0] ![256, n] i0, P⟩] : List (View.Piece (Elt Ideal) ⟨2, ![512, n]⟩ .f32)) (ix2 r j)
      = cell X A S W r ⟨c + j, by omega⟩ := by
  rw [two]
  have hr := r.isLt
  by_cases h : (r : ℕ) < 256
  · rw [dif_pos h, hP]
    refine (rows_cell X A S W 0 j0 (by omega) ⟨r, h⟩ ⟨c + j, by omega⟩).trans ?_
    congr 1; apply Fin.ext; show 0 + (r : ℕ) = r; omega
  · rw [dif_neg h, hQ]
    refine (rows_cell X A S W 256 j1 (by omega) ⟨(r : ℕ) - 256, by omega⟩ ⟨c + j, by omega⟩).trans ?_
    congr 1; apply Fin.ext; show 256 + ((r : ℕ) - 256) = r; omega

variable (m : (ℓ : Loc nD τ sig) → Buf (Elt Ideal) ℓ)

theorem point0 (c : Dev nD) (t : Fin cfg0.N) (r : Fin 512) (j : Fin 768) :
    (outsAt0 m c t).1 (ix2 r j) = cell (iblk m c 0 t) (iblk m c 1 t) (iblk m c 2 t) (iblk m c 3 t) r ⟨0 + j, by omega⟩ := by
  unfold outsAt0
  frame_out
  simp only [second]
  rw [read0 _ 0 768 (by omega), read1 _ 0 768 (by omega)]
  exact halves 768 0 (by omega) _ _ _ _ _ _ _ _ _ _ (fun i j => half_a _ i j) (fun i j => half_a _ i j) r j

theorem point1 (c : Dev nD) (t : Fin cfg0.N) (r : Fin 512) (j : Fin 512) :
    (outsAt0 m c t).2.1 (ix2 r j) = cell (iblk m c 0 t) (iblk m c 1 t) (iblk m c 2 t) (iblk m c 3 t) r ⟨768 + j, by omega⟩ := by
  unfold outsAt0
  frame_out
  simp only [second]
  rw [read0 _ 768 512 (by omega), read1 _ 768 512 (by omega)]
  exact halves 512 768 (by omega) _ _ _ _ _ _ _ _ _ _ (fun i j => half_b _ i j) (fun i j => half_b _ i j) r j

theorem point2 (c : Dev nD) (t : Fin cfg0.N) (r : Fin 512) (j : Fin 512) :
    (outsAt0 m c t).2.2.1 (ix2 r j) = cell (iblk m c 0 t) (iblk m c 1 t) (iblk m c 2 t) (iblk m c 3 t) r ⟨1280 + j, by omega⟩ := by
  unfold outsAt0
  frame_out
  simp only [second]
  rw [read0 _ 1280 512 (by omega), read1 _ 1280 512 (by omega)]
  exact halves 512 1280 (by omega) _ _ _ _ _ _ _ _ _ _ (fun i j => half_b _ i j) (fun i j => half_b _ i j) r j

end Cert.Kernel3Ideal.Prj

end
-- ==== Proof.ProjTail.lean ====
module

public import proofs.«01_k».proof.Proof.ProjBlock

/-! The queries, keys and values of 256 rows, from the columns of the staged projection. -/

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem

/-- One over the root of the mean square of `n` entries, divided by the number `d`. -/
def unitOf {n : ℕ} (d : EReal) (x : Fin n → EReal) : EReal :=
  Ideal.rsqrt (Ideal.div (∑ k, x k * x k) d + Ideal.ofBits FTy.f32 0x358637BD#32)

/-- The column `s` lanes before `j` in its head of 128, around the end. -/
def lane (s : ℕ) (j : Fin 512) : Fin 512 := ⟨128 * ((j : ℕ) / 128) + ((j : ℕ) % 128 + 128 - s) % 128, by omega⟩

/-- A column's place in its head. -/
def place (j : Fin 512) : Fin 128 := ⟨(j : ℕ) % 128, by omega⟩

/-- A row's heads turned: each entry with the entries 16 before and 16 after it. -/
def turn (t : Fin 512 → EReal) (a b c : Fin 128 → EReal) (j : Fin 512) : EReal :=
  t j * a (place j) + t (lane 16 j) * b (place j) + t (lane 112 j) * c (place j)

/-- One head turned. -/
def piece (t : FVec Ideal S256x128 .f32) (a b c : FVec Ideal S256x128 .f32) : FVec Ideal S256x128 .f32 :=
  addf (addf (mulf t a) (mulf (dynamicRotate 1 16#32 none t rotates_S256x128_d1) b)) (mulf (dynamicRotate 1 112#32 none t rotates_S256x128_d1) c)

/-- Four heads turned. -/
def turnArr (t : FVec Ideal S256x512 .f32) (a b c : FVec Ideal S256x128 .f32) : FVec Ideal S256x512 .bf16 :=
  truncf .bf16 (concatenate S256x512 1 [⟨S256x128, piece (extractStridedSlice S256x128 ![0, 0] t slices_S256x512_o0_0_S256x128) a b c⟩,
    ⟨S256x128, piece (extractStridedSlice S256x128 ![0, 128] t slices_S256x512_o0_128_S256x128) a b c⟩,
    ⟨S256x128, piece (extractStridedSlice S256x128 ![0, 256] t slices_S256x512_o0_256_S256x128) a b c⟩,
    ⟨S256x128, piece (extractStridedSlice S256x128 ![0, 384] t slices_S256x512_o0_384_S256x128) a b c⟩]
    concatenates_S256x128_S256x128_S256x128_S256x128_S256x512_d1) bitsLt_bf16_f32

theorem piece_at (t a b c : FVec Ideal S256x128 .f32) (i : Fin 256) (l : Fin 128) :
    piece t a b c (ix2 i l) = t (ix2 i l) * a (ix2 i l) + t (ix2 i ⟨((l : ℕ) + 128 - 16) % 128, by omega⟩) * b (ix2 i l)
      + t (ix2 i ⟨((l : ℕ) + 128 - 112) % 128, by omega⟩) * c (ix2 i l) := by
  pointwise [piece]

/-- Head `q` of four, turned. -/
theorem head_turn (t : FVec Ideal S256x512 .f32) (a b c : FVec Ideal S256x128 .f32) (q : ℕ) (hq : q < 4) (u : FVec Ideal S256x128 .f32)
    (hu : ∀ i l, u (ix2 i l) = t (ix2 i ⟨128 * q + (l : ℕ), by omega⟩)) (i : Fin 256) (l : Fin 128) (j : Fin 512) (hj : (j : ℕ) = 128 * q + l) :
    piece u a b c (ix2 i l) = turn (fun k => t (ix2 i k)) (fun k => a (ix2 i k)) (fun k => b (ix2 i k)) (fun k => c (ix2 i k)) j := by
  have hl := l.isLt
  have e0 : place j = l := Fin.ext (by show (j : ℕ) % 128 = l; omega)
  have e1 : lane 16 j = ⟨128 * q + ((l : ℕ) + 128 - 16) % 128, by omega⟩ := Fin.ext (by show 128 * ((j : ℕ) / 128) + ((j : ℕ) % 128 + 128 - 16) % 128 = _; simp only; omega)
  have e2 : lane 112 j = ⟨128 * q + ((l : ℕ) + 128 - 112) % 128, by omega⟩ := Fin.ext (by show 128 * ((j : ℕ) / 128) + ((j : ℕ) % 128 + 128 - 112) % 128 = _; simp only; omega)
  have e3 : j = ⟨128 * q + (l : ℕ), by omega⟩ := Fin.ext hj
  rw [piece_at, hu, hu, hu]
  unfold turn
  rw [e0, e1, e2]
  rw [e3]

theorem turnArr_at (t : FVec Ideal S256x512 .f32) (a b c : FVec Ideal S256x128 .f32) (i : Fin 256) (j : Fin 512) :
    turnArr t a b c (ix2 i j) = turn (fun k => t (ix2 i k)) (fun k => a (ix2 i k)) (fun k => b (ix2 i k)) (fun k => c (ix2 i k)) j := by
  have hj := j.isLt
  pointwise [turnArr]
  by_cases h0 : (j : ℕ) < 128
  · rw [dif_pos h0]
    exact head_turn t a b c 0 (by omega) _ (fun i l => by pointwise) _ _ _ (by simp only; omega)
  rw [dif_neg h0]
  by_cases h1 : (j : ℕ) - 128 < 128
  · rw [dif_pos h1]
    exact head_turn t a b c 1 (by omega) _ (fun i l => by pointwise) _ _ _ (by simp only; omega)
  rw [dif_neg h1]
  by_cases h2 : (j : ℕ) - 128 - 128 < 128
  · rw [dif_pos h2]
    exact head_turn t a b c 2 (by omega) _ (fun i l => by pointwise) _ _ _ (by simp only; omega)
  rw [dif_neg h2]
  exact head_turn t a b c 3 (by omega) _ (fun i l => by pointwise) _ _ _ (by simp only; omega)

/-- The first half's queries. -/
theorem query0 (a b c : FVec Ideal S256x128 .f32) (p : FVec Ideal S1x256x256 .f32) (g : FVec Ideal S1x256 .f32) (w : FVec Ideal S256x512 .bf16) :
    k0_pay18 (F := Ideal) (k0_pay10 a) (k0_pay11 b) (k0_pay12 c) (k0_pay13 p g w) (k0_pay14 a b c p g w) (k0_pay16 a b p g w) (k0_pay17 c p g w)
      = turnArr (k0_pay13 p g w) (k0_pay10 a) (k0_pay11 b) (k0_pay12 c) := rfl

/-- The second half's queries. -/
theorem query1 (a b c : FVec Ideal S256x128 .f32) (p : FVec Ideal S1x256x256 .f32) (g : FVec Ideal S1x256 .f32) (w : FVec Ideal S256x512 .bf16) :
    k0_pay30 (F := Ideal) a b c (k0_pay29 p g) w = turnArr (k0_pay13 p g w) a b c := rfl

/-- The first half's keys. -/
theorem key0 (a b c : FVec Ideal S256x128 .f32) (p : FVec Ideal S256x256 .bf16) (w : FVec Ideal S256x768 .bf16) :
    k0_pay21 (F := Ideal) a b c p w = turnArr (extractStridedSlice S256x512 ![0, 0] (k0_pay20 p w) slices_S256x768_o0_0_S256x512) a b c := rfl

/-- The second half's keys. -/
theorem key1 (a b c : FVec Ideal S256x128 .f32) (p : FVec Ideal S1x256x128 .f32) (g : FVec Ideal S1x128 .f32) (r : FVec Ideal S1x256x128 .f32) (w : FVec Ideal S256x768 .bf16) :
    k0_pay1 (F := Ideal) a b c (k0_pay34 (k0_pay31 p) (k0_pay32 p) g r w) (k0_pay35 a b c (k0_pay31 p) (k0_pay32 p) g r w)
        (k0_pay36 a b c (k0_pay31 p) (k0_pay32 p) g r w) (k0_pay38 a b (k0_pay31 p) (k0_pay32 p) g r w) (k0_pay39 c (k0_pay31 p) (k0_pay32 p) g r w)
      = turnArr (extractStridedSlice S256x512 ![0, 0] (k0_pay20 (k0_pay19 p g r) w) slices_S256x768_o0_0_S256x512) a b c := rfl

/-- The second half's product of keys and values. -/
theorem value1 (p : FVec Ideal S1x256x128 .f32) (g : FVec Ideal S1x128 .f32) (r : FVec Ideal S1x256x128 .f32) (w : FVec Ideal S256x768 .bf16) :
    k0_pay2 (F := Ideal) (k0_pay33 (k0_pay31 p) (k0_pay32 p) g r w) = k0_pay22 (k0_pay19 p g r) w := rfl

theorem query_at (p : FVec Ideal S1x256x256 .f32) (g : FVec Ideal S1x256 .f32) (w : FVec Ideal S256x512 .bf16) (i : Fin 256) (j : Fin 512) :
    k0_pay13 (F := Ideal) p g w (ix2 i j)
      = ∑ k : Fin 256, p (ix3 0 i k) * unitOf (Ideal.ofBits FTy.f32 0x43400000#32) (fun k : Fin 256 => p (ix3 0 i k)) * g (ix2 0 k) * w (ix2 k j) := by
  pointwise [k0_pay13]
  rfl

theorem pair_at (p : FVec Ideal S1x256x128 .f32) (g : FVec Ideal S1x128 .f32) (r : FVec Ideal S1x256x128 .f32) (i k : Fin 256) :
    k0_pay19 (F := Ideal) p g r (ix2 i k) = if h : (k : ℕ) < 128
      then p (ix3 0 i ⟨k, h⟩) * unitOf (Ideal.ofBits FTy.f32 0x43000000#32) (fun k : Fin 128 => p (ix3 0 i k)) * g (ix2 0 ⟨k, h⟩)
      else r (ix3 0 i ⟨(k : ℕ) - 128, by omega⟩) := by
  pointwise [k0_pay19]
  rfl

theorem both_at (q : FVec Ideal S256x256 .bf16) (w : FVec Ideal S256x768 .bf16) (i : Fin 256) (j : Fin 768) :
    k0_pay20 (F := Ideal) q w (ix2 i j) = ∑ k : Fin 256, q (ix2 i k) * w (ix2 k j) := by
  pointwise [k0_pay20]

theorem value_at (q : FVec Ideal S256x256 .bf16) (w : FVec Ideal S256x768 .bf16) (i : Fin 256) (j : Fin 256) :
    k0_pay22 (F := Ideal) q w (ix2 i j) = k0_pay20 (F := Ideal) q w (ix2 i ⟨512 + j, by omega⟩) := by
  pointwise [k0_pay22]

theorem head_at (q : FVec Ideal S256x768 .f32) (i : Fin 256) (j : Fin 512) :
    extractStridedSlice S256x512 ![0, 0] q slices_S256x768_o0_0_S256x512 (ix2 i j) = q (ix2 i ⟨j, by omega⟩) := by
  pointwise

theorem same10 (a : FVec Ideal S256x128 .f32) : k0_pay10 (F := Ideal) a = a := shapeCast_self _ _
theorem same11 (a : FVec Ideal S256x128 .f32) : k0_pay11 (F := Ideal) a = a := shapeCast_self _ _
theorem same12 (a : FVec Ideal S256x128 .f32) : k0_pay12 (F := Ideal) a = a := shapeCast_self _ _
theorem same26 (a : FVec Ideal S256x128 .f32) : k0_pay26 (F := Ideal) a = a := shapeCast_self _ _
theorem same27 (a : FVec Ideal S256x128 .f32) : k0_pay27 (F := Ideal) a = a := shapeCast_self _ _
theorem same28 (a : FVec Ideal S256x128 .f32) : k0_pay28 (F := Ideal) a = a := shapeCast_self _ _

end Cert.Kernel3Ideal.Prj

end
-- ==== Proof.ProjRows.lean ====
module

public import proofs.«01_k».proof.Proof.ProjPoint
public import proofs.«01_k».proof.Proof.ProjTail

/-! What one step of the projection writes into its queries, keys and values. -/

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem
open Idealize.ShloMosaic.Pipeline (Dat)

/-- A row's queries before they are turned, from its projection. -/
def qrow (P : Fin 2304 → EReal) (g : FVec Ideal S1x256 .f32) (w : FVec Ideal S256x512 .bf16) (j : Fin 512) : EReal :=
  ∑ k : Fin 256, P ⟨1792 + k, by omega⟩ * unitOf (Ideal.ofBits FTy.f32 0x43400000#32) (fun k : Fin 256 => P ⟨1792 + k, by omega⟩) * g (ix2 0 k) * w (ix2 k j)

/-- A row's keys, before they are turned, and values. -/
def kvrow (P : Fin 2304 → EReal) (g : FVec Ideal S1x128 .f32) (w : FVec Ideal S256x768 .bf16) (j : Fin 768) : EReal :=
  ∑ k : Fin 256, (if h : (k : ℕ) < 128
    then P ⟨2048 + k, by omega⟩ * unitOf (Ideal.ofBits FTy.f32 0x43000000#32) (fun k : Fin 128 => P ⟨2048 + k, by omega⟩) * g (ix2 0 ⟨k, h⟩)
    else P ⟨2176 + ((k : ℕ) - 128), by omega⟩) * w (ix2 k j)

/-- 256 rows of a table from row `o` on. -/
theorem table_ld (X : FVec Ideal S512x128 .f32) (o : ℕ) (i) (ho : o + 256 ≤ 512) (r : Fin 256) (k : Fin 128) :
    View.ld (Val := Elt Ideal) (e' := .f32) X (Rect.unit (s := S512x128) ![o, 0] ![256, 128] i) (ix2 r k) = X (ix2 ⟨o + r, by omega⟩ k) := by
  refine congrArg X ?_
  funext a; apply Fin.ext; fin_cases a
  · show o + 1 * (r : ℕ) = o + r; omega
  · show 0 + 1 * (k : ℕ) = k; omega

section
variable (X : FVec Ideal S512x1024 .f32) (A S : FVec Ideal S1x1x1024 .f32) (W : FVec Ideal S1024x2304 .bf16)

/-- The rows of the half at `o`, projected. -/
abbrev half (o : ℕ) (i : ∀ a : Fin 2, (![o, 0] : Fin 2 → ℕ) a + (![256, 1024] : Fin 2 → ℕ) a ≤ S512x1024.size a) : FVec Ideal S1x256x2304 .f32 :=
  k0_pay3 (F := Ideal) (View.ld (Val := Elt Ideal) (e' := .f32) X (Rect.unit (s := S512x1024) ![o, 0] ![256, 1024] i)) A S W

theorem cut_half (c n : ℕ) (h : c + n ≤ 2304) (o : ℕ) (i) (ho : o + 256 ≤ 512) (r : Fin 256) (j : Fin n) :
    cut c n h (half X A S W o i) (ix3 0 r j) = cell X A S W ⟨o + r, by omega⟩ ⟨c + j, by omega⟩ :=
  rows_cell X A S W o i ho r ⟨c + j, by omega⟩

theorem half_query (g : FVec Ideal S1x256 .f32) (w : FVec Ideal S256x512 .bf16) (a b c : FVec Ideal S512x128 .f32) (o : ℕ) (i ia ib ic) (ho : o + 256 ≤ 512)
    (r : Fin 256) (j : Fin 512) :
    turnArr (k0_pay13 (F := Ideal) (cut 1792 256 (by omega) (half X A S W o i)) g w)
        (View.ld (Val := Elt Ideal) (e' := .f32) a (Rect.unit (s := S512x128) ![o, 0] ![256, 128] ia))
        (View.ld (Val := Elt Ideal) (e' := .f32) b (Rect.unit (s := S512x128) ![o, 0] ![256, 128] ib))
        (View.ld (Val := Elt Ideal) (e' := .f32) c (Rect.unit (s := S512x128) ![o, 0] ![256, 128] ic)) (ix2 r j)
      = turn (qrow (cell X A S W ⟨o + r, by omega⟩) g w) (fun d => a (ix2 ⟨o + r, by omega⟩ d)) (fun d => b (ix2 ⟨o + r, by omega⟩ d))
          (fun d => c (ix2 ⟨o + r, by omega⟩ d)) j := by
  rw [turnArr_at]
  congr 1
  · funext k
    rw [query_at]
    simp only [cut_half X A S W _ _ _ o i ho]
    rfl
  · funext d; exact table_ld a o ia ho r d
  · funext d; exact table_ld b o ib ho r d
  · funext d; exact table_ld c o ic ho r d

theorem half_both (g : FVec Ideal S1x128 .f32) (w : FVec Ideal S256x768 .bf16) (o : ℕ) (i) (ho : o + 256 ≤ 512)
    (r : Fin 256) (j : Fin 768) :
    k0_pay20 (F := Ideal) (k0_pay19 (cut 2048 128 (by omega) (half X A S W o i)) g (cut 2176 128 (by omega) (half X A S W o i))) w (ix2 r j)
      = kvrow (cell X A S W ⟨o + r, by omega⟩) g w j := by
  rw [both_at]
  simp only [pair_at, cut_half X A S W _ _ _ o i ho]
  rfl

theorem half_key (g : FVec Ideal S1x128 .f32) (w : FVec Ideal S256x768 .bf16) (a b c : FVec Ideal S512x128 .f32) (o : ℕ) (i ia ib ic) (ho : o + 256 ≤ 512)
    (r : Fin 256) (j : Fin 512) :
    turnArr (extractStridedSlice S256x512 ![0, 0] (k0_pay20 (F := Ideal) (k0_pay19 (cut 2048 128 (by omega) (half X A S W o i)) g
          (cut 2176 128 (by omega) (half X A S W o i))) w) slices_S256x768_o0_0_S256x512)
        (View.ld (Val := Elt Ideal) (e' := .f32) a (Rect.unit (s := S512x128) ![o, 0] ![256, 128] ia))
        (View.ld (Val := Elt Ideal) (e' := .f32) b (Rect.unit (s := S512x128) ![o, 0] ![256, 128] ib))
        (View.ld (Val := Elt Ideal) (e' := .f32) c (Rect.unit (s := S512x128) ![o, 0] ![256, 128] ic)) (ix2 r j)
      = turn (fun j => kvrow (cell X A S W ⟨o + r, by omega⟩) g w ⟨j, by omega⟩) (fun d => a (ix2 ⟨o + r, by omega⟩ d)) (fun d => b (ix2 ⟨o + r, by omega⟩ d))
          (fun d => c (ix2 ⟨o + r, by omega⟩ d)) j := by
  rw [turnArr_at]
  congr 1
  · funext k
    rw [head_at, half_both X A S W g w o i ho]
  · funext d; exact table_ld a o ia ho r d
  · funext d; exact table_ld b o ib ho r d
  · funext d; exact table_ld c o ic ho r d

end

/-- Two stores of halves, row by row. -/
theorem two_rows (n : ℕ) (P Q : FVec Ideal ⟨2, ![256, n]⟩ .bf16) (i0 i1) (G : Fin 512 → Fin n → EReal)
    (hP : ∀ i j, P (ix2 i j) = G ⟨0 + (i : ℕ), by omega⟩ j) (hQ : ∀ i j, Q (ix2 i j) = G ⟨256 + (i : ℕ), by omega⟩ j) (r : Fin 512) (j : Fin n) :
    View.canon ([⟨Rect.unit ![256, 0] ![256, n] i1, Q⟩, ⟨Rect.unit ![0, 0] ![256, n] i0, P⟩] : List (View.Piece (Elt Ideal) ⟨2, ![512, n]⟩ .bf16)) (ix2 r j)
      = G r j := by
  have hr := r.isLt
  refine (two n (e := .bf16) P Q i0 i1 r j).trans ?_
  by_cases h : (r : ℕ) < 256
  · rw [dif_pos h, hP]
    congr 1; apply Fin.ext; show 0 + (r : ℕ) = r; omega
  · rw [dif_neg h, hQ]
    congr 1; apply Fin.ext; show 256 + ((r : ℕ) - 256) = r; omega

variable (m : (ℓ : Loc nD τ sig) → Buf (Elt Ideal) ℓ)

theorem point3 (c : Dev nD) (t : Fin cfg0.N) (r : Fin 512) (j : Fin 512) :
    (outsAt0 m c t).2.2.2.1 (ix2 r j) = turn (qrow (cell (iblk m c 0 t) (iblk m c 1 t) (iblk m c 2 t) (iblk m c 3 t) r) (iblk m c 4 t) (iblk m c 5 t))
      (fun d => iblk m c 8 t (ix2 r d)) (fun d => iblk m c 9 t (ix2 r d)) (fun d => iblk m c 10 t (ix2 r d)) j := by
  unfold outsAt0
  frame_out
  simp only [second]
  rw [read0 _ 1792 256 (by omega), read1 _ 1792 256 (by omega)]
  rw [query0, query1, same10, same11, same12, same26, same27, same28]
  exact two_rows 512 _ _ _ _ (fun r j => turn (qrow (cell (iblk m c 0 t) (iblk m c 1 t) (iblk m c 2 t) (iblk m c 3 t) r) (iblk m c 4 t) (iblk m c 5 t))
      (fun d => iblk m c 8 t (ix2 r d)) (fun d => iblk m c 9 t (ix2 r d)) (fun d => iblk m c 10 t (ix2 r d)) j)
    (fun i j => half_query _ _ _ _ _ _ _ _ _ 0 _ _ _ _ (by omega) i j) (fun i j => half_query _ _ _ _ _ _ _ _ _ 256 _ _ _ _ (by omega) i j) r j

theorem point4 (c : Dev nD) (t : Fin cfg0.N) (r : Fin 512) (j : Fin 512) :
    (outsAt0 m c t).2.2.2.2.1 (ix2 r j) = turn (fun j => kvrow (cell (iblk m c 0 t) (iblk m c 1 t) (iblk m c 2 t) (iblk m c 3 t) r) (iblk m c 6 t) (iblk m c 7 t) ⟨j, by omega⟩)
      (fun d => iblk m c 8 t (ix2 r d)) (fun d => iblk m c 9 t (ix2 r d)) (fun d => iblk m c 10 t (ix2 r d)) j := by
  unfold outsAt0
  frame_out
  simp only [second]
  rw [read0 _ 2048 128 (by omega), read1 _ 2048 128 (by omega), read0 _ 2176 128 (by omega), read1 _ 2176 128 (by omega)]
  rw [key0, key1, same10, same11, same12, same26, same27, same28]
  exact two_rows 512 _ _ _ _ (fun r j => turn (fun j => kvrow (cell (iblk m c 0 t) (iblk m c 1 t) (iblk m c 2 t) (iblk m c 3 t) r) (iblk m c 6 t) (iblk m c 7 t) ⟨j, by omega⟩)
      (fun d => iblk m c 8 t (ix2 r d)) (fun d => iblk m c 9 t (ix2 r d)) (fun d => iblk m c 10 t (ix2 r d)) j)
    (fun i j => half_key _ _ _ _ _ _ _ _ _ 0 _ _ _ _ (by omega) i j) (fun i j => half_key _ _ _ _ _ _ _ _ _ 256 _ _ _ _ (by omega) i j) r j

theorem point5 (c : Dev nD) (t : Fin cfg0.N) (r : Fin 512) (j : Fin 256) :
    (outsAt0 m c t).2.2.2.2.2 (ix2 r j) = kvrow (cell (iblk m c 0 t) (iblk m c 1 t) (iblk m c 2 t) (iblk m c 3 t) r) (iblk m c 6 t) (iblk m c 7 t) ⟨512 + j, by omega⟩ := by
  unfold outsAt0
  frame_out
  simp only [second]
  rw [read0 _ 2048 128 (by omega), read1 _ 2048 128 (by omega), read0 _ 2176 128 (by omega), read1 _ 2176 128 (by omega)]
  rw [value1]
  exact two_rows 256 _ _ _ _ (fun r j => kvrow (cell (iblk m c 0 t) (iblk m c 1 t) (iblk m c 2 t) (iblk m c 3 t) r) (iblk m c 6 t) (iblk m c 7 t) ⟨512 + j, by omega⟩)
    (fun i j => (value_at _ _ i j).trans (half_both _ _ _ _ _ _ 0 _ (by omega) i _)) (fun i j => (value_at _ _ i j).trans (half_both _ _ _ _ _ _ 256 _ (by omega) i _)) r j

end Cert.Kernel3Ideal.Prj

end
-- ==== Proof.ProjRef.lean ====
module

public import proofs.«01_k».proof.Proof.ProjBlock
public import proofs.«01_k».proof.Proof.Gen.Reference3Ideal.Run

/-! The projection's reference, operation by operation, and what it holds at one index. -/

@[expose] public section

set_option maxRecDepth 16384

noncomputable section

namespace Cert.Reference3Ideal.Prj

open Cert.Reference3Ideal Cert.Reference3Ideal.Gen
open Cert.Kernel3Ideal.Prj (unit entry)
open Idealize.ShloMosaic Idealize.ShloMosaic.TcCoe Idealize.SL.Sem

/-- One over the root of each row's mean square. -/
def norms (x : FVec Ideal S8x4096x1024 .f32) : FVec Ideal S8x4096x1 .f32 :=
  Host.rsqrt (addf (Host.divf (broadcastInDim S8x4096x1 ![0, 1] bcast_S8x4096_S8x4096x1_0_1
      (Host.reduceAdd (mulf x x) (constant S_ .f32 0x00000000#32) reducesTo_S8x4096x1024_S8x4096_d2 h_S_))
    (broadcastInDim S8x4096x1 ![] bcast_S_S8x4096x1 (constant S_ .f32 0x44800000#32)))
    (broadcastInDim S8x4096x1 ![] bcast_S_S8x4096x1 (constant S_ .f32 0x358637BD#32)))

/-- The rows normed, scaled and shifted. -/
def hidden (x : FVec Ideal S8x4096x1024 .f32) (n : FVec Ideal S8x4096x1 .f32) (sc sh : FVec Ideal S9x1x1024 .f32) (g : FVec Ideal S1024 .f32) :
    FVec Ideal S8x4096x1024 .f32 :=
  addf (mulf (mulf (mulf x (broadcastInDim S8x4096x1024 ![0, 1, 2] bcast_S8x4096x1_S8x4096x1024_0_1_2 n))
      (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S8x1x1024_S8x4096x1024_0_1_2 (addf (broadcastInDim S8x1x1024 ![] bcast_S_S8x1x1024 (constant S_ .f32 0x3F800000#32))
      (extractStridedSlice S8x1x1024 ![0, 0, 0] sc slices_S9x1x1024_S8x1x1024_0_0_0))))
    (broadcastInDim S8x4096x1024 ![0, 1, 2] bcast_S8x1x1024_S8x4096x1024_0_1_2 (extractStridedSlice S8x1x1024 ![0, 0, 0] sh slices_S9x1x1024_S8x1x1024_0_0_0))

/-- The product with the weights. -/
def product (h : FVec Ideal S8x4096x1024 .f32) (w : FVec Ideal S1024x2144 .f32) : FVec Ideal S32768x2144 .f32 :=
  shapeCast _ (Host.dotGeneral dot_S8x4096x1024_S1024x2144_S8x4096x2144_2_0_01_1_n_n none h w : FVec Ideal S8x4096x2144 .f32) shapeCasts_S8x4096x2144_S32768x2144

/-- All columns of the projection. -/
def whole (x : FVec Ideal S8x4096x1024 .f32) (sc sh : FVec Ideal S9x1x1024 .f32) (g : FVec Ideal S1024 .f32) (w : FVec Ideal S1024x2144 .f32) :
    FVec Ideal S32768x2144 .f32 := product (hidden x (norms x) sc sh g) w

/-- The three results: the columns before 768, before 1280 and before 1792. -/
def first (p : FVec Ideal S32768x2144 .f32) : FVec Ideal S32768x768 .f32 := extractStridedSlice S32768x768 ![0, 0] p slices_S32768x2144_S32768x768_0_0
def middle (p : FVec Ideal S32768x2144 .f32) : FVec Ideal S32768x512 .f32 := extractStridedSlice S32768x512 ![0, 768] p slices_S32768x2144_S32768x512_0_768
def last (p : FVec Ideal S32768x2144 .f32) : FVec Ideal S32768x512 .f32 := extractStridedSlice S32768x512 ![0, 1280] p slices_S32768x2144_S32768x512_0_1280

theorem norms_at (x : FVec Ideal S8x4096x1024 .f32) (b : Fin 8) (r : Fin 4096) : norms x (ix3 b r 0) = unit fun k => x (ix3 b r k) := by
  pointwise [norms]
  rfl

theorem hidden_at (x : FVec Ideal S8x4096x1024 .f32) (n : FVec Ideal S8x4096x1 .f32) (sc sh : FVec Ideal S9x1x1024 .f32) (g : FVec Ideal S1024 .f32)
    (b : Fin 8) (r : Fin 4096) (k : Fin 1024) :
    hidden x n sc sh g (ix3 b r k) = x (ix3 b r k) * n (ix3 b r 0) * ((g (ix1 k) : EReal)
      * (Ideal.ofBits FTy.f32 0x3F800000#32 + sc (ix3 ⟨b, by omega⟩ 0 k))) + sh (ix3 ⟨b, by omega⟩ 0 k) := by
  pointwise [hidden]
  rw [mul_assoc]

theorem product_at (h : FVec Ideal S8x4096x1024 .f32) (w : FVec Ideal S1024x2144 .f32) (i : Fin 32768) (j : Fin 2144) :
    product h w (ix2 i j) = ∑ k : Fin 1024, h (ix3 ⟨(i : ℕ) / 4096, by omega⟩ ⟨(i : ℕ) % 4096, by omega⟩ k) * w (ix2 k j) := by
  pointwise [product]

theorem whole_at (x : FVec Ideal S8x4096x1024 .f32) (sc sh : FVec Ideal S9x1x1024 .f32) (g : FVec Ideal S1024 .f32) (w : FVec Ideal S1024x2144 .f32)
    (i : Fin 32768) (j : Fin 2144) :
    whole x sc sh g w (ix2 i j) = entry (fun k => x (ix3 ⟨(i : ℕ) / 4096, by omega⟩ ⟨(i : ℕ) % 4096, by omega⟩ k))
      (fun k => (g (ix1 k) : EReal) * (Ideal.ofBits FTy.f32 0x3F800000#32 + sc (ix3 ⟨(i : ℕ) / 4096, by omega⟩ 0 k)))
      (fun k => sh (ix3 ⟨(i : ℕ) / 4096, by omega⟩ 0 k)) fun k => w (ix2 k j) := by
  unfold whole
  rw [product_at]
  simp only [hidden_at, norms_at]
  rfl

theorem first_at (p : FVec Ideal S32768x2144 .f32) (i : Fin 32768) (j : Fin 768) : first p (ix2 i j) = p (ix2 i ⟨0 + j, by omega⟩) := by
  pointwise [first]
theorem middle_at (p : FVec Ideal S32768x2144 .f32) (i : Fin 32768) (j : Fin 512) : middle p (ix2 i j) = p (ix2 i ⟨768 + j, by omega⟩) := by
  pointwise [middle]
theorem last_at (p : FVec Ideal S32768x2144 .f32) (i : Fin 32768) (j : Fin 512) : last p (ix2 i j) = p (ix2 i ⟨1280 + j, by omega⟩) := by
  pointwise [last]

end Cert.Reference3Ideal.Prj

end
-- ==== Proof.ProjMatch.lean ====
module

public import proofs.«01_k».proof.Proof.ProjRows
public import proofs.«01_k».proof.Proof.ProjTables
public import proofs.«01_k».proof.Proof.ProjRef

/-! The kernel's padded sums and turns, and the reference's: the same. -/

@[expose] public section

set_option maxRecDepth 16384

noncomputable section

namespace Cert.Kernel3Ideal.Prj

open Cert.Kernel3Ideal Cert.Kernel3Ideal.Gen
open Idealize.ShloMosaic Idealize.ShloMosaic.TcCoe Idealize.SL.Sem

/-- A sum whose terms from `n` on are zero. -/
theorem sum_short {n N : ℕ} (hn : n ≤ N) (f : Fin N → EReal) (h : ∀ k : Fin N, n ≤ (k : ℕ) → f k = 0) : ∑ k, f k = ∑ k : Fin n, f ⟨k, by omega⟩ := by
  obtain ⟨d, rfl⟩ := Nat.exists_eq_add_of_le hn
  rw [Fin.sum_univ_add, Finset.sum_eq_zero (s := Finset.univ) (f := fun i : Fin d => f (Fin.natAdd n i)) fun i _ => h _ (by simp), add_zero]
  rfl

/-- A sum in two. -/
theorem sum_two {n d : ℕ} (f : Fin (n + d) → EReal) : ∑ k, f k = (∑ k : Fin n, f ⟨k, by omega⟩) + ∑ k : Fin d, f ⟨n + k, by omega⟩ := Fin.sum_univ_add f

theorem unitOf_short {n N : ℕ} (hn : n ≤ N) (d : EReal) (f : Fin N → EReal) (h : ∀ k : Fin N, n ≤ (k : ℕ) → f k = 0) :
    unitOf d f = unitOf d fun k : Fin n => f ⟨k, by omega⟩ := by
  unfold unitOf
  rw [sum_short hn _ fun k hk => by rw [h k hk, mul_zero]]

/-- A row's queries, of 192 columns followed by zeros. -/
theorem qrow_eq (P : Fin 2304 → EReal) (p : Fin 192 → EReal) (g : FVec Ideal S192 .f32) (w : FVec Ideal S192x384 .f32)
    (hp : ∀ k : Fin 192, P ⟨1792 + k, by omega⟩ = p k) (h0 : ∀ k : Fin 256, 192 ≤ (k : ℕ) → P ⟨1792 + k, by omega⟩ = 0) (j : Fin 512) :
    qrow P (qgArr g) (uqArr w) j = if h : (j : ℕ) % 128 < 96
      then ∑ k : Fin 192, p k * unitOf (Ideal.ofBits FTy.f32 0x43400000#32) p * g (ix1 k) * w (ix2 k ⟨(j : ℕ) / 128 * 96 + (j : ℕ) % 128, by omega⟩) else 0 := by
  unfold qrow
  rw [sum_short (n := 192) (by decide) _ fun k hk => by rw [h0 k hk, zero_mul, zero_mul, zero_mul]]
  rw [unitOf_short (n := 192) (by decide) _ _ h0]
  by_cases h : (j : ℕ) % 128 < 96
  · rw [dif_pos h]
    refine Finset.sum_congr rfl fun k _ => ?_
    rw [qgArr_at, uqArr_at, dif_pos k.isLt, dif_pos ⟨k.isLt, h⟩]
    simp only [hp]
    congr 2
    exact congrArg (ix2 k) (Fin.ext (by simp only; omega))
  · rw [dif_neg h]
    refine Finset.sum_eq_zero fun k _ => ?_
    rw [uqArr_at, dif_neg fun hh => h hh.2, mul_zero]

section
variable (P : Fin 2304 → EReal) (p : Fin 128 → EReal) (g : FVec Ideal S128 .f32) (w : FVec Ideal S128x512 .f32)

theorem kvrow_two (hp : ∀ k : Fin 128, P ⟨2048 + k, by omega⟩ = p k) (j : Fin 768) : kvrow P (kgArr g) (ukvArr w) j
    = (∑ k : Fin 128, p k * unitOf (Ideal.ofBits FTy.f32 0x43000000#32) p * g (ix1 k) * ukvArr w (ix2 ⟨k, by omega⟩ j))
      + ∑ k : Fin 128, P ⟨2176 + k, by omega⟩ * ukvArr w (ix2 ⟨128 + k, by omega⟩ j) := by
  unfold kvrow
  rw [sum_two (n := 128) (d := 128)]
  congr 1
  · refine Finset.sum_congr rfl fun k _ => ?_
    rw [dif_pos k.isLt, kgArr_at]
    simp only [hp]

/-- A row's values. -/
theorem value_eq (hp : ∀ k : Fin 128, P ⟨2048 + k, by omega⟩ = p k) (j : Fin 256) : kvrow P (kgArr g) (ukvArr w) ⟨512 + j, by omega⟩
    = ∑ k : Fin 128, p k * unitOf (Ideal.ofBits FTy.f32 0x43000000#32) p * g (ix1 k) * w (ix2 k ⟨(j : ℕ) / 64 * 128 + (64 + (j : ℕ) % 64), by omega⟩) := by
  rw [kvrow_two P p g w hp, Finset.sum_eq_zero (s := Finset.univ) (f := fun k : Fin 128 => P ⟨2176 + k, by omega⟩ * ukvArr w (ix2 ⟨128 + k, by omega⟩ ⟨512 + j, by omega⟩))
    fun k _ => by rw [ukvArr_none w _ j (by simp), mul_zero], add_zero]
  refine Finset.sum_congr rfl fun k _ => ?_
  rw [ukvArr_value w _ j k.isLt]
  congr 1
  exact congrArg w (congrArg (ix2 k) (Fin.ext (by simp only; omega)))

/-- A row's keys before they are turned. -/
theorem key_eq (hp : ∀ k : Fin 128, P ⟨2048 + k, by omega⟩ = p k)
    (r : Fin 32 → EReal) (hr : ∀ k : Fin 32, P ⟨2176 + k, by omega⟩ = r k) (j : Fin 512) :
    kvrow P (kgArr g) (ukvArr w) ⟨j, by omega⟩ = if h : (j : ℕ) % 128 < 64
      then ∑ k : Fin 128, p k * unitOf (Ideal.ofBits FTy.f32 0x43000000#32) p * g (ix1 k) * w (ix2 k ⟨(j : ℕ) / 128 * 128 + (j : ℕ) % 128, by omega⟩)
      else if h' : (j : ℕ) % 128 < 96 then r ⟨(j : ℕ) % 128 - 64, by omega⟩ else 0 := by
  have hj := j.isLt
  rw [kvrow_two P p g w hp]
  by_cases h : (j : ℕ) % 128 < 64
  · rw [dif_pos h, Finset.sum_eq_zero (s := Finset.univ) (f := fun k : Fin 128 => P ⟨2176 + k, by omega⟩ * ukvArr w (ix2 ⟨128 + k, by omega⟩ ⟨j, by omega⟩))
      fun k _ => by rw [ukvArr_place w _ _ (by simp) hj, if_neg (by simp only; omega), mul_zero], add_zero]
    refine Finset.sum_congr rfl fun k _ => ?_
    rw [ukvArr_key w _ _ k.isLt hj, dif_pos h]
    congr 1
    exact congrArg w (congrArg (ix2 k) (Fin.ext (by simp only; omega)))
  · rw [dif_neg h, Finset.sum_eq_zero fun k _ => by rw [ukvArr_key w _ _ (by simp) hj, dif_neg h, mul_zero], zero_add]
    by_cases h' : (j : ℕ) % 128 < 96
    · rw [dif_pos h', Finset.sum_eq_single ⟨(j : ℕ) % 128 - 64, by omega⟩]
      · rw [ukvArr_place w _ _ (by simp) hj, if_pos (by simp only; omega), mul_one]
        exact hr ⟨(j : ℕ) % 128 - 64, by omega⟩
      · intro k _ hk
        rw [ukvArr_place w _ _ (by simp) hj, if_neg (fun hh => hk (Fin.ext (by have := hh.2.2; simp only at this ⊢; omega))), mul_zero]
      · intro hh; exact absurd (Finset.mem_univ _) hh
    · rw [dif_neg h']
      refine Finset.sum_eq_zero fun k _ => ?_
      rw [ukvArr_place w _ _ (by simp) hj, if_neg (by simp only; omega), mul_zero]

end

/-- The turn with the kernel's tables: the columns before 64 stay, the next 32 turn in pairs 16 apart, and the rest stay. -/
theorem turn_eq (t : Fin 512 → EReal) (c s : FVec Ideal S4096x16 .f32) (l : Fin 4096) (j : Fin 512) :
    turn t (fun d => tabA c (ix2 l d)) (fun d => tabB s (ix2 l d)) (fun d => tabC s (ix2 l d)) j
      = if h0 : (j : ℕ) % 128 < 64 then t j
        else if h1 : (j : ℕ) % 128 < 80 then t j * c (ix2 l ⟨(j : ℕ) % 128 - 64, by omega⟩) - t ⟨(j : ℕ) + 16, by omega⟩ * s (ix2 l ⟨(j : ℕ) % 128 - 64, by omega⟩)
        else if h2 : (j : ℕ) % 128 < 96 then t ⟨(j : ℕ) - 16, by omega⟩ * s (ix2 l ⟨(j : ℕ) % 128 - 80, by omega⟩) + t j * c (ix2 l ⟨(j : ℕ) % 128 - 80, by omega⟩)
        else t j := by
  unfold turn
  simp only [tabA_at, tabB_at, tabC_at, place]
  by_cases h0 : (j : ℕ) % 128 < 64
  · rw [if_pos h0, dif_pos (by omega), dif_pos h0, dif_pos h0, mul_one, mul_zero, mul_zero, add_zero, add_zero]
  rw [if_neg h0, dif_neg (c := (j : ℕ) % 128 < 64) h0, dif_neg h0]
  by_cases h1 : (j : ℕ) % 128 < 80
  · rw [dif_pos h1, dif_pos h1, dif_pos h1, dif_pos h1, mul_zero, add_zero, mul_neg, ← sub_eq_add_neg]
    congr 2
    exact congrArg t (Fin.ext (by simp only [lane]; omega))
  rw [dif_neg h1, dif_neg h1, dif_neg h1, dif_neg h1, mul_zero, add_zero]
  by_cases h2 : (j : ℕ) % 128 < 96
  · rw [dif_pos h2, dif_pos h2, dif_pos h2, add_comm]
    congr 2
    exact congrArg t (Fin.ext (by simp only [lane]; omega))
  · rw [dif_neg h2, dif_neg h2, dif_neg h2, mul_one, mul_zero, add_zero]

end Cert.Kernel3Ideal.Prj

end
-- ==== Proof.ProjHeads.lean ====
module

public import proofs.«01_k».proof.Proof.ProjRef
public import proofs.«01_k».proof.Proof.ProjTail
public import proofs.«01_k».proof.Proof.ProjTables

/-! The reference's queries, keys and values, of its projection. -/

@[expose] public section

set_option maxRecDepth 16384

noncomputable section

namespace Cert.Reference3Ideal.Prj

open Cert.Reference3Ideal Cert.Reference3Ideal.Gen
open Cert.Kernel3Ideal.Prj (unitOf)
open Idealize.ShloMosaic Idealize.ShloMosaic.TcCoe Idealize.SL.Sem

/-- The projection before its rows are laid end to end. -/
def cube (h : FVec Ideal S8x4096x1024 .f32) (w : FVec Ideal S1024x2144 .f32) : FVec Ideal S8x4096x2144 .f32 :=
  Host.dotGeneral dot_S8x4096x1024_S1024x2144_S8x4096x2144_2_0_01_1_n_n none h w

theorem cube_at (h : FVec Ideal S8x4096x1024 .f32) (w : FVec Ideal S1024x2144 .f32) (i : Fin 32768) (j : Fin 2144) :
    cube h w (ix3 ⟨(i : ℕ) / 4096, by omega⟩ ⟨(i : ℕ) % 4096, by omega⟩ j) = product h w (ix2 i j) := by
  rw [product_at]
  pointwise [cube]

/-- The columns of the queries, of the keys and values, and of the keys' turned part. -/
def qCols (p : FVec Ideal S8x4096x2144 .f32) : FVec Ideal S8x4096x192 .f32 := extractStridedSlice S8x4096x192 ![0, 0, 1792] p slices_S8x4096x2144_S8x4096x192_0_0_1792
def kvCols (p : FVec Ideal S8x4096x2144 .f32) : FVec Ideal S8x4096x128 .f32 := extractStridedSlice S8x4096x128 ![0, 0, 1984] p slices_S8x4096x2144_S8x4096x128_0_0_1984
def rCols (p : FVec Ideal S8x4096x2144 .f32) : FVec Ideal S8x4096x32 .f32 := extractStridedSlice S8x4096x32 ![0, 0, 2112] p slices_S8x4096x2144_S8x4096x32_0_0_2112

theorem qCols_at (p : FVec Ideal S8x4096x2144 .f32) (b : Fin 8) (l : Fin 4096) (k : Fin 192) : qCols p (ix3 b l k) = p (ix3 b l ⟨1792 + k, by omega⟩) := by
  pointwise [qCols]
theorem kvCols_at (p : FVec Ideal S8x4096x2144 .f32) (b : Fin 8) (l : Fin 4096) (k : Fin 128) : kvCols p (ix3 b l k) = p (ix3 b l ⟨1984 + k, by omega⟩) := by
  pointwise [kvCols]
theorem rCols_at (p : FVec Ideal S8x4096x2144 .f32) (b : Fin 8) (l : Fin 4096) (k : Fin 32) : rCols p (ix3 b l k) = p (ix3 b l ⟨2112 + k, by omega⟩) := by
  pointwise [rCols]

/-- Their norms. -/
def qNorm (x : FVec Ideal S8x4096x192 .f32) : FVec Ideal S8x4096x1 .f32 :=
  Host.rsqrt (addf (Host.divf (broadcastInDim S8x4096x1 ![0, 1] bcast_S8x4096_S8x4096x1_0_1
      (Host.reduceAdd (mulf x x) (constant S_ .f32 0x00000000#32) reducesTo_S8x4096x192_S8x4096_d2 h_S_))
    (broadcastInDim S8x4096x1 ![] bcast_S_S8x4096x1 (constant S_ .f32 0x43400000#32)))
    (broadcastInDim S8x4096x1 ![] bcast_S_S8x4096x1 (constant S_ .f32 0x358637BD#32)))
def kvNorm (x : FVec Ideal S8x4096x128 .f32) : FVec Ideal S8x4096x1 .f32 :=
  Host.rsqrt (addf (Host.divf (broadcastInDim S8x4096x1 ![0, 1] bcast_S8x4096_S8x4096x1_0_1
      (Host.reduceAdd (mulf x x) (constant S_ .f32 0x00000000#32) reducesTo_S8x4096x128_S8x4096_d2 h_S_))
    (broadcastInDim S8x4096x1 ![] bcast_S_S8x4096x1 (constant S_ .f32 0x43000000#32)))
    (broadcastInDim S8x4096x1 ![] bcast_S_S8x4096x1 (constant S_ .f32 0x358637BD#32)))

theorem qNorm_at (x : FVec Ideal S8x4096x192 .f32) (b : Fin 8) (l : Fin 4096) :
    qNorm x (ix3 b l 0) = unitOf (Ideal.ofBits FTy.f32 0x43400000#32) fun k => x (ix3 b l k) := by
  pointwise [qNorm]
  rfl
theorem kvNorm_at (x : FVec Ideal S8x4096x128 .f32) (b : Fin 8) (l : Fin 4096) :
    kvNorm x (ix3 b l 0) = unitOf (Ideal.ofBits FTy.f32 0x43000000#32) fun k => x (ix3 b l k) := by
  pointwise [kvNorm]
  rfl

/-- The heads: the normed columns, scaled, against the weights. -/
def qHeads (x : FVec Ideal S8x4096x192 .f32) (n : FVec Ideal S8x4096x1 .f32) (g : FVec Ideal S192 .f32) (w : FVec Ideal S192x384 .f32) : FVec Ideal S8x4096x4x96 .f32 :=
  shapeCast _ (Host.dotGeneral dot_S8x4096x192_S192x384_S8x4096x384_2_0_01_1_n_n none
    (mulf (mulf x (broadcastInDim S8x4096x192 ![0, 1, 2] bcast_S8x4096x1_S8x4096x192_0_1_2 n))
      (broadcastInDim S8x4096x192 ![0, 1, 2] bcast_S1x1x192_S8x4096x192_0_1_2 (broadcastInDim S1x1x192 ![2] bcast_S192_S1x1x192_2 g))) w : FVec Ideal S8x4096x384 .f32)
    shapeCasts_S8x4096x384_S8x4096x4x96
def kvHeads (x : FVec Ideal S8x4096x128 .f32) (n : FVec Ideal S8x4096x1 .f32) (g : FVec Ideal S128 .f32) (w : FVec Ideal S128x512 .f32) : FVec Ideal S8x4096x4x128 .f32 :=
  shapeCast _ (Host.dotGeneral dot_S8x4096x128_S128x512_S8x4096x512_2_0_01_1_n_n none
    (mulf (mulf x (broadcastInDim S8x4096x128 ![0, 1, 2] bcast_S8x4096x1_S8x4096x128_0_1_2 n))
      (broadcastInDim S8x4096x128 ![0, 1, 2] bcast_S1x1x128_S8x4096x128_0_1_2 (broadcastInDim S1x1x128 ![2] bcast_S128_S1x1x128_2 g))) w : FVec Ideal S8x4096x512 .f32)
    shapeCasts_S8x4096x512_S8x4096x4x128

theorem qHeads_at (x : FVec Ideal S8x4096x192 .f32) (n : FVec Ideal S8x4096x1 .f32) (g : FVec Ideal S192 .f32) (w : FVec Ideal S192x384 .f32)
    (b : Fin 8) (l : Fin 4096) (h : Fin 4) (d : Fin 96) :
    qHeads x n g w (ix4 b l h d) = ∑ k : Fin 192, x (ix3 b l k) * n (ix3 b l 0) * g (ix1 k) * w (ix2 k ⟨(h : ℕ) * 96 + d, by omega⟩) := by
  pointwise [qHeads]
theorem kvHeads_at (x : FVec Ideal S8x4096x128 .f32) (n : FVec Ideal S8x4096x1 .f32) (g : FVec Ideal S128 .f32) (w : FVec Ideal S128x512 .f32)
    (b : Fin 8) (l : Fin 4096) (h : Fin 4) (d : Fin 128) :
    kvHeads x n g w (ix4 b l h d) = ∑ k : Fin 128, x (ix3 b l k) * n (ix3 b l 0) * g (ix1 k) * w (ix2 k ⟨(h : ℕ) * 128 + d, by omega⟩) := by
  pointwise [kvHeads]

/-- The keys' part turned. -/
def rTurned (x : FVec Ideal S8x4096x32 .f32) (c s : FVec Ideal S4096x16 .f32) : FVec Ideal S8x4096x32 .f32 :=
  concatenate S8x4096x32 2 [
    ⟨S8x4096x16, subf
      (mulf (extractStridedSlice S8x4096x16 ![0, 0, 0] x slices_S8x4096x32_S8x4096x16_0_0_0)
        (broadcastInDim S8x4096x16 ![0, 1, 2] bcast_S1x4096x16_S8x4096x16_0_1_2 (broadcastInDim S1x4096x16 ![1, 2] bcast_S4096x16_S1x4096x16_1_2 c)))
      (mulf (extractStridedSlice S8x4096x16 ![0, 0, 16] x slices_S8x4096x32_S8x4096x16_0_0_16)
        (broadcastInDim S8x4096x16 ![0, 1, 2] bcast_S1x4096x16_S8x4096x16_0_1_2 (broadcastInDim S1x4096x16 ![1, 2] bcast_S4096x16_S1x4096x16_1_2 s)))⟩,
    ⟨S8x4096x16, addf
      (mulf (extractStridedSlice S8x4096x16 ![0, 0, 0] x slices_S8x4096x32_S8x4096x16_0_0_0)
        (broadcastInDim S8x4096x16 ![0, 1, 2] bcast_S1x4096x16_S8x4096x16_0_1_2 (broadcastInDim S1x4096x16 ![1, 2] bcast_S4096x16_S1x4096x16_1_2 s)))
      (mulf (extractStridedSlice S8x4096x16 ![0, 0, 16] x slices_S8x4096x32_S8x4096x16_0_0_16)
        (broadcastInDim S8x4096x16 ![0, 1, 2] bcast_S1x4096x16_S8x4096x16_0_1_2 (broadcastInDim S1x4096x16 ![1, 2] bcast_S4096x16_S1x4096x16_1_2 c)))⟩]
    concatenates_S8x4096x16_S8x4096x16_S8x4096x32_d2

theorem rTurned_at (x : FVec Ideal S8x4096x32 .f32) (c s : FVec Ideal S4096x16 .f32) (b : Fin 8) (l : Fin 4096) (d : Fin 32) :
    rTurned x c s (ix3 b l d) = if h : (d : ℕ) < 16
      then x (ix3 b l d) * c (ix2 l ⟨d, h⟩) - x (ix3 b l ⟨16 + (d : ℕ), by omega⟩) * s (ix2 l ⟨d, h⟩)
      else x (ix3 b l ⟨(d : ℕ) - 16, by omega⟩) * s (ix2 l ⟨(d : ℕ) - 16, by omega⟩) + x (ix3 b l d) * c (ix2 l ⟨(d : ℕ) - 16, by omega⟩) := by
  pointwise [rTurned]
  by_cases h : (d : ℕ) < 16
  · rw [dif_pos h, dif_pos h]
  · rw [dif_neg h, dif_neg h]
    congr 2; congr 2; apply Fin.ext; simp only; omega

/-- The queries' part turned. -/
def qTurned (x : FVec Ideal S8x4096x4x32 .f32) (c s : FVec Ideal S4096x16 .f32) : FVec Ideal S8x4096x4x32 .f32 :=
  concatenate S8x4096x4x32 3 [
    ⟨S8x4096x4x16, subf
      (mulf (extractStridedSlice S8x4096x4x16 ![0, 0, 0, 0] x slices_S8x4096x4x32_S8x4096x4x16_0_0_0_0)
        (broadcastInDim S8x4096x4x16 ![0, 1, 2, 3] bcast_S1x4096x1x16_S8x4096x4x16_0_1_2_3 (broadcastInDim S1x4096x1x16 ![1, 3] bcast_S4096x16_S1x4096x1x16_1_3 c)))
      (mulf (extractStridedSlice S8x4096x4x16 ![0, 0, 0, 16] x slices_S8x4096x4x32_S8x4096x4x16_0_0_0_16)
        (broadcastInDim S8x4096x4x16 ![0, 1, 2, 3] bcast_S1x4096x1x16_S8x4096x4x16_0_1_2_3 (broadcastInDim S1x4096x1x16 ![1, 3] bcast_S4096x16_S1x4096x1x16_1_3 s)))⟩,
    ⟨S8x4096x4x16, addf
      (mulf (extractStridedSlice S8x4096x4x16 ![0, 0, 0, 0] x slices_S8x4096x4x32_S8x4096x4x16_0_0_0_0)
        (broadcastInDim S8x4096x4x16 ![0, 1, 2, 3] bcast_S1x4096x1x16_S8x4096x4x16_0_1_2_3 (broadcastInDim S1x4096x1x16 ![1, 3] bcast_S4096x16_S1x4096x1x16_1_3 s)))
      (mulf (extractStridedSlice S8x4096x4x16 ![0, 0, 0, 16] x slices_S8x4096x4x32_S8x4096x4x16_0_0_0_16)
        (broadcastInDim S8x4096x4x16 ![0, 1, 2, 3] bcast_S1x4096x1x16_S8x4096x4x16_0_1_2_3 (broadcastInDim S1x4096x1x16 ![1, 3] bcast_S4096x16_S1x4096x1x16_1_3 c)))⟩]
    concatenates_S8x4096x4x16_S8x4096x4x16_S8x4096x4x32_d3

theorem qTurned_at (x : FVec Ideal S8x4096x4x32 .f32) (c s : FVec Ideal S4096x16 .f32) (b : Fin 8) (l : Fin 4096) (n : Fin 4) (d : Fin 32) :
    qTurned x c s (ix4 b l n d) = if h : (d : ℕ) < 16
      then x (ix4 b l n d) * c (ix2 l ⟨d, h⟩) - x (ix4 b l n ⟨16 + (d : ℕ), by omega⟩) * s (ix2 l ⟨d, h⟩)
      else x (ix4 b l n ⟨(d : ℕ) - 16, by omega⟩) * s (ix2 l ⟨(d : ℕ) - 16, by omega⟩) + x (ix4 b l n d) * c (ix2 l ⟨(d : ℕ) - 16, by omega⟩) := by
  pointwise [qTurned]
  by_cases h : (d : ℕ) < 16
  · rw [dif_pos h, dif_pos h]
  · rw [dif_neg h, dif_neg h]
    congr 2; congr 2; apply Fin.ext; simp only; omega

/-- The three results: the heads with 32 zero columns after each, rows end to end. -/
def queries (x : FVec Ideal S8x4096x4x96 .f32) (c s : FVec Ideal S4096x16 .f32) : FVec Ideal S32768x512 .bf16 :=
  truncf .bf16 (shapeCast S32768x512 (concatenate S8x4096x4x128 3 [
    ⟨S8x4096x4x64, extractStridedSlice S8x4096x4x64 ![0, 0, 0, 0] x slices_S8x4096x4x96_S8x4096x4x64_0_0_0_0⟩,
    ⟨S8x4096x4x32, qTurned (extractStridedSlice S8x4096x4x32 ![0, 0, 0, 64] x slices_S8x4096x4x96_S8x4096x4x32_0_0_0_64) c s⟩,
    ⟨S8x4096x4x32, broadcastInDim S8x4096x4x32 ![] bcast_S_S8x4096x4x32 (constant S_ .f32 0x00000000#32)⟩]
    concatenates_S8x4096x4x64_S8x4096x4x32_S8x4096x4x32_S8x4096x4x128_d3 : FVec Ideal S8x4096x4x128 .f32) shapeCasts_S8x4096x4x128_S32768x512) bitsLt_bf16_f32
def keys (x : FVec Ideal S8x4096x4x128 .f32) (r : FVec Ideal S8x4096x32 .f32) : FVec Ideal S32768x512 .bf16 :=
  truncf .bf16 (shapeCast S32768x512 (concatenate S8x4096x4x128 3 [
    ⟨S8x4096x4x64, extractStridedSlice S8x4096x4x64 ![0, 0, 0, 0] x slices_S8x4096x4x128_S8x4096x4x64_0_0_0_0⟩,
    ⟨S8x4096x4x32, broadcastInDim S8x4096x4x32 ![0, 1, 2, 3] bcast_S8x4096x1x32_S8x4096x4x32_0_1_2_3 (broadcastInDim S8x4096x1x32 ![0, 1, 3] bcast_S8x4096x32_S8x4096x1x32_0_1_3 r)⟩,
    ⟨S8x4096x4x32, broadcastInDim S8x4096x4x32 ![] bcast_S_S8x4096x4x32 (constant S_ .f32 0x00000000#32)⟩]
    concatenates_S8x4096x4x64_S8x4096x4x32_S8x4096x4x32_S8x4096x4x128_d3 : FVec Ideal S8x4096x4x128 .f32) shapeCasts_S8x4096x4x128_S32768x512) bitsLt_bf16_f32
def values (x : FVec Ideal S8x4096x4x128 .f32) : FVec Ideal S32768x256 .bf16 :=
  truncf .bf16 (shapeCast S32768x256 (extractStridedSlice S8x4096x4x64 ![0, 0, 0, 64] x slices_S8x4096x4x128_S8x4096x4x64_0_0_0_64 : FVec Ideal S8x4096x4x64 .f32)
    shapeCasts_S8x4096x4x64_S32768x256) bitsLt_bf16_f32

theorem queries_at (x : FVec Ideal S8x4096x4x96 .f32) (c s : FVec Ideal S4096x16 .f32) (i : Fin 32768) (j : Fin 512) :
    queries x c s (ix2 i j) = if h : (j : ℕ) % 128 < 64 then x (ix4 ⟨(i : ℕ) / 4096, by omega⟩ ⟨(i : ℕ) % 4096, by omega⟩ ⟨(j : ℕ) / 128, by omega⟩ ⟨(j : ℕ) % 128, by omega⟩)
      else if h' : (j : ℕ) % 128 < 96 then qTurned (extractStridedSlice S8x4096x4x32 ![0, 0, 0, 64] x slices_S8x4096x4x96_S8x4096x4x32_0_0_0_64) c s
        (ix4 ⟨(i : ℕ) / 4096, by omega⟩ ⟨(i : ℕ) % 4096, by omega⟩ ⟨(j : ℕ) / 128, by omega⟩ ⟨(j : ℕ) % 128 - 64, by omega⟩) else 0 := by
  unfold queries
  generalize qTurned _ _ _ = y
  pointwise []
  by_cases h : (j : ℕ) % 128 < 64
  · refine (dif_pos h).trans ?_
    rw [dif_pos h]
  refine (dif_neg h).trans ?_
  rw [dif_neg h]
  by_cases h' : (j : ℕ) % 128 < 96
  · refine (dif_pos (by omega)).trans ?_
    rw [dif_pos h']
  · refine (dif_neg (by omega)).trans ?_
    rw [dif_neg h']

theorem qPart_at (x : FVec Ideal S8x4096x4x96 .f32) (b : Fin 8) (l : Fin 4096) (n : Fin 4) (d : Fin 32) :
    extractStridedSlice S8x4096x4x32 ![0, 0, 0, 64] x slices_S8x4096x4x96_S8x4096x4x32_0_0_0_64 (ix4 b l n d) = x (ix4 b l n ⟨64 + d, by omega⟩) := by
  pointwise []

set_option maxHeartbeats 2000000 in
theorem keys_at (x : FVec Ideal S8x4096x4x128 .f32) (r : FVec Ideal S8x4096x32 .f32) (i : Fin 32768) (j : Fin 512) :
    keys x r (ix2 i j) = if h : (j : ℕ) % 128 < 64 then x (ix4 ⟨(i : ℕ) / 4096, by omega⟩ ⟨(i : ℕ) % 4096, by omega⟩ ⟨(j : ℕ) / 128, by omega⟩ ⟨(j : ℕ) % 128, by omega⟩)
      else if h' : (j : ℕ) % 128 < 96 then r (ix3 ⟨(i : ℕ) / 4096, by omega⟩ ⟨(i : ℕ) % 4096, by omega⟩ ⟨(j : ℕ) % 128 - 64, by omega⟩) else 0 := by
  pointwise [keys]
  by_cases h : (j : ℕ) % 128 < 64
  · refine (dif_pos h).trans ?_
    rw [dif_pos h]
  refine (dif_neg h).trans ?_
  rw [dif_neg h]
  by_cases h' : (j : ℕ) % 128 < 96
  · refine (dif_pos (by omega)).trans ?_
    rw [dif_pos h']
  · refine (dif_neg (by omega)).trans ?_
    rw [dif_neg h']

theorem values_at (x : FVec Ideal S8x4096x4x128 .f32) (i : Fin 32768) (j : Fin 256) :
    values x (ix2 i j) = x (ix4 ⟨(i : ℕ) / 4096, by omega⟩ ⟨(i : ℕ) % 4096, by omega⟩ ⟨(j : ℕ) / 64, by omega⟩ ⟨64 + (j : ℕ) % 64, by omega⟩) := by
  pointwise [values]

end Cert.Reference3Ideal.Prj

end
-- ==== Proof.ProjSame.lean ====
module

public import proofs.«01_k».proof.Proof.ProjMatch
public import proofs.«01_k».proof.Proof.ProjHeads

/-! A row's queries, keys and values, in the kernel and in the reference. -/

@[expose] public section

set_option maxRecDepth 16384

noncomputable section

namespace Cert.Kernel3Ideal.Prj

open Cert.Kernel3Ideal Cert.Kernel3Ideal.Gen
open Cert.Reference3Ideal.Prj
open Idealize.ShloMosaic Idealize.ShloMosaic.TcCoe Idealize.SL.Sem

/-- The reference's three results, of its projection. -/
abbrev refQ (C : FVec Ideal ⟨3, ![8, 4096, 2144]⟩ .f32) (g : FVec Ideal S192 .f32) (w : FVec Ideal S192x384 .f32) (c s : FVec Ideal S4096x16 .f32) : FVec Ideal S32768x512 .bf16 :=
  queries (qHeads (qCols C) (qNorm (qCols C)) g w) c s
abbrev refK (C : FVec Ideal ⟨3, ![8, 4096, 2144]⟩ .f32) (g : FVec Ideal S128 .f32) (w : FVec Ideal S128x512 .f32) (c s : FVec Ideal S4096x16 .f32) : FVec Ideal S32768x512 .bf16 :=
  keys (kvHeads (kvCols C) (kvNorm (kvCols C)) g w) (rTurned (rCols C) c s)
abbrev refV (C : FVec Ideal ⟨3, ![8, 4096, 2144]⟩ .f32) (g : FVec Ideal S128 .f32) (w : FVec Ideal S128x512 .f32) : FVec Ideal S32768x256 .bf16 :=
  values (kvHeads (kvCols C) (kvNorm (kvCols C)) g w)

variable (P : Fin 2304 → EReal) (C : FVec Ideal ⟨3, ![8, 4096, 2144]⟩ .f32) (i : Fin 32768)

/-- The row's batch and its place there. -/
abbrev batch : Fin 8 := ⟨(i : ℕ) / 4096, by omega⟩
abbrev spot : Fin 4096 := ⟨(i : ℕ) % 4096, by omega⟩

theorem query_same (g : FVec Ideal S192 .f32) (w : FVec Ideal S192x384 .f32) (c s : FVec Ideal S4096x16 .f32)
    (hP : ∀ k : Fin 192, P ⟨1792 + k, by omega⟩ = C (ix3 (batch i) (spot i) ⟨1792 + k, by omega⟩))
    (hz : ∀ k : Fin 256, 192 ≤ (k : ℕ) → P ⟨1792 + k, by omega⟩ = 0) (j : Fin 512) :
    turn (qrow P (qgArr g) (uqArr w)) (fun d => tabA c (ix2 (spot i) d)) (fun d => tabB s (ix2 (spot i) d)) (fun d => tabC s (ix2 (spot i) d)) j
      = refQ C g w c s (ix2 i j) := by
  have hj := j.isLt
  unfold refQ
  obtain ⟨H, hH⟩ : ∃ H, H = qHeads (qCols C) (qNorm (qCols C)) g w := ⟨_, rfl⟩
  have hq : ∀ j : Fin 512, qrow P (qgArr g) (uqArr w) j = if h : (j : ℕ) % 128 < 96 then H (ix4 (batch i) (spot i) ⟨(j : ℕ) / 128, by omega⟩ ⟨(j : ℕ) % 128, h⟩) else 0 := by
    intro j
    rw [qrow_eq P (fun k => C (ix3 (batch i) (spot i) ⟨1792 + k, by omega⟩)) g w hP hz j]
    by_cases h : (j : ℕ) % 128 < 96
    · rw [dif_pos h, dif_pos h, hH, qHeads_at]
      simp only [qNorm_at, qCols_at]
    · rw [dif_neg h, dif_neg h]
  rw [turn_eq, ← hH, queries_at]
  by_cases h0 : (j : ℕ) % 128 < 64
  · rw [dif_pos h0, dif_pos h0, hq, dif_pos (by omega)]
  rw [dif_neg h0, dif_neg h0]
  by_cases h1 : (j : ℕ) % 128 < 80
  · rw [dif_pos h1, dif_pos (show (j : ℕ) % 128 < 96 by omega), qTurned_at, dif_pos (show (j : ℕ) % 128 - 64 < 16 by omega), qPart_at, qPart_at,
      hq, hq, dif_pos (show (j : ℕ) % 128 < 96 by omega), dif_pos (show ((j : ℕ) + 16) % 128 < 96 by omega)]
    exact congrArg₂ (· - ·)
      (congrArg (· * _) (congrArg H (congrArg₂ (ix4 (batch i) (spot i)) rfl (Fin.ext (by simp only; omega)))))
      (congrArg (· * _) (congrArg H (congrArg₂ (ix4 (batch i) (spot i)) (Fin.ext (by simp only; omega)) (Fin.ext (by simp only; omega)))))
  rw [dif_neg h1]
  by_cases h2 : (j : ℕ) % 128 < 96
  · rw [dif_pos h2, dif_pos h2, qTurned_at, dif_neg (show ¬ (j : ℕ) % 128 - 64 < 16 by omega), qPart_at, qPart_at,
      hq, hq, dif_pos (show ((j : ℕ) - 16) % 128 < 96 by omega), dif_pos h2]
    exact congrArg₂ (· + ·)
      (congrArg₂ (· * ·) (congrArg H (congrArg₂ (ix4 (batch i) (spot i)) (Fin.ext (by simp only; omega)) (Fin.ext (by simp only; omega))))
        (congrArg s (congrArg (ix2 (spot i)) (Fin.ext (by simp only; omega)))))
      (congrArg₂ (· * ·) (congrArg H (congrArg₂ (ix4 (batch i) (spot i)) rfl (Fin.ext (by simp only; omega))))
        (congrArg c (congrArg (ix2 (spot i)) (Fin.ext (by simp only; omega)))))
  · rw [dif_neg h2, dif_neg h2, hq, dif_neg h2]

section
variable (g : FVec Ideal S128 .f32) (w : FVec Ideal S128x512 .f32)

theorem key_same (hP : ∀ k : Fin 128, P ⟨2048 + k, by omega⟩ = C (ix3 (batch i) (spot i) ⟨1984 + k, by omega⟩))
    (c s : FVec Ideal S4096x16 .f32)
    (hr : ∀ k : Fin 32, P ⟨2176 + k, by omega⟩ = C (ix3 (batch i) (spot i) ⟨2112 + k, by omega⟩)) (j : Fin 512) :
    turn (fun j => kvrow P (kgArr g) (ukvArr w) ⟨j, by omega⟩) (fun d => tabA c (ix2 (spot i) d)) (fun d => tabB s (ix2 (spot i) d)) (fun d => tabC s (ix2 (spot i) d)) j
      = refK C g w c s (ix2 i j) := by
  have hj := j.isLt
  unfold refK
  obtain ⟨H, hH⟩ : ∃ H, H = kvHeads (kvCols C) (kvNorm (kvCols C)) g w := ⟨_, rfl⟩
  have hk : ∀ j : Fin 512, kvrow P (kgArr g) (ukvArr w) ⟨j, by omega⟩ = if h : (j : ℕ) % 128 < 64
      then H (ix4 (batch i) (spot i) ⟨(j : ℕ) / 128, by omega⟩ ⟨(j : ℕ) % 128, by omega⟩)
      else if h' : (j : ℕ) % 128 < 96 then C (ix3 (batch i) (spot i) ⟨2112 + ((j : ℕ) % 128 - 64), by omega⟩) else 0 := by
    intro j
    rw [key_eq P (fun k => C (ix3 (batch i) (spot i) ⟨1984 + k, by omega⟩)) g w hP (fun k => C (ix3 (batch i) (spot i) ⟨2112 + k, by omega⟩)) hr j]
    by_cases h : (j : ℕ) % 128 < 64
    · rw [dif_pos h, dif_pos h, hH, kvHeads_at]
      simp only [kvNorm_at, kvCols_at]
    · rw [dif_neg h, dif_neg h]
  rw [turn_eq, ← hH, keys_at]
  by_cases h0 : (j : ℕ) % 128 < 64
  · rw [dif_pos h0, dif_pos h0, hk, dif_pos h0]
  rw [dif_neg h0, dif_neg h0]
  by_cases h1 : (j : ℕ) % 128 < 80
  · rw [dif_pos h1, dif_pos (show (j : ℕ) % 128 < 96 by omega), rTurned_at, dif_pos (show (j : ℕ) % 128 - 64 < 16 by omega), rCols_at, rCols_at,
      hk, hk, dif_neg h0, dif_pos (show (j : ℕ) % 128 < 96 by omega), dif_neg (show ¬ ((j : ℕ) + 16) % 128 < 64 by omega), dif_pos (show ((j : ℕ) + 16) % 128 < 96 by omega)]
    exact congrArg₂ (· - ·) rfl
      (congrArg (· * _) (congrArg C (congrArg (ix3 (batch i) (spot i)) (Fin.ext (by simp only; omega)))))
  rw [dif_neg h1]
  by_cases h2 : (j : ℕ) % 128 < 96
  · rw [dif_pos h2, dif_pos h2, rTurned_at, dif_neg (show ¬ (j : ℕ) % 128 - 64 < 16 by omega), rCols_at, rCols_at,
      hk, hk, dif_neg (show ¬ ((j : ℕ) - 16) % 128 < 64 by omega), dif_pos (show ((j : ℕ) - 16) % 128 < 96 by omega), dif_neg h0, dif_pos h2]
    exact congrArg₂ (· + ·)
      (congrArg₂ (· * ·) (congrArg C (congrArg (ix3 (batch i) (spot i)) (Fin.ext (by simp only; omega))))
        (congrArg s (congrArg (ix2 (spot i)) (Fin.ext (by simp only; omega)))))
      (congrArg₂ (· * ·) rfl
        (congrArg c (congrArg (ix2 (spot i)) (Fin.ext (by simp only; omega)))))
  · rw [dif_neg h2, dif_neg h2, hk, dif_neg h0, dif_neg h2]

theorem value_same (hP : ∀ k : Fin 128, P ⟨2048 + k, by omega⟩ = C (ix3 (batch i) (spot i) ⟨1984 + k, by omega⟩))
    (j : Fin 256) : kvrow P (kgArr g) (ukvArr w) ⟨512 + j, by omega⟩ = refV C g w (ix2 i j) := by
  unfold refV
  rw [value_eq P (fun k => C (ix3 (batch i) (spot i) ⟨1984 + k, by omega⟩)) g w hP j, values_at, kvHeads_at]
  simp only [kvNorm_at, kvCols_at]

end

end Cert.Kernel3Ideal.Prj

end
-- ==== Proof.ProjFinal.lean ====
module

public import proofs.«01_k».proof.Proof.ProjOperands
public import proofs.«01_k».proof.Proof.ProjSame
public import proofs.«01_k».proof.Proof.Gen.Kernel3Ideal.Value
public import proofs.«01_k».proof.Defs
public import Idealize.ShloMosaic.Lib.Claim

/-! The projection's results are the reference's. -/

@[expose] public section

set_option maxRecDepth 16384

noncomputable section

namespace Cert.Kernel3Ideal.Prj

open Cert.Kernel3Ideal Cert.Kernel3Ideal.Gen
open Cert.Reference3Ideal.Prj (whole whole_at first middle last first_at middle_at last_at cube cube_at hidden norms)
open Idealize.ShloMosaic Idealize.ShloMosaic.TcCoe Idealize.SL.Sem
open Idealize.ShloMosaic.Pipeline (Dat)

variable (m : (ℓ : Loc nD τ sig) → Buf (Elt Ideal) ℓ)

/-- All columns of the reference's projection, of the kernel's arguments. -/
abbrev full (c : Dev nD) : FVec Ideal ⟨2, ![32768, 2144]⟩ .f32 :=
  whole (m ((c : Thread nD τ).loc main_arg0)) (m ((c : Thread nD τ).loc main_arg1)) (m ((c : Thread nD τ).loc main_arg2))
    (m ((c : Thread nD τ).loc main_arg3)) (m ((c : Thread nD τ).loc main_arg4))

/-- A column whose packed weights are the reference's weights of column `j'`. -/
theorem cell_to (c : Dev nD) (t : Fin cfg0.N) (r : Fin 512) (j : Fin 2304) (j' : Fin 2144)
    (hw : ∀ k : Fin 1024, wArr (m ((c : Thread nD τ).loc main_arg4)) (ix2 k j) = (m ((c : Thread nD τ).loc main_arg4) : FVec Ideal S1024x2144 .f32) (ix2 k j')) :
    cell (iblk m c 0 t) (iblk m c 1 t) (iblk m c 2 t) (iblk m c 3 t) r j
      = full m c (ix2 ⟨512 * t + r, by have := lt64 t; omega⟩ j') := by
  have ht := lt64 t
  refine Eq.trans ?_ (whole_at _ _ _ _ _ _ _).symm
  unfold cell
  simp only [x_row, a_blk, s_blk, w_blk, aArr_at, hw]
  have eb : (512 * (t : ℕ) + r) / 4096 = (t : ℕ) / 8 := by omega
  simp only [eb]

/-- A column without weights. -/
theorem cell_none (c : Dev nD) (t : Fin cfg0.N) (r : Fin 512) (j : Fin 2304)
    (hw : ∀ k : Fin 1024, wArr (m ((c : Thread nD τ).loc main_arg4)) (ix2 k j) = (0 : EReal)) :
    cell (iblk m c 0 t) (iblk m c 1 t) (iblk m c 2 t) (iblk m c 3 t) r j = 0 := by
  unfold cell
  simp only [w_blk, hw]
  exact Finset.sum_eq_zero fun k _ => mul_zero _

theorem cell_eq (c : Dev nD) (t : Fin cfg0.N) (r : Fin 512) (j : Fin 2304) (hj : (j : ℕ) < 1792) :
    cell (iblk m c 0 t) (iblk m c 1 t) (iblk m c 2 t) (iblk m c 3 t) r j
      = full m c (ix2 ⟨512 * t + r, by have := lt64 t; omega⟩ ⟨j, by omega⟩) :=
  cell_to m c t r j _ fun k => wArr_at _ k j hj

theorem final0 (c : Dev nD) : (dats m 0 c).arrAt 11 cfg0.N = first (full m c) := by
  refine (dats m 0 c).arrAt_eq_of_covers 11 _ (by decide +kernel) fun t hf y => ?_
  have ht := lt64 t
  rw [after0_11]
  have e : ∀ r j, (outsAt0 m c t).1 (ix2 r j) = first (full m c) (((cfg0.win 11).blk t).view.emb (ix2 r j)) := fun r j => by
    refine ((point0 m c t r j).trans ((cell_eq m c t r _ (by show 0 + (j : ℕ) < 1792; omega)).trans (first_at _ _ _).symm)).trans ?_
    generalize first _ = G
    blk_ext [idx t]
  blk_simp
  rw [show y = ix2 (y 0) (y 1) from funext fun a => by fin_cases a <;> rfl]
  exact e _ _

theorem final1 (c : Dev nD) : (dats m 0 c).arrAt 12 cfg0.N = middle (full m c) := by
  refine (dats m 0 c).arrAt_eq_of_covers 12 _ (by decide +kernel) fun t hf y => ?_
  have ht := lt64 t
  rw [after0_12]
  have e : ∀ r j, (outsAt0 m c t).2.1 (ix2 r j) = middle (full m c) (((cfg0.win 12).blk t).view.emb (ix2 r j)) := fun r j => by
    refine ((point1 m c t r j).trans ((cell_eq m c t r _ (by show 768 + (j : ℕ) < 1792; omega)).trans (middle_at _ _ _).symm)).trans ?_
    generalize middle _ = G
    blk_ext [idx t]
  blk_simp
  rw [show y = ix2 (y 0) (y 1) from funext fun a => by fin_cases a <;> rfl]
  exact e _ _

theorem final2 (c : Dev nD) : (dats m 0 c).arrAt 13 cfg0.N = last (full m c) := by
  refine (dats m 0 c).arrAt_eq_of_covers 13 _ (by decide +kernel) fun t hf y => ?_
  have ht := lt64 t
  rw [after0_13]
  have e : ∀ r j, (outsAt0 m c t).2.2.1 (ix2 r j) = last (full m c) (((cfg0.win 13).blk t).view.emb (ix2 r j)) := fun r j => by
    refine ((point2 m c t r j).trans ((cell_eq m c t r _ (by show 1280 + (j : ℕ) < 1792; omega)).trans (last_at _ _ _).symm)).trans ?_
    generalize last _ = G
    blk_ext [idx t]
  blk_simp
  rw [show y = ix2 (y 0) (y 1) from funext fun a => by fin_cases a <;> rfl]
  exact e _ _

/-- The reference's projection before its rows are laid end to end. -/
abbrev block (c : Dev nD) : FVec Ideal ⟨3, ![8, 4096, 2144]⟩ .f32 :=
  cube (hidden (m ((c : Thread nD τ).loc main_arg0)) (norms (m ((c : Thread nD τ).loc main_arg0))) (m ((c : Thread nD τ).loc main_arg1))
    (m ((c : Thread nD τ).loc main_arg2)) (m ((c : Thread nD τ).loc main_arg3))) (m ((c : Thread nD τ).loc main_arg4))

theorem block_at (c : Dev nD) (i : Fin 32768) (j : Fin 2144) : block m c (ix3 (batch i) (spot i) j) = full m c (ix2 i j) := cube_at _ _ i j

abbrev endQ (c : Dev nD) := refQ (block m c) (m ((c : Thread nD τ).loc main_arg5)) (m ((c : Thread nD τ).loc main_arg6)) cosArr sinArr
abbrev endK (c : Dev nD) := refK (block m c) (m ((c : Thread nD τ).loc main_arg7)) (m ((c : Thread nD τ).loc main_arg8)) cosArr sinArr
abbrev endV (c : Dev nD) := refV (block m c) (m ((c : Thread nD τ).loc main_arg7)) (m ((c : Thread nD τ).loc main_arg8))

/-- The row of the results that is row `r` of block `t`. -/
abbrev row (t : Fin cfg0.N) (r : Fin 512) : Fin 32768 := ⟨512 * t + r, by have := lt64 t; omega⟩

theorem table_row (t : Fin cfg0.N) (r : Fin 512) : (⟨512 * ((t : ℕ) % 8) + r, by omega⟩ : Fin 4096) = spot (row t r) :=
  Fin.ext (by show 512 * ((t : ℕ) % 8) + (r : ℕ) = (512 * (t : ℕ) + r) % 4096; omega)

theorem end3 (c : Dev nD) (t : Fin cfg0.N) (r : Fin 512) (j : Fin 512) : (outsAt0 m c t).2.2.2.1 (ix2 r j) = endQ m c (ix2 (row t r) j) := by
  rw [point3, qg_blk, uq_blk]
  simp only [tabA_blk, tabB_blk, tabC_blk, table_row]
  refine query_same _ (block m c) (row t r) _ _ _ _ (fun k => ?_) (fun k hk => ?_) j
  · rw [block_at]
    exact cell_to m c t r _ _ fun n => (wArr_q _ n ⟨k, by omega⟩).trans (dif_pos k.isLt)
  · exact cell_none m c t r _ fun n => (wArr_q _ n k).trans (dif_neg (by omega))

theorem end4 (c : Dev nD) (t : Fin cfg0.N) (r : Fin 512) (j : Fin 512) : (outsAt0 m c t).2.2.2.2.1 (ix2 r j) = endK m c (ix2 (row t r) j) := by
  rw [point4, kg_blk, ukv_blk]
  simp only [tabA_blk, tabB_blk, tabC_blk, table_row]
  refine key_same _ (block m c) (row t r) _ _ (fun k => ?_) _ _ (fun k => ?_) j
  · rw [block_at]
    exact cell_to m c t r _ _ fun n => wArr_kv _ n k
  · rw [block_at]
    exact cell_to m c t r _ _ fun n => (wArr_r _ n ⟨k, by omega⟩).trans (dif_pos k.isLt)

theorem end5 (c : Dev nD) (t : Fin cfg0.N) (r : Fin 512) (j : Fin 256) : (outsAt0 m c t).2.2.2.2.2 (ix2 r j) = endV m c (ix2 (row t r) j) := by
  rw [point5, kg_blk, ukv_blk]
  refine value_same _ (block m c) (row t r) _ _ (fun k => ?_) j
  rw [block_at]
  exact cell_to m c t r _ _ fun n => wArr_kv _ n k

theorem final3 (c : Dev nD) : (dats m 0 c).arrAt 14 cfg0.N = endQ m c := by
  refine (dats m 0 c).arrAt_eq_of_covers 14 _ (by decide +kernel) fun t hf y => ?_
  have ht := lt64 t
  rw [after0_14]
  have e : ∀ r j, (outsAt0 m c t).2.2.2.1 (ix2 r j) = endQ m c (((cfg0.win 14).blk t).view.emb (ix2 r j)) := fun r j => by
    refine (end3 m c t r j).trans ?_
    generalize endQ m c = G
    blk_ext [idx' t]
  blk_simp
  rw [show y = ix2 (y 0) (y 1) from funext fun a => by fin_cases a <;> rfl]
  exact e _ _

theorem final4 (c : Dev nD) : (dats m 0 c).arrAt 15 cfg0.N = endK m c := by
  refine (dats m 0 c).arrAt_eq_of_covers 15 _ (by decide +kernel) fun t hf y => ?_
  have ht := lt64 t
  rw [after0_15]
  have e : ∀ r j, (outsAt0 m c t).2.2.2.2.1 (ix2 r j) = endK m c (((cfg0.win 15).blk t).view.emb (ix2 r j)) := fun r j => by
    refine (end4 m c t r j).trans ?_
    generalize endK m c = G
    blk_ext [idx' t]
  blk_simp
  rw [show y = ix2 (y 0) (y 1) from funext fun a => by fin_cases a <;> rfl]
  exact e _ _

theorem final5 (c : Dev nD) : (dats m 0 c).arrAt 16 cfg0.N = endV m c := by
  refine (dats m 0 c).arrAt_eq_of_covers 16 _ (by decide +kernel) fun t hf y => ?_
  have ht := lt64 t
  rw [after0_16]
  have e : ∀ r j, (outsAt0 m c t).2.2.2.2.2 (ix2 r j) = endV m c (((cfg0.win 16).blk t).view.emb (ix2 r j)) := fun r j => by
    refine (end5 m c t r j).trans ?_
    generalize endV m c = G
    blk_ext [idx' t]
  blk_simp
  rw [show y = ix2 (y 0) (y 1) from funext fun a => by fin_cases a <;> rfl]
  exact e _ _

/-- The reference leaves its arguments as they were; it has no semaphore. -/
theorem frame_reference : Cert.quiescent_Reference3Ideal :=
  fun m g _ => θ_run_mono (Cert.Reference3Ideal.Value.run m g) fun r h => ⟨fun c => (h c).2.2.2.2.2.2, sem_eq_zero_of_no_sems (by decide) r.2⟩

set_option maxHeartbeats 4000000 in
/-- The six results equal the reference's. -/
theorem algebraic : Cert.algebraic_Kernel3Ideal_Reference3Ideal := by
  intro m g m' g' hpre hagree
  refine ⟨fun c => (dats m 0 c).arrAt 11 cfg0.N, fun c => (dats m 0 c).arrAt 12 cfg0.N, fun c => (dats m 0 c).arrAt 13 cfg0.N,
    fun c => (dats m 0 c).arrAt 14 cfg0.N, fun c => (dats m 0 c).arrAt 15 cfg0.N, fun c => (dats m 0 c).arrAt 16 cfg0.N, ?_, ?_⟩
  · exact Cert.Kernel3Ideal.Value.run_blocks m g
  · refine θ_run_mono (Cert.Reference3Ideal.Value.run m' g') fun r hr c => ?_
    obtain ⟨h0, h1, h2, h3, h4, h5, hargs⟩ := hr c
    obtain ⟨e0, e1, e2, e3, e4, e5, e6, e7, e8⟩ := hagree c
    refine ⟨h0.trans ?_, h1.trans ?_, h2.trans ?_, h3.trans ?_, h4.trans ?_, h5.trans ?_, hargs⟩
    · rw [e0, e1, e2, e3, e4]
      exact (final0 m c).symm
    · rw [e0, e1, e2, e3, e4]
      exact (final1 m c).symm
    · rw [e0, e1, e2, e3, e4]
      exact (final2 m c).symm
    · unfold Cert.Reference3Ideal.Value.res_main_v127
      rw [e0, e1, e2, e3, e4, e5, e6]
      exact (final3 m c).symm
    · unfold Cert.Reference3Ideal.Value.res_main_v129
      rw [e0, e1, e2, e3, e4, e7, e8]
      exact (final4 m c).symm
    · unfold Cert.Reference3Ideal.Value.res_main_v132
      rw [e0, e1, e2, e3, e4, e7, e8]
      exact (final5 m c).symm

end Cert.Kernel3Ideal.Prj

end
-- ==== Proof.lean ====
/- The claims about the latent attention, the grouped experts and the latent projection: the frames of each kernel and its ideal reading, and the equality of its results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Pre_finite_scores
public import proofs.«01_k».proof.Proof.Final
public import proofs.«01_k».proof.Proof.MoeFinal
public import proofs.«01_k».proof.Proof.ProjFinal
public import Idealize.ShloMosaic.Adequacy
public import Idealize.ShloMosaic.Init
public import Idealize.ShloMosaic.Lib.Claim

@[expose] public section

noncomputable section

namespace Cert.Proof

open Idealize.ShloMosaic Idealize.SL.Sem

/-- The reference leaves its arguments as they were; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  θ_run_mono (Cert.ReferenceIdeal.Value.run m g) fun r h => ⟨fun c => (h c).2, sem_eq_zero_of_no_sems (by decide) r.2⟩

/-- The attention's result equals the reference's when the queries and the keys are finite. -/
theorem algebraic : Cert.algebraic_KernelIdeal_ReferenceIdeal_pre_finite_scores := by
  intro m g m' g' hpre hagree
  refine ⟨fun c => (Cert.KernelIdeal.Gen.dats m 0 c).arrAt 5 Cert.KernelIdeal.cfg0.N, ?_, ?_⟩
  · exact Cert.KernelIdeal.Value.run_blocks m g
  · refine θ_run_mono (Cert.ReferenceIdeal.Value.run m' g') fun r hr c => ?_
    obtain ⟨h, hargs⟩ := hr c
    refine ⟨h.trans ?_, hargs⟩
    obtain ⟨⟨q, hq⟩, ⟨kl, hk⟩, ⟨kc, hc⟩⟩ := Cert.KernelIdeal.Att.finite _ _ _ _ _ (hpre c)
    obtain ⟨e0, e1, e2, e3, e4⟩ := hagree c
    rw [e0, e1, e2, e3, e4]
    exact (Cert.KernelIdeal.Att.final m q kl kc c hq hk hc).symm

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_scores.Gen.facts, Cert.Pre_two_experts.Gen.facts,
    fun m g _ => Cert.Kernel.Gen.frame m g, fun m g _ => Cert.KernelIdeal.Gen.frame m g, fun m g _ => Cert.KernelIdeal.Gen.frame m g,
    fun m g _ => frame_reference m g, fun m g _ => frame_reference m g,
    Moe.frame_kernel, Moe.frame_ideal, Moe.frame_ideal_pre, Moe.frame_reference, Moe.frame_reference_pre,
    fun m g _ => Cert.Kernel3.Gen.frame m g, fun m g _ => Cert.Kernel3Ideal.Gen.frame m g, Cert.Kernel3Ideal.Prj.frame_reference,
    trivial, algebraic, trivial, Moe.algebraic, trivial, Cert.Kernel3Ideal.Prj.algebraic⟩

end Cert.Proof

end
